-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v31_0)) (v4 : (c : Dev Cert.KernelIdeal.nD) → Buf (Elt Ideal) ((c.tc : Thread Cert.KernelIdeal.nD Cert.KernelIdeal.τ).loc Cert.KernelIdeal.main_v35)) (v5 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v31_0) = v3 c
          ∧ r.2.mem ((c.tc : Thread Cert.KernelIdeal.nD Cert.KernelIdeal.τ).loc Cert.KernelIdeal.main_v35) = v4 c
          ∧ r.2.mem ((c.tc : Thread Cert.KernelIdeal.nD Cert.KernelIdeal.τ).loc Cert.KernelIdeal.main_v34) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v194) = v1 c
          ∧ r.2.mem ((c.tc : Thread Cert.ReferenceIdeal.nD Cert.ReferenceIdeal.τ).loc Cert.ReferenceIdeal.main_v204) = v2 c
          ∧ r.2.mem ((c.tc : Thread Cert.ReferenceIdeal.nD Cert.ReferenceIdeal.τ).loc Cert.ReferenceIdeal.main_v163) = v3 c
          ∧ r.2.mem ((c.tc : Thread Cert.ReferenceIdeal.nD Cert.ReferenceIdeal.τ).loc Cert.ReferenceIdeal.main_v180) = v4 c
          ∧ r.2.mem ((c.tc : Thread Cert.ReferenceIdeal.nD Cert.ReferenceIdeal.τ).loc Cert.ReferenceIdeal.main_v179) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x64x2048 : Shape := ⟨3, ![32, 64, 2048]⟩
abbrev S256x64x4 : Shape := ⟨3, ![256, 64, 4]⟩
abbrev S256 : Shape := ⟨1, ![256]⟩
abbrev S256x256x4 : Shape := ⟨3, ![256, 256, 4]⟩
abbrev S64x256x3 : Shape := ⟨3, ![64, 256, 3]⟩
abbrev S64 : Shape := ⟨1, ![64]⟩
abbrev S64x64x3 : Shape := ⟨3, ![64, 64, 3]⟩
abbrev S64x64x1 : Shape := ⟨3, ![64, 64, 1]⟩
abbrev S1024x64 : Shape := ⟨2, ![1024, 64]⟩
abbrev S_ : Shape := ⟨0, ![]⟩

class Facts : Prop where
  bcast_S_S32x64x2048 : S_.BroadcastsInDim S32x64x2048 (![] : Fin 0 → Fin S32x64x2048.rank)
  reducesTo_S32x64x2048_S_d0_1_2 : S32x64x2048.ReducesTo [0, 1, 2] S_
  h_S_ : 0 < S_.numel
  bcast_S_S256x64x4 : S_.BroadcastsInDim S256x64x4 (![] : Fin 0 → Fin S256x64x4.rank)
  reducesTo_S256x64x4_S_d0_1_2 : S256x64x4.ReducesTo [0, 1, 2] S_
  bcast_S_S256 : S_.BroadcastsInDim S256 (![] : Fin 0 → Fin S256.rank)
  reducesTo_S256_S_d0 : S256.ReducesTo [0] S_
  bcast_S_S256x256x4 : S_.BroadcastsInDim S256x256x4 (![] : Fin 0 → Fin S256x256x4.rank)
  reducesTo_S256x256x4_S_d0_1_2 : S256x256x4.ReducesTo [0, 1, 2] S_
  bcast_S_S64x256x3 : S_.BroadcastsInDim S64x256x3 (![] : Fin 0 → Fin S64x256x3.rank)
  reducesTo_S64x256x3_S_d0_1_2 : S64x256x3.ReducesTo [0, 1, 2] S_
  bcast_S_S64 : S_.BroadcastsInDim S64 (![] : Fin 0 → Fin S64.rank)
  reducesTo_S64_S_d0 : S64.ReducesTo [0] S_
  bcast_S_S64x64x3 : S_.BroadcastsInDim S64x64x3 (![] : Fin 0 → Fin S64x64x3.rank)
  reducesTo_S64x64x3_S_d0_1_2 : S64x64x3.ReducesTo [0, 1, 2] S_
  bcast_S_S64x64x1 : S_.BroadcastsInDim S64x64x1 (![] : Fin 0 → Fin S64x64x1.rank)
  reducesTo_S64x64x1_S_d0_1_2 : S64x64x1.ReducesTo [0, 1, 2] S_
  bcast_S_S1024x64 : S_.BroadcastsInDim S1024x64 (![] : Fin 0 → Fin S1024x64.rank)
  reducesTo_S1024x64_S_d0_1 : S1024x64.ReducesTo [0, 1] S_

variable [Facts]

def fn_part5 {F : FTy → Type} [FloatOps F] (main_arg17 : FVec F S1024x64 .f32) (main_v84 : IVec S_ 1) : IVec S_ 1 :=
  let main_v85 : FVec F S1024x64 .f32 := Host.absf main_arg17
  let main_cst_33 : FVec F S_ .f32 := constant S_ .f32 0x7F800000#32
  let main_v86 : FVec F S1024x64 .f32 := broadcastInDim S1024x64 ![] bcast_S_S1024x64 main_cst_33
  let main_v87 : IVec S1024x64 1 := cmpf .olt main_v85 main_v86
  let main_c_34 : IVec S_ 1 := constantI S_ 1 1#1
  let main_v88 : IVec S_ 1 := (fun x v => Host.reduce IntOp.andi x v reducesTo_S1024x64_S_d0_1 h_S_) main_v87 main_c_34
  let main_v89 : IVec S_ 1 := andi main_v84 main_v88
  main_v89

def fn_part4 {F : FTy → Type} [FloatOps F] (main_arg14 : FVec F S64 .f32) (main_arg15 : FVec F S64x64x1 .f32) (main_arg16 : FVec F S64 .f32) (main_arg17 : FVec F S1024x64 .f32) (main_v64 : IVec S_ 1) (main_v67 : IVec S64x64x1 1) : IVec S_ 1 :=
  let main_c_26 : IVec S_ 1 := constantI S_ 1 1#1
  let main_v68 : IVec S_ 1 := (fun x v => Host.reduce IntOp.andi x v reducesTo_S64x64x1_S_d0_1_2 h_S_) main_v67 main_c_26
  let main_v69 : IVec S_ 1 := andi main_v64 main_v68
  let main_v70 : FVec F S64 .f32 := Host.absf main_arg14
  let main_cst_27 : FVec F S_ .f32 := constant S_ .f32 0x7F800000#32
  let main_v71 : FVec F S64 .f32 := broadcastInDim S64 ![] bcast_S_S64 main_cst_27
  let main_v72 : IVec S64 1 := cmpf .olt main_v70 main_v71
  let main_c_28 : IVec S_ 1 := constantI S_ 1 1#1
  let main_v73 : IVec S_ 1 := (fun x v => Host.reduce IntOp.andi x v reducesTo_S64_S_d0 h_S_) main_v72 main_c_28
  let main_v74 : IVec S_ 1 := andi main_v69 main_v73
  let main_v75 : FVec F S64x64x1 .f32 := Host.absf main_arg15
  let main_cst_29 : FVec F S_ .f32 := constant S_ .f32 0x7F800000#32
  let main_v76 : FVec F S64x64x1 .f32 := broadcastInDim S64x64x1 ![] bcast_S_S64x64x1 main_cst_29
  let main_v77 : IVec S64x64x1 1 := cmpf .olt main_v75 main_v76
  let main_c_30 : IVec S_ 1 := constantI S_ 1 1#1
  let main_v78 : IVec S_ 1 := (fun x v => Host.reduce IntOp.andi x v reducesTo_S64x64x1_S_d0_1_2 h_S_) main_v77 main_c_30
  let main_v79 : IVec S_ 1 := andi main_v74 main_v78
  let main_v80 : FVec F S64 .f32 := Host.absf main_arg16
  let main_cst_31 : FVec F S_ .f32 := constant S_ .f32 0x7F800000#32
  let main_v81 : FVec F S64 .f32 := broadcastInDim S64 ![] bcast_S_S64 main_cst_31
  let main_v82 : IVec S64 1 := cmpf .olt main_v80 main_v81
  let main_c_32 : IVec S_ 1 := constantI S_ 1 1#1
  let main_v83 : IVec S_ 1 := (fun x v => Host.reduce IntOp.andi x v reducesTo_S64_S_d0 h_S_) main_v82 main_c_32
  let main_v84 : IVec S_ 1 := andi main_v79 main_v83
  fn_part5 (F := F) main_arg17 main_v84

def fn_part3 {F : FTy → Type} [FloatOps F] (main_arg11 : FVec F S64x64x3 .f32) (main_arg12 : FVec F S64 .f32) (main_arg13 : FVec F S64x64x1 .f32) (main_arg14 : FVec F S64 .f32) (main_arg15 : FVec F S64x64x1 .f32) (main_arg16 : FVec F S64 .f32) (main_arg17 : FVec F S1024x64 .f32) (main_v49 : IVec S_ 1) (main_v50 : FVec F S64 .f32) : IVec S_ 1 :=
  let main_cst_19 : FVec F S_ .f32 := constant S_ .f32 0x7F800000#32
  let main_v51 : FVec F S64 .f32 := broadcastInDim S64 ![] bcast_S_S64 main_cst_19
  let main_v52 : IVec S64 1 := cmpf .olt main_v50 main_v51
  let main_c_20 : IVec S_ 1 := constantI S_ 1 1#1
  let main_v53 : IVec S_ 1 := (fun x v => Host.reduce IntOp.andi x v reducesTo_S64_S_d0 h_S_) main_v52 main_c_20
  let main_v54 : IVec S_ 1 := andi main_v49 main_v53
  let main_v55 : FVec F S64x64x3 .f32 := Host.absf main_arg11
  let main_cst_21 : FVec F S_ .f32 := constant S_ .f32 0x7F800000#32
  let main_v56 : FVec F S64x64x3 .f32 := broadcastInDim S64x64x3 ![] bcast_S_S64x64x3 main_cst_21
  let main_v57 : IVec S64x64x3 1 := cmpf .olt main_v55 main_v56
  let main_c_22 : IVec S_ 1 := constantI S_ 1 1#1
  let main_v58 : IVec S_ 1 := (fun x v => Host.reduce IntOp.andi x v reducesTo_S64x64x3_S_d0_1_2 h_S_) main_v57 main_c_22
  let main_v59 : IVec S_ 1 := andi main_v54 main_v58
  let main_v60 : FVec F S64 .f32 := Host.absf main_arg12
  let main_cst_23 : FVec F S_ .f32 := constant S_ .f32 0x7F800000#32
  let main_v61 : FVec F S64 .f32 := broadcastInDim S64 ![] bcast_S_S64 main_cst_23
  let main_v62 : IVec S64 1 := cmpf .olt main_v60 main_v61
  let main_c_24 : IVec S_ 1 := constantI S_ 1 1#1
  let main_v63 : IVec S_ 1 := (fun x v => Host.reduce IntOp.andi x v reducesTo_S64_S_d0 h_S_) main_v62 main_c_24
  let main_v64 : IVec S_ 1 := andi main_v59 main_v63
  let main_v65 : FVec F S64x64x1 .f32 := Host.absf main_arg13
  let main_cst_25 : FVec F S_ .f32 := constant S_ .f32 0x7F800000#32
  let main_v66 : FVec F S64x64x1 .f32 := broadcastInDim S64x64x1 ![] bcast_S_S64x64x1 main_cst_25
  let main_v67 : IVec S64x64x1 1 := cmpf .olt main_v65 main_v66
  fn_part4 (F := F) main_arg14 main_arg15 main_arg16 main_arg17 main_v64 main_v67

def fn_part2 {F : FTy → Type} [FloatOps F] (main_arg7 : FVec F S64x64x3 .f32) (main_arg8 : FVec F S64 .f32) (main_arg9 : FVec F S64x64x1 .f32) (main_arg10 : FVec F S64 .f32) (main_arg11 : FVec F S64x64x3 .f32) (main_arg12 : FVec F S64 .f32) (main_arg13 : FVec F S64x64x1 .f32) (main_arg14 : FVec F S64 .f32) (main_arg15 : FVec F S64x64x1 .f32) (main_arg16 : FVec F S64 .f32) (main_arg17 : FVec F S1024x64 .f32) (main_v29 : IVec S_ 1) (main_v32 : IVec S64 1) (main_c_12 : IVec S_ 1) : IVec S_ 1 :=
  let main_v33 : IVec S_ 1 := (fun x v => Host.reduce IntOp.andi x v reducesTo_S64_S_d0 h_S_) main_v32 main_c_12
  let main_v34 : IVec S_ 1 := andi main_v29 main_v33
  let main_v35 : FVec F S64x64x3 .f32 := Host.absf main_arg7
  let main_cst_13 : FVec F S_ .f32 := constant S_ .f32 0x7F800000#32
  let main_v36 : FVec F S64x64x3 .f32 := broadcastInDim S64x64x3 ![] bcast_S_S64x64x3 main_cst_13
  let main_v37 : IVec S64x64x3 1 := cmpf .olt main_v35 main_v36
  let main_c_14 : IVec S_ 1 := constantI S_ 1 1#1
  let main_v38 : IVec S_ 1 := (fun x v => Host.reduce IntOp.andi x v reducesTo_S64x64x3_S_d0_1_2 h_S_) main_v37 main_c_14
  let main_v39 : IVec S_ 1 := andi main_v34 main_v38
  let main_v40 : FVec F S64 .f32 := Host.absf main_arg8
  let main_cst_15 : FVec F S_ .f32 := constant S_ .f32 0x7F800000#32
  let main_v41 : FVec F S64 .f32 := broadcastInDim S64 ![] bcast_S_S64 main_cst_15
  let main_v42 : IVec S64 1 := cmpf .olt main_v40 main_v41
  let main_c_16 : IVec S_ 1 := constantI S_ 1 1#1
  let main_v43 : IVec S_ 1 := (fun x v => Host.reduce IntOp.andi x v reducesTo_S64_S_d0 h_S_) main_v42 main_c_16
  let main_v44 : IVec S_ 1 := andi main_v39 main_v43
  let main_v45 : FVec F S64x64x1 .f32 := Host.absf main_arg9
  let main_cst_17 : FVec F S_ .f32 := constant S_ .f32 0x7F800000#32
  let main_v46 : FVec F S64x64x1 .f32 := broadcastInDim S64x64x1 ![] bcast_S_S64x64x1 main_cst_17
  let main_v47 : IVec S64x64x1 1 := cmpf .olt main_v45 main_v46
  let main_c_18 : IVec S_ 1 := constantI S_ 1 1#1
  let main_v48 : IVec S_ 1 := (fun x v => Host.reduce IntOp.andi x v reducesTo_S64x64x1_S_d0_1_2 h_S_) main_v47 main_c_18
  let main_v49 : IVec S_ 1 := andi main_v44 main_v48
  let main_v50 : FVec F S64 .f32 := Host.absf main_arg10
  fn_part3 (F := F) main_arg11 main_arg12 main_arg13 main_arg14 main_arg15 main_arg16 main_arg17 main_v49 main_v50

def fn_part1 {F : FTy → Type} [FloatOps F] (main_arg4 : FVec F S256 .f32) (main_arg5 : FVec F S64x256x3 .f32) (main_arg6 : FVec F S64 .f32) (main_arg7 : FVec F S64x64x3 .f32) (main_arg8 : FVec F S64 .f32) (main_arg9 : FVec F S64x64x1 .f32) (main_arg10 : FVec F S64 .f32) (main_arg11 : FVec F S64x64x3 .f32) (main_arg12 : FVec F S64 .f32) (main_arg13 : FVec F S64x64x1 .f32) (main_arg14 : FVec F S64 .f32) (main_arg15 : FVec F S64x64x1 .f32) (main_arg16 : FVec F S64 .f32) (main_arg17 : FVec F S1024x64 .f32) (main_v14 : IVec S_ 1) (main_v15 : FVec F S256x256x4 .f32) (main_cst_5 : FVec F S_ .f32) : IVec S_ 1 :=
  let main_v16 : FVec F S256x256x4 .f32 := broadcastInDim S256x256x4 ![] bcast_S_S256x256x4 main_cst_5
  let main_v17 : IVec S256x256x4 1 := cmpf .olt main_v15 main_v16
  let main_c_6 : IVec S_ 1 := constantI S_ 1 1#1
  let main_v18 : IVec S_ 1 := (fun x v => Host.reduce IntOp.andi x v reducesTo_S256x256x4_S_d0_1_2 h_S_) main_v17 main_c_6
  let main_v19 : IVec S_ 1 := andi main_v14 main_v18
  let main_v20 : FVec F S256 .f32 := Host.absf main_arg4
  let main_cst_7 : FVec F S_ .f32 := constant S_ .f32 0x7F800000#32
  let main_v21 : FVec F S256 .f32 := broadcastInDim S256 ![] bcast_S_S256 main_cst_7
  let main_v22 : IVec S256 1 := cmpf .olt main_v20 main_v21
  let main_c_8 : IVec S_ 1 := constantI S_ 1 1#1
  let main_v23 : IVec S_ 1 := (fun x v => Host.reduce IntOp.andi x v reducesTo_S256_S_d0 h_S_) main_v22 main_c_8
  let main_v24 : IVec S_ 1 := andi main_v19 main_v23
  let main_v25 : FVec F S64x256x3 .f32 := Host.absf main_arg5
  let main_cst_9 : FVec F S_ .f32 := constant S_ .f32 0x7F800000#32
  let main_v26 : FVec F S64x256x3 .f32 := broadcastInDim S64x256x3 ![] bcast_S_S64x256x3 main_cst_9
  let main_v27 : IVec S64x256x3 1 := cmpf .olt main_v25 main_v26
  let main_c_10 : IVec S_ 1 := constantI S_ 1 1#1
  let main_v28 : IVec S_ 1 := (fun x v => Host.reduce IntOp.andi x v reducesTo_S64x256x3_S_d0_1_2 h_S_) main_v27 main_c_10
  let main_v29 : IVec S_ 1 := andi main_v24 main_v28
  let main_v30 : FVec F S64 .f32 := Host.absf main_arg6
  let main_cst_11 : FVec F S_ .f32 := constant S_ .f32 0x7F800000#32
  let main_v31 : FVec F S64 .f32 := broadcastInDim S64 ![] bcast_S_S64 main_cst_11
  let main_v32 : IVec S64 1 := cmpf .olt main_v30 main_v31
  let main_c_12 : IVec S_ 1 := constantI S_ 1 1#1
  fn_part2 (F := F) main_arg7 main_arg8 main_arg9 main_arg10 main_arg11 main_arg12 main_arg13 main_arg14 main_arg15 main_arg16 main_arg17 main_v29 main_v32 main_c_12

def fn {F : FTy → Type} [FloatOps F] (main_arg0 : FVec F S32x64x2048 .f32) (main_arg1 : FVec F S256x64x4 .f32) (main_arg2 : FVec F S256 .f32) (main_arg3 : FVec F S256x256x4 .f32) (main_arg4 : FVec F S256 .f32) (main_arg5 : FVec F S64x256x3 .f32) (main_arg6 : FVec F S64 .f32) (main_arg7 : FVec F S64x64x3 .f32) (main_arg8 : FVec F S64 .f32) (main_arg9 : FVec F S64x64x1 .f32) (main_arg10 : FVec F S64 .f32) (main_arg11 : FVec F S64x64x3 .f32) (main_arg12 : FVec F S64 .f32) (main_arg13 : FVec F S64x64x1 .f32) (main_arg14 : FVec F S64 .f32) (main_arg15 : FVec F S64x64x1 .f32) (main_arg16 : FVec F S64 .f32) (main_arg17 : FVec F S1024x64 .f32) : IVec S_ 1 :=
  let main_v0 : FVec F S32x64x2048 .f32 := Host.absf main_arg0
  let main_cst : FVec F S_ .f32 := constant S_ .f32 0x7F800000#32
  let main_v1 : FVec F S32x64x2048 .f32 := broadcastInDim S32x64x2048 ![] bcast_S_S32x64x2048 main_cst
  let main_v2 : IVec S32x64x2048 1 := cmpf .olt main_v0 main_v1
  let main_c : IVec S_ 1 := constantI S_ 1 1#1
  let main_v3 : IVec S_ 1 := (fun x v => Host.reduce IntOp.andi x v reducesTo_S32x64x2048_S_d0_1_2 h_S_) main_v2 main_c
  let main_c_0 : IVec S_ 1 := constantI S_ 1 1#1
  let main_v4 : IVec S_ 1 := andi main_c_0 main_v3
  let main_v5 : FVec F S256x64x4 .f32 := Host.absf main_arg1
  let main_cst_1 : FVec F S_ .f32 := constant S_ .f32 0x7F800000#32
  let main_v6 : FVec F S256x64x4 .f32 := broadcastInDim S256x64x4 ![] bcast_S_S256x64x4 main_cst_1
  let main_v7 : IVec S256x64x4 1 := cmpf .olt main_v5 main_v6
  let main_c_2 : IVec S_ 1 := constantI S_ 1 1#1
  let main_v8 : IVec S_ 1 := (fun x v => Host.reduce IntOp.andi x v reducesTo_S256x64x4_S_d0_1_2 h_S_) main_v7 main_c_2
  let main_v9 : IVec S_ 1 := andi main_v4 main_v8
  let main_v10 : FVec F S256 .f32 := Host.absf main_arg2
  let main_cst_3 : FVec F S_ .f32 := constant S_ .f32 0x7F800000#32
  let main_v11 : FVec F S256 .f32 := broadcastInDim S256 ![] bcast_S_S256 main_cst_3
  let main_v12 : IVec S256 1 := cmpf .olt main_v10 main_v11
  let main_c_4 : IVec S_ 1 := constantI S_ 1 1#1
  let main_v13 : IVec S_ 1 := (fun x v => Host.reduce IntOp.andi x v reducesTo_S256_S_d0 h_S_) main_v12 main_c_4
  let main_v14 : IVec S_ 1 := andi main_v9 main_v13
  let main_v15 : FVec F S256x256x4 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_arg14 main_arg15 main_arg16 main_arg17 main_v14 main_v15 main_cst_5
-- ==== Kernel.lean ====
abbrev S32x64x2048 : Shape := ⟨3, ![32, 64, 2048]⟩
abbrev S256x64x4 : Shape := ⟨3, ![256, 64, 4]⟩
abbrev S256 : Shape := ⟨1, ![256]⟩
abbrev S256x256x4 : Shape := ⟨3, ![256, 256, 4]⟩
abbrev S64x256x3 : Shape := ⟨3, ![64, 256, 3]⟩
abbrev S64 : Shape := ⟨1, ![64]⟩
abbrev S64x64x3 : Shape := ⟨3, ![64, 64, 3]⟩
abbrev S64x64x1 : Shape := ⟨3, ![64, 64, 1]⟩
abbrev S1024x64 : Shape := ⟨2, ![1024, 64]⟩
abbrev S32x2048x64 : Shape := ⟨3, ![32, 2048, 64]⟩
abbrev S_ : Shape := ⟨0, ![]⟩
abbrev S32x2050x64 : Shape := ⟨3, ![32, 2050, 64]⟩
abbrev S32x512x256 : Shape := ⟨3, ![32, 512, 256]⟩
abbrev S4x64x256 : Shape := ⟨3, ![4, 64, 256]⟩
abbrev S256x256 : Shape := ⟨2, ![256, 256]⟩
abbrev S4x256x256 : Shape := ⟨3, ![4, 256, 256]⟩
abbrev S1024x256 : Shape := ⟨2, ![1024, 256]⟩
abbrev S3x256x64 : Shape := ⟨3, ![3, 256, 64]⟩
abbrev S768x64 : Shape := ⟨2, ![768, 64]⟩
abbrev S3x64x64 : Shape := ⟨3, ![3, 64, 64]⟩
abbrev S192x64 : Shape := ⟨2, ![192, 64]⟩
abbrev S64x64 : Shape := ⟨2, ![64, 64]⟩
abbrev S64x1024 : Shape := ⟨2, ![64, 1024]⟩
abbrev S1x256 : Shape := ⟨2, ![1, 256]⟩
abbrev S1x64 : Shape := ⟨2, ![1, 64]⟩
abbrev S32x512x64 : Shape := ⟨3, ![32, 512, 64]⟩
abbrev S32x512x1024 : Shape := ⟨3, ![32, 512, 1024]⟩
abbrev S32x512x1 : Shape := ⟨3, ![32, 512, 1]⟩
abbrev S1x1 : Shape := ⟨2, ![1, 1]⟩
abbrev S1x512x256 : Shape := ⟨3, ![1, 512, 256]⟩
abbrev S1x512x64 : Shape := ⟨3, ![1, 512, 64]⟩
abbrev S1x512x1024 : Shape := ⟨3, ![1, 512, 1024]⟩
abbrev S1x512x1 : Shape := ⟨3, ![1, 512, 1]⟩
abbrev S1x1024 : Shape := ⟨2, ![1, 1024]⟩
abbrev S512x256 : Shape := ⟨2, ![512, 256]⟩
abbrev S511x256 : Shape := ⟨2, ![511, 256]⟩
abbrev S256x64 : Shape := ⟨2, ![256, 64]⟩
abbrev S512x64 : Shape := ⟨2, ![512, 64]⟩
abbrev S511x64 : Shape := ⟨2, ![511, 64]⟩
abbrev S512 : Shape := ⟨1, ![512]⟩
abbrev S512x1 : Shape := ⟨2, ![512, 1]⟩
abbrev S1024 : Shape := ⟨1, ![1024]⟩
abbrev S512x1024 : Shape := ⟨2, ![512, 1024]⟩
abbrev S1 : Shape := ⟨1, ![1]⟩
abbrev S1x1x1 : Shape := ⟨3, ![1, 1, 1]⟩
abbrev S1x1x1024 : Shape := ⟨3, ![1, 1, 1024]⟩
abbrev S16384 : Shape := ⟨1, ![16384]⟩
abbrev S16384x1024 : Shape := ⟨2, ![16384, 1024]⟩

abbrev nBuf : Space → Nat
  | .hbm => 61
  | .vmem => 33
  | .smem => 0
  | _ => 0

abbrev bufTy : (tb : Table) → Fin (tcTables nBuf tb) → BufTy
  | .hbm, ⟨0, _⟩ => ⟨S32x64x2048, .f32⟩
  | .hbm, ⟨1, _⟩ => ⟨S256x64x4, .f32⟩
  | .hbm, ⟨2, _⟩ => ⟨S256, .f32⟩
  | .hbm, ⟨3, _⟩ => ⟨S256x256x4, .f32⟩
  | .hbm, ⟨4, _⟩ => ⟨S256, .f32⟩
  | .hbm, ⟨5, _⟩ => ⟨S64x256x3, .f32⟩
  | .hbm, ⟨6, _⟩ => ⟨S64, .f32⟩
  | .hbm, ⟨7, _⟩ => ⟨S64x64x3, .f32⟩
  | .hbm, ⟨8, _⟩ => ⟨S64, .f32⟩
  | .hbm, ⟨9, _⟩ => ⟨S64x64x1, .f32⟩
  | .hbm, ⟨10, _⟩ => ⟨S64, .f32⟩
  | .hbm, ⟨11, _⟩ => ⟨S64x64x3, .f32⟩
  | .hbm, ⟨12, _⟩ => ⟨S64, .f32⟩
  | .hbm, ⟨13, _⟩ => ⟨S64x64x1, .f32⟩
  | .hbm, ⟨14, _⟩ => ⟨S64, .f32⟩
  | .hbm, ⟨15, _⟩ => ⟨S64x64x1, .f32⟩
  | .hbm, ⟨16, _⟩ => ⟨S64, .f32⟩
  | .hbm, ⟨17, _⟩ => ⟨S1024x64, .f32⟩
  | .hbm, ⟨18, _⟩ => ⟨S32x2048x64, .f32⟩
  | .hbm, ⟨19, _⟩ => ⟨S_, .i32⟩
  | .hbm, ⟨20, _⟩ => ⟨S_, .f32⟩
  | .hbm, ⟨21, _⟩ => ⟨S32x2050x64, .f32⟩
  | .hbm, ⟨22, _⟩ => ⟨S32x2048x64, .f32⟩
  | .hbm, ⟨23, _⟩ => ⟨S32x512x256, .f32⟩
  | .hbm, ⟨24, _⟩ => ⟨S32x2048x64, .f32⟩
  | .hbm, ⟨25, _⟩ => ⟨S32x512x256, .f32⟩
  | .hbm, ⟨26, _⟩ => ⟨S4x64x256, .f32⟩
  | .hbm, ⟨27, _⟩ => ⟨S256x256, .f32⟩
  | .hbm, ⟨28, _⟩ => ⟨S4x256x256, .f32⟩
  | .hbm, ⟨29, _⟩ => ⟨S1024x256, .f32⟩
  | .hbm, ⟨30, _⟩ => ⟨S3x256x64, .f32⟩
  | .hbm, ⟨31, _⟩ => ⟨S768x64, .f32⟩
  | .hbm, ⟨32, _⟩ => ⟨S3x64x64, .f32⟩
  | .hbm, ⟨33, _⟩ => ⟨S192x64, .f32⟩
  | .hbm, ⟨34, _⟩ => ⟨S3x64x64, .f32⟩
  | .hbm, ⟨35, _⟩ => ⟨S192x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x1024, .f32⟩
  | .hbm, ⟨43, _⟩ => ⟨S1x256, .f32⟩
  | .hbm, ⟨44, _⟩ => ⟨S1x256, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S32x512x64, .f32⟩
  | .hbm, ⟨52, _⟩ => ⟨S32x512x64, .f32⟩
  | .hbm, ⟨53, _⟩ => ⟨S32x512x1024, .f32⟩
  | .hbm, ⟨54, _⟩ => ⟨S32x512x1, .i32⟩
  | .hbm, ⟨55, _⟩ => ⟨S1x1, .f32⟩
  | .hbm, ⟨56, _⟩ => ⟨S1x1, .f32⟩
  | .hbm, ⟨57, _⟩ => ⟨S_, .f32⟩
  | .hbm, ⟨58, _⟩ => ⟨S_, .f32⟩
  | .hbm, ⟨59, _⟩ => ⟨S16384, .i32⟩
  | .hbm, ⟨60, _⟩ => ⟨S16384x1024, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S256x256, .f32⟩
  | .local _ .vmem, ⟨5, _⟩ => ⟨S1024x256, .f32⟩
  | .local _ .vmem, ⟨6, _⟩ => ⟨S768x64, .f32⟩
  | .local _ .vmem, ⟨7, _⟩ => ⟨S192x64, .f32⟩
  | .local _ .vmem, ⟨8, _⟩ => ⟨S64x64, .f32⟩
  | .local _ .vmem, ⟨9, _⟩ => ⟨S192x64, .f32⟩
  | .local _ .vmem, ⟨10, _⟩ => ⟨S64x64, .f32⟩
  | .local _ .vmem, ⟨11, _⟩ => ⟨S64x64, .f32⟩
  | .local _ .vmem, ⟨12, _⟩ => ⟨S64x1024, .f32⟩
  | .local _ .vmem, ⟨13, _⟩ => ⟨S1024x64, .f32⟩
  | .local _ .vmem, ⟨14, _⟩ => ⟨S1x256, .f32⟩
  | .local _ .vmem, ⟨15, _⟩ => ⟨S1x256, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x512x64, .f32⟩
  | .local _ .vmem, ⟨23, _⟩ => ⟨S1x512x64, .f32⟩
  | .local _ .vmem, ⟨24, _⟩ => ⟨S1x512x64, .f32⟩
  | .local _ .vmem, ⟨25, _⟩ => ⟨S1x512x64, .f32⟩
  | .local _ .vmem, ⟨26, _⟩ => ⟨S1x512x1024, .f32⟩
  | .local _ .vmem, ⟨27, _⟩ => ⟨S1x512x1024, .f32⟩
  | .local _ .vmem, ⟨28, _⟩ => ⟨S1x512x1, .i32⟩
  | .local _ .vmem, ⟨29, _⟩ => ⟨S1x512x1, .i32⟩
  | .local _ .vmem, ⟨30, _⟩ => ⟨S1x1, .f32⟩
  | .local _ .vmem, ⟨31, _⟩ => ⟨S1x1, .f32⟩
  | .local _ .vmem, ⟨32, _⟩ => ⟨S1x1024, .f32⟩
  | _, _ => ⟨S32x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev main_v31_2 : Ref sig .tc := ⟨.hbm, 53, rfl⟩
abbrev main_v31_3 : Ref sig .tc := ⟨.hbm, 54, rfl⟩
abbrev main_v31_4 : Ref sig .tc := ⟨.hbm, 55, rfl⟩
abbrev main_v31_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg25_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29
abbrev cc0_sem24_0 : DmaSem sig := 30
abbrev cc0_sem25_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x512x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x512x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x512x1 .i32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S1x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ReferenceIdeal.lean ====
abbrev S32x64x2048 : Shape := ⟨3, ![32, 64, 2048]⟩
abbrev S256x64x4 : Shape := ⟨3, ![256, 64, 4]⟩
abbrev S256 : Shape := ⟨1, ![256]⟩
abbrev S256x256x4 : Shape := ⟨3, ![256, 256, 4]⟩
abbrev S64x256x3 : Shape := ⟨3, ![64, 256, 3]⟩
abbrev S64 : Shape := ⟨1, ![64]⟩
abbrev S64x64x3 : Shape := ⟨3, ![64, 64, 3]⟩
abbrev S64x64x1 : Shape := ⟨3, ![64, 64, 1]⟩
abbrev S1024x64 : Shape := ⟨2, ![1024, 64]⟩
abbrev S_ : Shape := ⟨0, ![]⟩
abbrev S32x64x2050 : Shape := ⟨3, ![32, 64, 2050]⟩
abbrev S32x64x1024 : Shape := ⟨3, ![32, 64, 1024]⟩
abbrev S256x64x1 : Shape := ⟨3, ![256, 64, 1]⟩
abbrev S256x64 : Shape := ⟨2, ![256, 64]⟩
abbrev S256x32x1024 : Shape := ⟨3, ![256, 32, 1024]⟩
abbrev S32x256x1024 : Shape := ⟨3, ![32, 256, 1024]⟩
abbrev S1x256x1 : Shape := ⟨3, ![1, 256, 1]⟩
abbrev S32x256x1026 : Shape := ⟨3, ![32, 256, 1026]⟩
abbrev S32x256x512 : Shape := ⟨3, ![32, 256, 512]⟩
abbrev S256x256x1 : Shape := ⟨3, ![256, 256, 1]⟩
abbrev S256x256 : Shape := ⟨2, ![256, 256]⟩
abbrev S256x32x512 : Shape := ⟨3, ![256, 32, 512]⟩
abbrev S32x256x514 : Shape := ⟨3, ![32, 256, 514]⟩
abbrev S64x256x1 : Shape := ⟨3, ![64, 256, 1]⟩
abbrev S64x256 : Shape := ⟨2, ![64, 256]⟩
abbrev S64x32x512 : Shape := ⟨3, ![64, 32, 512]⟩
abbrev S32x64x512 : Shape := ⟨3, ![32, 64, 512]⟩
abbrev S1x64x1 : Shape := ⟨3, ![1, 64, 1]⟩
abbrev S32x64x514 : Shape := ⟨3, ![32, 64, 514]⟩
abbrev S64x64 : Shape := ⟨2, ![64, 64]⟩
abbrev S32x512x64 : Shape := ⟨3, ![32, 512, 64]⟩
abbrev S16384x64 : Shape := ⟨2, ![16384, 64]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩

abbrev nBuf : Space → Nat
  | .hbm => 282
  | .vmem => 0
  | .smem => 0
  | _ => 0

abbrev hbmTy0_0 (i : Nat) : BufTy := match i % 128 with
  | 0 => ⟨S32x64x2048, .f32⟩
  | 1 => ⟨S256x64x4, .f32⟩
  | 2 => ⟨S256, .f32⟩
  | 3 => ⟨S256x256x4, .f32⟩
  | 4 => ⟨S256, .f32⟩
  | 5 => ⟨S64x256x3, .f32⟩
  | 6 => ⟨S64, .f32⟩
  | 7 => ⟨S64x64x3, .f32⟩
  | 8 => ⟨S64, .f32⟩
  | 9 => ⟨S64x64x1, .f32⟩
  | 10 => ⟨S64, .f32⟩
  | 11 => ⟨S64x64x3, .f32⟩
  | 12 => ⟨S64, .f32⟩
  | 13 => ⟨S64x64x1, .f32⟩
  | 14 => ⟨S64, .f32⟩
  | 15 => ⟨S64x64x1, .f32⟩
  | 16 => ⟨S64, .f32⟩
  | 17 => ⟨S1024x64, .f32⟩
  | 18 => ⟨S_, .i32⟩
  | 19 => ⟨S_, .f32⟩
  | 20 => ⟨S32x64x2050, .f32⟩
  | 21 => ⟨S32x64x1024, .f32⟩
  | 22 => ⟨S256x64x1, .f32⟩
  | 23 => ⟨S256x64, .f32⟩
  | 24 => ⟨S256x32x1024, .f32⟩
  | 25 => ⟨S32x256x1024, .f32⟩
  | 26 => ⟨S_, .f32⟩
  | 27 => ⟨S32x256x1024, .f32⟩
  | 28 => ⟨S32x256x1024, .f32⟩
  | 29 => ⟨S32x64x1024, .f32⟩
  | 30 => ⟨S256x64x1, .f32⟩
  | 31 => ⟨S256x64, .f32⟩
  | 32 => ⟨S256x32x1024, .f32⟩
  | 33 => ⟨S32x256x1024, .f32⟩
  | 34 => ⟨S32x256x1024, .f32⟩
  | 35 => ⟨S32x64x1024, .f32⟩
  | 36 => ⟨S256x64x1, .f32⟩
  | 37 => ⟨S256x64, .f32⟩
  | 38 => ⟨S256x32x1024, .f32⟩
  | 39 => ⟨S32x256x1024, .f32⟩
  | 40 => ⟨S32x256x1024, .f32⟩
  | 41 => ⟨S32x64x1024, .f32⟩
  | 42 => ⟨S256x64x1, .f32⟩
  | 43 => ⟨S256x64, .f32⟩
  | 44 => ⟨S256x32x1024, .f32⟩
  | 45 => ⟨S32x256x1024, .f32⟩
  | 46 => ⟨S32x256x1024, .f32⟩
  | 47 => ⟨S1x256x1, .f32⟩
  | 48 => ⟨S32x256x1024, .f32⟩
  | 49 => ⟨S32x256x1024, .f32⟩
  | 50 => ⟨S_, .f32⟩
  | 51 => ⟨S32x256x1024, .f32⟩
  | 52 => ⟨S32x256x1024, .f32⟩
  | 53 => ⟨S_, .i32⟩
  | 54 => ⟨S_, .f32⟩
  | 55 => ⟨S32x256x1026, .f32⟩
  | 56 => ⟨S32x256x512, .f32⟩
  | 57 => ⟨S256x256x1, .f32⟩
  | 58 => ⟨S256x256, .f32⟩
  | 59 => ⟨S256x32x512, .f32⟩
  | 60 => ⟨S32x256x512, .f32⟩
  | 61 => ⟨S_, .f32⟩
  | 62 => ⟨S32x256x512, .f32⟩
  | 63 => ⟨S32x256x512, .f32⟩
  | 64 => ⟨S32x256x512, .f32⟩
  | 65 => ⟨S256x256x1, .f32⟩
  | 66 => ⟨S256x256, .f32⟩
  | 67 => ⟨S256x32x512, .f32⟩
  | 68 => ⟨S32x256x512, .f32⟩
  | 69 => ⟨S32x256x512, .f32⟩
  | 70 => ⟨S32x256x512, .f32⟩
  | 71 => ⟨S256x256x1, .f32⟩
  | 72 => ⟨S256x256, .f32⟩
  | 73 => ⟨S256x32x512, .f32⟩
  | 74 => ⟨S32x256x512, .f32⟩
  | 75 => ⟨S32x256x512, .f32⟩
  | 76 => ⟨S32x256x512, .f32⟩
  | 77 => ⟨S256x256x1, .f32⟩
  | 78 => ⟨S256x256, .f32⟩
  | 79 => ⟨S256x32x512, .f32⟩
  | 80 => ⟨S32x256x512, .f32⟩
  | 81 => ⟨S32x256x512, .f32⟩
  | 82 => ⟨S1x256x1, .f32⟩
  | 83 => ⟨S32x256x512, .f32⟩
  | 84 => ⟨S32x256x512, .f32⟩
  | 85 => ⟨S_, .f32⟩
  | 86 => ⟨S32x256x512, .f32⟩
  | 87 => ⟨S32x256x512, .f32⟩
  | 88 => ⟨S_, .i32⟩
  | 89 => ⟨S_, .f32⟩
  | 90 => ⟨S32x256x514, .f32⟩
  | 91 => ⟨S32x256x512, .f32⟩
  | 92 => ⟨S64x256x1, .f32⟩
  | 93 => ⟨S64x256, .f32⟩
  | 94 => ⟨S64x32x512, .f32⟩
  | 95 => ⟨S32x64x512, .f32⟩
  | 96 => ⟨S_, .f32⟩
  | 97 => ⟨S32x64x512, .f32⟩
  | 98 => ⟨S32x64x512, .f32⟩
  | 99 => ⟨S32x256x512, .f32⟩
  | 100 => ⟨S64x256x1, .f32⟩
  | 101 => ⟨S64x256, .f32⟩
  | 102 => ⟨S64x32x512, .f32⟩
  | 103 => ⟨S32x64x512, .f32⟩
  | 104 => ⟨S32x64x512, .f32⟩
  | 105 => ⟨S32x256x512, .f32⟩
  | 106 => ⟨S64x256x1, .f32⟩
  | 107 => ⟨S64x256, .f32⟩
  | 108 => ⟨S64x32x512, .f32⟩
  | 109 => ⟨S32x64x512, .f32⟩
  | 110 => ⟨S32x64x512, .f32⟩
  | 111 => ⟨S1x64x1, .f32⟩
  | 112 => ⟨S32x64x512, .f32⟩
  | 113 => ⟨S32x64x512, .f32⟩
  | 114 => ⟨S_, .f32⟩
  | 115 => ⟨S32x64x512, .f32⟩
  | 116 => ⟨S32x64x512, .f32⟩
  | 117 => ⟨S_, .i32⟩
  | 118 => ⟨S_, .f32⟩
  | 119 => ⟨S32x64x514, .f32⟩
  | 120 => ⟨S32x64x512, .f32⟩
  | 121 => ⟨S64x64x1, .f32⟩
  | 122 => ⟨S64x64, .f32⟩
  | 123 => ⟨S64x32x512, .f32⟩
  | 124 => ⟨S32x64x512, .f32⟩
  | 125 => ⟨S_, .f32⟩
  | 126 => ⟨S32x64x512, .f32⟩
  | 127 => ⟨S32x64x512, .f32⟩
  | _ => ⟨S32x64x2048, .f32⟩

abbrev hbmTy0_1 (i : Nat) : BufTy := match i % 128 with
  | 0 => ⟨S32x64x512, .f32⟩
  | 1 => ⟨S64x64x1, .f32⟩
  | 2 => ⟨S64x64, .f32⟩
  | 3 => ⟨S64x32x512, .f32⟩
  | 4 => ⟨S32x64x512, .f32⟩
  | 5 => ⟨S32x64x512, .f32⟩
  | 6 => ⟨S32x64x512, .f32⟩
  | 7 => ⟨S64x64x1, .f32⟩
  | 8 => ⟨S64x64, .f32⟩
  | 9 => ⟨S64x32x512, .f32⟩
  | 10 => ⟨S32x64x512, .f32⟩
  | 11 => ⟨S32x64x512, .f32⟩
  | 12 => ⟨S1x64x1, .f32⟩
  | 13 => ⟨S32x64x512, .f32⟩
  | 14 => ⟨S32x64x512, .f32⟩
  | 15 => ⟨S_, .f32⟩
  | 16 => ⟨S32x64x512, .f32⟩
  | 17 => ⟨S32x64x512, .f32⟩
  | 18 => ⟨S_, .i32⟩
  | 19 => ⟨S_, .f32⟩
  | 20 => ⟨S32x64x512, .f32⟩
  | 21 => ⟨S64x64, .f32⟩
  | 22 => ⟨S64x32x512, .f32⟩
  | 23 => ⟨S32x64x512, .f32⟩
  | 24 => ⟨S_, .f32⟩
  | 25 => ⟨S32x64x512, .f32⟩
  | 26 => ⟨S32x64x512, .f32⟩
  | 27 => ⟨S1x64x1, .f32⟩
  | 28 => ⟨S32x64x512, .f32⟩
  | 29 => ⟨S32x64x512, .f32⟩
  | 30 => ⟨S32x64x512, .f32⟩
  | 31 => ⟨S_, .f32⟩
  | 32 => ⟨S32x64x512, .f32⟩
  | 33 => ⟨S32x64x512, .f32⟩
  | 34 => ⟨S_, .i32⟩
  | 35 => ⟨S_, .f32⟩
  | 36 => ⟨S32x64x514, .f32⟩
  | 37 => ⟨S32x64x512, .f32⟩
  | 38 => ⟨S64x64x1, .f32⟩
  | 39 => ⟨S64x64, .f32⟩
  | 40 => ⟨S64x32x512, .f32⟩
  | 41 => ⟨S32x64x512, .f32⟩
  | 42 => ⟨S_, .f32⟩
  | 43 => ⟨S32x64x512, .f32⟩
  | 44 => ⟨S32x64x512, .f32⟩
  | 45 => ⟨S32x64x512, .f32⟩
  | 46 => ⟨S64x64x1, .f32⟩
  | 47 => ⟨S64x64, .f32⟩
  | 48 => ⟨S64x32x512, .f32⟩
  | 49 => ⟨S32x64x512, .f32⟩
  | 50 => ⟨S32x64x512, .f32⟩
  | 51 => ⟨S32x64x512, .f32⟩
  | 52 => ⟨S64x64x1, .f32⟩
  | 53 => ⟨S64x64, .f32⟩
  | 54 => ⟨S64x32x512, .f32⟩
  | 55 => ⟨S32x64x512, .f32⟩
  | 56 => ⟨S32x64x512, .f32⟩
  | 57 => ⟨S1x64x1, .f32⟩
  | 58 => ⟨S32x64x512, .f32⟩
  | 59 => ⟨S32x64x512, .f32⟩
  | 60 => ⟨S_, .f32⟩
  | 61 => ⟨S32x64x512, .f32⟩
  | 62 => ⟨S32x64x512, .f32⟩
  | 63 => ⟨S_, .i32⟩
  | 64 => ⟨S_, .f32⟩
  | 65 => ⟨S32x64x512, .f32⟩
  | 66 => ⟨S64x64, .f32⟩
  | 67 => ⟨S64x32x512, .f32⟩
  | 68 => ⟨S32x64x512, .f32⟩
  | 69 => ⟨S_, .f32⟩
  | 70 => ⟨S32x64x512, .f32⟩
  | 71 => ⟨S32x64x512, .f32⟩
  | 72 => ⟨S1x64x1, .f32⟩
  | 73 => ⟨S32x64x512, .f32⟩
  | 74 => ⟨S32x64x512, .f32⟩
  | 75 => ⟨S32x64x512, .f32⟩
  | 76 => ⟨S_, .f32⟩
  | 77 => ⟨S32x64x512, .f32⟩
  | 78 => ⟨S32x64x512, .f32⟩
  | 79 => ⟨S_, .i32⟩
  | 80 => ⟨S_, .f32⟩
  | 81 => ⟨S32x64x512, .f32⟩
  | 82 => ⟨S64x64, .f32⟩
  | 83 => ⟨S64x32x512, .f32⟩
  | 84 => ⟨S32x64x512, .f32⟩
  | 85 => ⟨S_, .f32⟩
  | 86 => ⟨S32x64x512, .f32⟩
  | 87 => ⟨S32x64x512, .f32⟩
  | 88 => ⟨S1x64x1, .f32⟩
  | 89 => ⟨S32x64x512, .f32⟩
  | 90 => ⟨S32x64x512, .f32⟩
  | 91 => ⟨S32x512x64, .f32⟩
  | 92 => ⟨S16384x64, .f32⟩
  | 93 => ⟨S16384x64, .f32⟩
  | 94 => ⟨S_, .f32⟩
  | 95 => ⟨S16384, .f32⟩
  | 96 => ⟨S16384x1, .f32⟩
  | 97 => ⟨S1024x64, .f32⟩
  | 98 => ⟨S_, .f32⟩
  | 99 => ⟨S1024, .f32⟩
  | 100 => ⟨S1x1024, .f32⟩
  | 101 => ⟨S16384x1024, .f32⟩
  | 102 => ⟨S16384x1024, .f32⟩
  | 103 => ⟨S16384x1024, .f32⟩
  | 104 => ⟨S64x1024, .f32⟩
  | 105 => ⟨S16384x1024, .f32⟩
  | 106 => ⟨S_, .f32⟩
  | 107 => ⟨S16384x1024, .f32⟩
  | 108 => ⟨S16384x1024, .f32⟩
  | 109 => ⟨S16384x1024, .f32⟩
  | 110 => ⟨S16384x1024, .i32⟩
  | 111 => ⟨S_, .f32⟩
  | 112 => ⟨S_, .i32⟩
  | 113 => ⟨S16384, .f32⟩
  | 114 => ⟨S16384, .i32⟩
  | 115 => ⟨S16384x1, .i32⟩
  | 116 => ⟨S1x1024, .i32⟩
  | 117 => ⟨S16384x1024, .i32⟩
  | 118 => ⟨S16384x1024, .i32⟩
  | 119 => ⟨S16384x1024, .i1⟩
  | 120 => ⟨S16384x1024, .f32⟩
  | 121 => ⟨S16384x64, .f32⟩
  | 122 => ⟨S32x512x64, .f32⟩
  | 123 => ⟨S32x512x64, .f32⟩
  | 124 => ⟨S32x512x64, .f32⟩
  | 125 => ⟨S_, .f32⟩
  | 126 => ⟨S_, .f32⟩
  | 127 => ⟨S_, .f32⟩
  | _ => ⟨S32x64x2048, .f32⟩

abbrev hbmTy0_2 (i : Nat) : BufTy := match i % 128 with
  | 0 => ⟨S_, .f32⟩
  | 1 => ⟨S32x512x64, .f32⟩
  | 2 => ⟨S32x512x64, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S32x512x64, .f32⟩
  | 11 => ⟨S32x512x64, .f32⟩
  | 12 => ⟨S_, .f32⟩
  | 13 => ⟨S1024, .f32⟩
  | 14 => ⟨S_, .f32⟩
  | 15 => ⟨S1024, .f32⟩
  | 16 => ⟨S1024, .f32⟩
  | 17 => ⟨S_, .f32⟩
  | 18 => ⟨S1024, .f32⟩
  | 19 => ⟨S1024, .f32⟩
  | 20 => ⟨S1024, .f32⟩
  | 21 => ⟨S1024, .f32⟩
  | 22 => ⟨S_, .f32⟩
  | 23 => ⟨S_, .f32⟩
  | 24 => ⟨S_, .f32⟩
  | 25 => ⟨S_, .f32⟩
  | _ => ⟨S32x64x2048, .f32⟩

abbrev hbmTy (i : Nat) : BufTy := match i / 128 with
  | 0 => hbmTy0_0 i
  | 1 => hbmTy0_1 i
  | 2 => hbmTy0_2 i
  | _ => ⟨S32x64x2048, .f32⟩

abbrev bufTy : (tb : Table) → Fin (tcTables nBuf tb) → BufTy
  | .hbm, ⟨i, _⟩ => hbmTy i
  | _, _ => ⟨S32x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_call0_v0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_cst : Ref sig .tc := ⟨.hbm, 50, rfl⟩
abbrev main_call1_v0 : Ref sig .tc := ⟨.hbm, 51, rfl⟩
abbrev main_v29 : Ref sig .tc := ⟨.hbm, 52, rfl⟩
abbrev main_c_0 : Ref sig .tc := ⟨.hbm, 53, rfl⟩
abbrev main_call2_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_1 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call3_cst : Ref sig .tc := ⟨.hbm, 85, rfl⟩
abbrev main_call3_v0 : Ref sig .tc := ⟨.hbm, 86, rfl⟩
abbrev main_v59 : Ref sig .tc := ⟨.hbm, 87, rfl⟩
abbrev main_c_2 : Ref sig .tc := ⟨.hbm, 88, rfl⟩
abbrev main_call4_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_3 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call5_cst : Ref sig .tc := ⟨.hbm, 114, rfl⟩
abbrev main_call5_v0 : Ref sig .tc := ⟨.hbm, 115, rfl⟩
abbrev main_v83 : Ref sig .tc := ⟨.hbm, 116, rfl⟩
abbrev main_c_4 : Ref sig .tc := ⟨.hbm, 117, rfl⟩
abbrev main_call6_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_5 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_call7_cst : Ref sig .tc := ⟨.hbm, 143, rfl⟩
abbrev main_call7_v0 : Ref sig .tc := ⟨.hbm, 144, rfl⟩
abbrev main_v107 : Ref sig .tc := ⟨.hbm, 145, rfl⟩
abbrev main_c_6 : Ref sig .tc := ⟨.hbm, 146, rfl⟩
abbrev main_call8_v0 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_7 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_call9_cst : Ref sig .tc := ⟨.hbm, 159, rfl⟩
abbrev main_call9_v0 : Ref sig .tc := ⟨.hbm, 160, rfl⟩
abbrev main_v118 : Ref sig .tc := ⟨.hbm, 161, rfl⟩
abbrev main_c_8 : Ref sig .tc := ⟨.hbm, 162, rfl⟩
abbrev main_call10_v0 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_9 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_call11_cst : Ref sig .tc := ⟨.hbm, 188, rfl⟩
abbrev main_call11_v0 : Ref sig .tc := ⟨.hbm, 189, rfl⟩
abbrev main_v142 : Ref sig .tc := ⟨.hbm, 190, rfl⟩
abbrev main_c_10 : Ref sig .tc := ⟨.hbm, 191, rfl⟩
abbrev main_call12_v0 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_11 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_call13_cst : Ref sig .tc := ⟨.hbm, 204, rfl⟩
abbrev main_call13_v0 : Ref sig .tc := ⟨.hbm, 205, rfl⟩
abbrev main_v153 : Ref sig .tc := ⟨.hbm, 206, rfl⟩
abbrev main_c_12 : Ref sig .tc := ⟨.hbm, 207, rfl⟩
abbrev main_call14_v0 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_cst_13 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_cst_14 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_cst_15 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_cst_16 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_call15_v0 : Ref sig .tc := ⟨.hbm, 238, rfl⟩
abbrev main_call15_cst : Ref sig .tc := ⟨.hbm, 239, rfl⟩
abbrev main_call15_c : Ref sig .tc := ⟨.hbm, 240, rfl⟩
abbrev main_call15_v1_0 : Ref sig .tc := ⟨.hbm, 241, rfl⟩
abbrev main_v179 : Ref sig .tc := ⟨.hbm, 242, rfl⟩
abbrev main_call16_v0 : Ref sig .tc := ⟨.hbm, 243, rfl⟩
abbrev main_call16_v1 : Ref sig .tc := ⟨.hbm, 244, rfl⟩
abbrev main_call16_v2 : Ref sig .tc := ⟨.hbm, 245, rfl⟩
abbrev main_call16_v3 : Ref sig .tc := ⟨.hbm, 246, rfl⟩
abbrev main_call16_v4 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_cst_17 : Ref sig .tc := ⟨.hbm, 253, rfl⟩
abbrev main_v185 : Ref sig .tc := ⟨.hbm, 254, rfl⟩
abbrev main_cst_18 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_cst_19 : Ref sig .tc := ⟨.hbm, 259, rfl⟩
abbrev main_v189 : Ref sig .tc := ⟨.hbm, 260, rfl⟩
abbrev main_cst_20 : Ref sig .tc := ⟨.hbm, 261, rfl⟩
abbrev main_v190 : Ref sig .tc := ⟨.hbm, 262, rfl⟩
abbrev main_cst_21 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_cst_22 : Ref sig .tc := ⟨.hbm, 268, rfl⟩
abbrev main_v195 : Ref sig .tc := ⟨.hbm, 269, rfl⟩
abbrev main_cst_23 : Ref sig .tc := ⟨.hbm, 270, rfl⟩
abbrev main_v196 : Ref sig .tc := ⟨.hbm, 271, rfl⟩
abbrev main_v197 : Ref sig .tc := ⟨.hbm, 272, rfl⟩
abbrev main_cst_24 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_cst_25 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩

abbrev nD : Nat := 1
abbrev τ : Topo := Topo.v7x

variable {F : FTy → Type} [FloatOps F]
-- ==== Proof.KTriple.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes from its twenty input blocks -/

/-- The twenty input blocks a grid point reads, in window order. -/
structure Blk (F : FTy → Type) where
  x0 : Vec F S1x512x256 .f32
  x1 : Vec F S1x512x256 .f32
  x2 : Vec F S256x256 .f32
  x3 : Vec F S1024x256 .f32
  x4 : Vec F S768x64 .f32
  x5 : Vec F S192x64 .f32
  x6 : Vec F S64x64 .f32
  x7 : Vec F S192x64 .f32
  x8 : Vec F S64x64 .f32
  x9 : Vec F S64x64 .f32
  x10 : Vec F S64x1024 .f32
  x11 : Vec F S1024x64 .f32
  x12 : Vec F S1x256 .f32
  x13 : Vec F S1x256 .f32
  x14 : Vec F S1x64 .f32
  x15 : Vec F S1x64 .f32
  x16 : Vec F S1x64 .f32
  x17 : Vec F S1x64 .f32
  x18 : Vec F S1x64 .f32
  x19 : Vec F S1x64 .f32

namespace Blk

variable (X : Blk F)

/-- The second convolution's weights as the kernel loads them. -/
def w2 : FVec F S1024x256 .f32 := k0_pay7 X.x3
/-- The first two products of the second convolution, added. -/
def y2ab : FVec F S512x256 .f32 := k0_pay8 X.x2 X.x0 X.x12 X.x1 X.x12 X.x3
/-- The odd rows shifted for the second convolution's last products. -/
def y1s : FVec F S512x256 .f32 := k0_pay9 X.x2 X.x0 X.x12
/-- The residual stream after the third convolution. -/
def h0 : FVec F S512x64 .f32 := k0_pay10 X.w2 X.y2ab X.y1s X.x13 X.x4 X.x14
/-- Its rectification. -/
def a0 : FVec F S512x64 .f32 := k0_pay11 X.w2 X.y2ab X.y1s X.x13 X.x4 X.x14
/-- The first residual layer's three-tap weights. -/
def wr0 : FVec F S192x64 .f32 := k0_pay12 X.x5
/-- The first product of the first residual layer. -/
def r0 : FVec F S512x64 .f32 := k0_pay13 X.w2 X.y2ab X.y1s X.x13 X.x4 X.x14 X.x5
/-- The residual stream after the first layer. -/
def h1 : FVec F S512x64 .f32 := k0_pay14 X.h0 X.a0 X.wr0 X.r0 X.x15 X.x6 X.x16
/-- The second layer's three-tap products, added. -/
def r1 : FVec F S512x64 .f32 := k0_pay15 X.h0 X.a0 X.wr0 X.r0 X.x15 X.x6 X.x16 X.x7
/-- The second layer's bias. -/
def br1 : FVec F S1x64 .f32 := k0_pay16 X.x17
/-- The block of pre-quantisation vectors the point stores. -/
def ze : FVec F S1x512x64 .f32 := k0_pay18 X.h1 X.r1 X.br1 X.x8 X.x18 X.x9 X.x19
/-- The sums of squares of rows and codes, added. -/
def sq : FVec F S512x1024 .f32 := k0_pay20 X.h1 X.r1 X.br1 X.x8 X.x18 X.x9 X.x19 X.x10
/-- Twice the inner products of rows and codes. -/
def ip : FVec F S512x1024 .f32 := k0_pay21 X.h1 X.r1 X.br1 X.x8 X.x18 X.x9 X.x19 X.x10
/-- The block of indices the point stores. -/
def idx : IVec S1x512x1 32 := k0_pay25 X.sq X.ip
/-- The block of one-hot rows the point stores. -/
def enc : FVec F S1x512x1024 .f32 := k0_pay27 X.sq X.ip
/-- The block of selected codes the point stores. -/
def zq : FVec F S1x512x64 .f32 := k0_pay28 X.sq X.ip X.x11
/-- The number of rows of the block that select each code. -/
def hv : FVec F S1x1024 .f32 := k0_pay29 X.sq X.ip
/-- The loss cell after the point, from its contents before. -/
def loss (a : BitVec 32) (d : Vec F S1x1 .f32) : FVec F S1x1 .f32 := k0_pay3 a (k0_pay30 a X.sq X.ip d)
/-- The histogram after the point, from its contents before. -/
def hist (a : BitVec 32) (d : Vec F S1x1024 .f32) : FVec F S1x1024 .f32 := k0_pay2 a X.hv d
/-- The perplexity cell after the point, from the histogram before. -/
def perp (a : BitVec 32) (d : Vec F S1x1024 .f32) : FVec F S1x1 .f32 := k0_pay4 a X.hv d

end Blk

/-! ## The body's triple -/

set_option maxHeartbeats 4000000 in
/-- The body at any grid point, on whole staging memrefs: from the inputs at their blocks, the loss cell at `d24`, the
    histogram at `d26` and the other outputs at anything, it ends with the inputs as they were and every output at the
    value the point computes (`Blk.ze` … `Blk.hist`). -/
theorem body_triple (c : Dev nD) (i : grid0.Coords) (arg1 : Memref sig .tc .vmem S1x512x256 .f32) (harg1 : arg1.IsWhole) (arg2 : Memref sig .tc .vmem S1x512x256 .f32) (harg2 : arg2.IsWhole) (arg3 : Memref sig .tc .vmem S256x256 .f32) (harg3 : arg3.IsWhole) (arg4 : Memref sig .tc .vmem S1024x256 .f32) (harg4 : arg4.IsWhole) (arg5 : Memref sig .tc .vmem S768x64 .f32) (harg5 : arg5.IsWhole) (arg6 : Memref sig .tc .vmem S192x64 .f32) (harg6 : arg6.IsWhole) (arg7 : Memref sig .tc .vmem S64x64 .f32) (harg7 : arg7.IsWhole) (arg8 : Memref sig .tc .vmem S192x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x1024 .f32) (harg11 : arg11.IsWhole) (arg12 : Memref sig .tc .vmem S1024x64 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S1x64 .f32) (harg19 : arg19.IsWhole) (arg20 : Memref sig .tc .vmem S1x64 .f32) (harg20 : arg20.IsWhole) (arg21 : Memref sig .tc .vmem S1x512x64 .f32) (harg21 : arg21.IsWhole) (arg22 : Memref sig .tc .vmem S1x512x64 .f32) (harg22 : arg22.IsWhole) (arg23 : Memref sig .tc .vmem S1x512x1024 .f32) (harg23 : arg23.IsWhole) (arg24 : Memref sig .tc .vmem S1x512x1 .i32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x1024 .f32) (harg27 : arg27.IsWhole)
    (X : Blk F) (d24 : Vec F S1x1 .f32) (d26 : Vec F S1x1024 .f32) (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare d24 ∗ (∃ d, owns (c : Thread nD τ) arg26 fullShare d) ∗ owns (c : Thread nD τ) arg27 fullShare d26
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19 ∗ owns (c : Thread nD τ) arg21 fullShare X.ze ∗ owns (c : Thread nD τ) arg22 fullShare X.zq ∗ owns (c : Thread nD τ) arg23 fullShare X.enc ∗ owns (c : Thread nD τ) arg24 fullShare X.idx ∗ owns (c : Thread nD τ) arg25 fullShare (X.loss (BitVec.ofNat 32 (i 0).val) d24) ∗ owns (c : Thread nD τ) arg26 fullShare (X.perp (BitVec.ofNat 32 (i 0).val) d26) ∗ owns (c : Thread nD τ) arg27 fullShare (X.hist (BitVec.ofNat 32 (i 0).val) d26)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%f24, %hf24, H24⟩, ⟨%d25, %f25, -, H25⟩, ⟨%f26, %hf26, H26⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg25.eq_unread hf24; obtain rfl := harg27.eq_unread hf26
  have hl1 : View.readAt (Elt F) arg1.view (Rect.unit ![0, 0, 0] ![1, 512, 256] inb_S1x512x256_S1x512x256_0_0_0).toLoadRect (harg1.unread X.x0) = X.x0 :=
    (View.readAt_full _ _ _).trans (harg1.read_unread _)
  have hl2 : View.readAt (Elt F) arg2.view (Rect.unit ![0, 0, 0] ![1, 512, 256] inb_S1x512x256_S1x512x256_0_0_0).toLoadRect (harg2.unread X.x1) = X.x1 :=
    (View.readAt_full _ _ _).trans (harg2.read_unread _)
  have hl3 : View.readAt (Elt F) arg3.view (Rect.unit ![0, 0] ![256, 256] inb_S256x256_S256x256_0_0).toLoadRect (harg3.unread X.x2) = X.x2 :=
    (View.readAt_full _ _ _).trans (harg3.read_unread _)
  have hl4 : View.readAt (Elt F) arg4.view (Rect.unit ![0, 0] ![1024, 256] inb_S1024x256_S1024x256_0_0).toLoadRect (harg4.unread X.x3) = X.x3 :=
    (View.readAt_full _ _ _).trans (harg4.read_unread _)
  have hl5 : View.readAt (Elt F) arg5.view (Rect.unit ![0, 0] ![768, 64] inb_S768x64_S768x64_0_0).toLoadRect (harg5.unread X.x4) = X.x4 :=
    (View.readAt_full _ _ _).trans (harg5.read_unread _)
  have hl6 : View.readAt (Elt F) arg6.view (Rect.unit ![0, 0] ![192, 64] inb_S192x64_S192x64_0_0).toLoadRect (harg6.unread X.x5) = X.x5 :=
    (View.readAt_full _ _ _).trans (harg6.read_unread _)
  have hl7 : View.readAt (Elt F) arg7.view (Rect.unit ![0, 0] ![64, 64] inb_S64x64_S64x64_0_0).toLoadRect (harg7.unread X.x6) = X.x6 :=
    (View.readAt_full _ _ _).trans (harg7.read_unread _)
  have hl8 : View.readAt (Elt F) arg8.view (Rect.unit ![0, 0] ![192, 64] inb_S192x64_S192x64_0_0).toLoadRect (harg8.unread X.x7) = X.x7 :=
    (View.readAt_full _ _ _).trans (harg8.read_unread _)
  have hl9 : View.readAt (Elt F) arg9.view (Rect.unit ![0, 0] ![64, 64] inb_S64x64_S64x64_0_0).toLoadRect (harg9.unread X.x8) = X.x8 :=
    (View.readAt_full _ _ _).trans (harg9.read_unread _)
  have hl10 : View.readAt (Elt F) arg10.view (Rect.unit ![0, 0] ![64, 64] inb_S64x64_S64x64_0_0).toLoadRect (harg10.unread X.x9) = X.x9 :=
    (View.readAt_full _ _ _).trans (harg10.read_unread _)
  have hl11 : View.readAt (Elt F) arg11.view (Rect.unit ![0, 0] ![64, 1024] inb_S64x1024_S64x1024_0_0).toLoadRect (harg11.unread X.x10) = X.x10 :=
    (View.readAt_full _ _ _).trans (harg11.read_unread _)
  have hl12 : View.readAt (Elt F) arg12.view (Rect.unit ![0, 0] ![1024, 64] inb_S1024x64_S1024x64_0_0).toLoadRect (harg12.unread X.x11) = X.x11 :=
    (View.readAt_full _ _ _).trans (harg12.read_unread _)
  have hl13 : View.readAt (Elt F) arg13.view (Rect.unit ![0, 0] ![1, 256] inb_S1x256_S1x256_0_0).toLoadRect (harg13.unread X.x12) = X.x12 :=
    (View.readAt_full _ _ _).trans (harg13.read_unread _)
  have hl14 : View.readAt (Elt F) arg14.view (Rect.unit ![0, 0] ![1, 256] inb_S1x256_S1x256_0_0).toLoadRect (harg14.unread X.x13) = X.x13 :=
    (View.readAt_full _ _ _).trans (harg14.read_unread _)
  have hl15 : View.readAt (Elt F) arg15.view (Rect.unit ![0, 0] ![1, 64] inb_S1x64_S1x64_0_0).toLoadRect (harg15.unread X.x14) = X.x14 :=
    (View.readAt_full _ _ _).trans (harg15.read_unread _)
  have hl16 : View.readAt (Elt F) arg16.view (Rect.unit ![0, 0] ![1, 64] inb_S1x64_S1x64_0_0).toLoadRect (harg16.unread X.x15) = X.x15 :=
    (View.readAt_full _ _ _).trans (harg16.read_unread _)
  have hl17 : View.readAt (Elt F) arg17.view (Rect.unit ![0, 0] ![1, 64] inb_S1x64_S1x64_0_0).toLoadRect (harg17.unread X.x16) = X.x16 :=
    (View.readAt_full _ _ _).trans (harg17.read_unread _)
  have hl18 : View.readAt (Elt F) arg18.view (Rect.unit ![0, 0] ![1, 64] inb_S1x64_S1x64_0_0).toLoadRect (harg18.unread X.x17) = X.x17 :=
    (View.readAt_full _ _ _).trans (harg18.read_unread _)
  have hl19 : View.readAt (Elt F) arg19.view (Rect.unit ![0, 0] ![1, 64] inb_S1x64_S1x64_0_0).toLoadRect (harg19.unread X.x18) = X.x18 :=
    (View.readAt_full _ _ _).trans (harg19.read_unread _)
  have hl20 : View.readAt (Elt F) arg20.view (Rect.unit ![0, 0] ![1, 64] inb_S1x64_S1x64_0_0).toLoadRect (harg20.unread X.x19) = X.x19 :=
    (View.readAt_full _ _ _).trans (harg20.read_unread _)
  have hl25 : View.readAt (Elt F) arg25.view (Rect.unit ![0, 0] ![1, 1] inb_S1x1_S1x1_0_0).toLoadRect (harg25.unread d24) = d24 :=
    (View.readAt_full _ _ _).trans (harg25.read_unread _)
  have hl27 : View.readAt (Elt F) arg27.view (Rect.unit ![0, 0] ![1, 1024] inb_S1x1024_S1x1024_0_0).toLoadRect (harg27.unread d26) = d26 :=
    (View.readAt_full _ _ _).trans (harg27.read_unread _)
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr
    swap; · iexact H20
    ipureintro; refine (View.read_writes_full _ _ _ _ _).trans ?_
    sl_unfold_words; (try simp only [hl1, hl2, hl3, hl4, hl5, hl6, hl7, hl8, hl9, hl10, hl11, hl12, hl13, hl14, hl15, hl16, hl17, hl18, hl19, hl20, hl25, hl27]); rfl
  isplitl [H21]
  · iexists _; isplitr
    swap; · iexact H21
    ipureintro; refine (View.read_writes_full _ _ _ _ _).trans ?_
    sl_unfold_words; (try simp only [hl1, hl2, hl3, hl4, hl5, hl6, hl7, hl8, hl9, hl10, hl11, hl12, hl13, hl14, hl15, hl16, hl17, hl18, hl19, hl20, hl25, hl27]); rfl
  isplitl [H22]
  · iexists _; isplitr
    swap; · iexact H22
    ipureintro; refine (View.read_writes_full _ _ _ _ _).trans ?_
    sl_unfold_words; (try simp only [hl1, hl2, hl3, hl4, hl5, hl6, hl7, hl8, hl9, hl10, hl11, hl12, hl13, hl14, hl15, hl16, hl17, hl18, hl19, hl20, hl25, hl27]); rfl
  isplitl [H23]
  · iexists _; isplitr
    swap; · iexact H23
    ipureintro; refine (View.read_writes_full _ _ _ _ _).trans ?_
    sl_unfold_words; (try simp only [hl1, hl2, hl3, hl4, hl5, hl6, hl7, hl8, hl9, hl10, hl11, hl12, hl13, hl14, hl15, hl16, hl17, hl18, hl19, hl20, hl25, hl27]); rfl
  isplitl [H24]
  · iexists _; isplitr
    swap; · iexact H24
    ipureintro; refine (View.read_writes_full _ _ _ _ _).trans ?_
    sl_unfold_words; (try simp only [hl1, hl2, hl3, hl4, hl5, hl6, hl7, hl8, hl9, hl10, hl11, hl12, hl13, hl14, hl15, hl16, hl17, hl18, hl19, hl20, hl25, hl27]); rfl
  isplitl [H25]
  · iexists _; isplitr
    swap; · iexact H25
    ipureintro; refine (View.read_writes_full _ _ _ _ _).trans ?_
    sl_unfold_words; (try simp only [hl1, hl2, hl3, hl4, hl5, hl6, hl7, hl8, hl9, hl10, hl11, hl12, hl13, hl14, hl15, hl16, hl17, hl18, hl19, hl20, hl25, hl27]); rfl
  iexists _; isplitr
  swap; · iexact H26
  ipureintro; refine (View.read_writes_full _ _ _ _ _).trans ?_
  sl_unfold_words; (try simp only [hl1, hl2, hl3, hl4, hl5, hl6, hl7, hl8, hl9, hl10, hl11, hl12, hl13, hl14, hl15, hl16, hl17, hl18, hl19, hl20, hl25, hl27]); rfl

end Cert.KernelIdeal.Body

end
-- ==== Proof.KRun.lean ====
module

public import proofs.«01_k».proof.Proof.Gen.KernelIdeal.Points
public import proofs.«01_k».proof.Proof.Gen.KernelIdeal.Frame
public import proofs.«01_k».proof.Proof.KTriple
public import Idealize.ShloMosaic.Lib.Claim
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Staging memrefs -/

/-- Window 0's staging memref at point `t`. -/
abbrev ms0 (t : Fin cfg0.N) : Memref sig .tc .vmem S1x512x256 .f32 := win0_0.stage (cfg0.slots t 0)
/-- It is a whole buffer. -/
abbrev hs0 (t : Fin cfg0.N) : (ms0 t).IsWhole := hstage0_0 ((cfg0.slots t 0).cast nbuf0_0)
/-- Window 1's staging memref at point `t`. -/
abbrev ms1 (t : Fin cfg0.N) : Memref sig .tc .vmem S1x512x256 .f32 := win0_1.stage (cfg0.slots t 1)
/-- It is a whole buffer. -/
abbrev hs1 (t : Fin cfg0.N) : (ms1 t).IsWhole := hstage0_1 ((cfg0.slots t 1).cast nbuf0_1)
/-- Window 2's staging memref at point `t`. -/
abbrev ms2 (t : Fin cfg0.N) : Memref sig .tc .vmem S256x256 .f32 := win0_2.stage (cfg0.slots t 2)
/-- It is a whole buffer. -/
abbrev hs2 (t : Fin cfg0.N) : (ms2 t).IsWhole := hstage0_2 ((cfg0.slots t 2).cast nbuf0_2)
/-- Window 3's staging memref at point `t`. -/
abbrev ms3 (t : Fin cfg0.N) : Memref sig .tc .vmem S1024x256 .f32 := win0_3.stage (cfg0.slots t 3)
/-- It is a whole buffer. -/
abbrev hs3 (t : Fin cfg0.N) : (ms3 t).IsWhole := hstage0_3 ((cfg0.slots t 3).cast nbuf0_3)
/-- Window 4's staging memref at point `t`. -/
abbrev ms4 (t : Fin cfg0.N) : Memref sig .tc .vmem S768x64 .f32 := win0_4.stage (cfg0.slots t 4)
/-- It is a whole buffer. -/
abbrev hs4 (t : Fin cfg0.N) : (ms4 t).IsWhole := hstage0_4 ((cfg0.slots t 4).cast nbuf0_4)
/-- Window 5's staging memref at point `t`. -/
abbrev ms5 (t : Fin cfg0.N) : Memref sig .tc .vmem S192x64 .f32 := win0_5.stage (cfg0.slots t 5)
/-- It is a whole buffer. -/
abbrev hs5 (t : Fin cfg0.N) : (ms5 t).IsWhole := hstage0_5 ((cfg0.slots t 5).cast nbuf0_5)
/-- Window 6's staging memref at point `t`. -/
abbrev ms6 (t : Fin cfg0.N) : Memref sig .tc .vmem S64x64 .f32 := win0_6.stage (cfg0.slots t 6)
/-- It is a whole buffer. -/
abbrev hs6 (t : Fin cfg0.N) : (ms6 t).IsWhole := hstage0_6 ((cfg0.slots t 6).cast nbuf0_6)
/-- Window 7's staging memref at point `t`. -/
abbrev ms7 (t : Fin cfg0.N) : Memref sig .tc .vmem S192x64 .f32 := win0_7.stage (cfg0.slots t 7)
/-- It is a whole buffer. -/
abbrev hs7 (t : Fin cfg0.N) : (ms7 t).IsWhole := hstage0_7 ((cfg0.slots t 7).cast nbuf0_7)
/-- Window 8's staging memref at point `t`. -/
abbrev ms8 (t : Fin cfg0.N) : Memref sig .tc .vmem S64x64 .f32 := win0_8.stage (cfg0.slots t 8)
/-- It is a whole buffer. -/
abbrev hs8 (t : Fin cfg0.N) : (ms8 t).IsWhole := hstage0_8 ((cfg0.slots t 8).cast nbuf0_8)
/-- Window 9's staging memref at point `t`. -/
abbrev ms9 (t : Fin cfg0.N) : Memref sig .tc .vmem S64x64 .f32 := win0_9.stage (cfg0.slots t 9)
/-- It is a whole buffer. -/
abbrev hs9 (t : Fin cfg0.N) : (ms9 t).IsWhole := hstage0_9 ((cfg0.slots t 9).cast nbuf0_9)
/-- Window 10's staging memref at point `t`. -/
abbrev ms10 (t : Fin cfg0.N) : Memref sig .tc .vmem S64x1024 .f32 := win0_10.stage (cfg0.slots t 10)
/-- It is a whole buffer. -/
abbrev hs10 (t : Fin cfg0.N) : (ms10 t).IsWhole := hstage0_10 ((cfg0.slots t 10).cast nbuf0_10)
/-- Window 11's staging memref at point `t`. -/
abbrev ms11 (t : Fin cfg0.N) : Memref sig .tc .vmem S1024x64 .f32 := win0_11.stage (cfg0.slots t 11)
/-- It is a whole buffer. -/
abbrev hs11 (t : Fin cfg0.N) : (ms11 t).IsWhole := hstage0_11 ((cfg0.slots t 11).cast nbuf0_11)
/-- Window 12's staging memref at point `t`. -/
abbrev ms12 (t : Fin cfg0.N) : Memref sig .tc .vmem S1x256 .f32 := win0_12.stage (cfg0.slots t 12)
/-- It is a whole buffer. -/
abbrev hs12 (t : Fin cfg0.N) : (ms12 t).IsWhole := hstage0_12 ((cfg0.slots t 12).cast nbuf0_12)
/-- Window 13's staging memref at point `t`. -/
abbrev ms13 (t : Fin cfg0.N) : Memref sig .tc .vmem S1x256 .f32 := win0_13.stage (cfg0.slots t 13)
/-- It is a whole buffer. -/
abbrev hs13 (t : Fin cfg0.N) : (ms13 t).IsWhole := hstage0_13 ((cfg0.slots t 13).cast nbuf0_13)
/-- Window 14's staging memref at point `t`. -/
abbrev ms14 (t : Fin cfg0.N) : Memref sig .tc .vmem S1x64 .f32 := win0_14.stage (cfg0.slots t 14)
/-- It is a whole buffer. -/
abbrev hs14 (t : Fin cfg0.N) : (ms14 t).IsWhole := hstage0_14 ((cfg0.slots t 14).cast nbuf0_14)
/-- Window 15's staging memref at point `t`. -/
abbrev ms15 (t : Fin cfg0.N) : Memref sig .tc .vmem S1x64 .f32 := win0_15.stage (cfg0.slots t 15)
/-- It is a whole buffer. -/
abbrev hs15 (t : Fin cfg0.N) : (ms15 t).IsWhole := hstage0_15 ((cfg0.slots t 15).cast nbuf0_15)
/-- Window 16's staging memref at point `t`. -/
abbrev ms16 (t : Fin cfg0.N) : Memref sig .tc .vmem S1x64 .f32 := win0_16.stage (cfg0.slots t 16)
/-- It is a whole buffer. -/
abbrev hs16 (t : Fin cfg0.N) : (ms16 t).IsWhole := hstage0_16 ((cfg0.slots t 16).cast nbuf0_16)
/-- Window 17's staging memref at point `t`. -/
abbrev ms17 (t : Fin cfg0.N) : Memref sig .tc .vmem S1x64 .f32 := win0_17.stage (cfg0.slots t 17)
/-- It is a whole buffer. -/
abbrev hs17 (t : Fin cfg0.N) : (ms17 t).IsWhole := hstage0_17 ((cfg0.slots t 17).cast nbuf0_17)
/-- Window 18's staging memref at point `t`. -/
abbrev ms18 (t : Fin cfg0.N) : Memref sig .tc .vmem S1x64 .f32 := win0_18.stage (cfg0.slots t 18)
/-- It is a whole buffer. -/
abbrev hs18 (t : Fin cfg0.N) : (ms18 t).IsWhole := hstage0_18 ((cfg0.slots t 18).cast nbuf0_18)
/-- Window 19's staging memref at point `t`. -/
abbrev ms19 (t : Fin cfg0.N) : Memref sig .tc .vmem S1x64 .f32 := win0_19.stage (cfg0.slots t 19)
/-- It is a whole buffer. -/
abbrev hs19 (t : Fin cfg0.N) : (ms19 t).IsWhole := hstage0_19 ((cfg0.slots t 19).cast nbuf0_19)
/-- Window 20's staging memref at point `t`. -/
abbrev ms20 (t : Fin cfg0.N) : Memref sig .tc .vmem S1x512x64 .f32 := win0_20.stage (cfg0.slots t 20)
/-- It is a whole buffer. -/
abbrev hs20 (t : Fin cfg0.N) : (ms20 t).IsWhole := hstage0_20 ((cfg0.slots t 20).cast nbuf0_20)
/-- Window 21's staging memref at point `t`. -/
abbrev ms21 (t : Fin cfg0.N) : Memref sig .tc .vmem S1x512x64 .f32 := win0_21.stage (cfg0.slots t 21)
/-- It is a whole buffer. -/
abbrev hs21 (t : Fin cfg0.N) : (ms21 t).IsWhole := hstage0_21 ((cfg0.slots t 21).cast nbuf0_21)
/-- Window 22's staging memref at point `t`. -/
abbrev ms22 (t : Fin cfg0.N) : Memref sig .tc .vmem S1x512x1024 .f32 := win0_22.stage (cfg0.slots t 22)
/-- It is a whole buffer. -/
abbrev hs22 (t : Fin cfg0.N) : (ms22 t).IsWhole := hstage0_22 ((cfg0.slots t 22).cast nbuf0_22)
/-- Window 23's staging memref at point `t`. -/
abbrev ms23 (t : Fin cfg0.N) : Memref sig .tc .vmem S1x512x1 .i32 := win0_23.stage (cfg0.slots t 23)
/-- It is a whole buffer. -/
abbrev hs23 (t : Fin cfg0.N) : (ms23 t).IsWhole := hstage0_23 ((cfg0.slots t 23).cast nbuf0_23)
/-- Window 24's staging memref at point `t`. -/
abbrev ms24 (t : Fin cfg0.N) : Memref sig .tc .vmem S1x1 .f32 := win0_24.stage (cfg0.slots t 24)
/-- It is a whole buffer. -/
abbrev hs24 (t : Fin cfg0.N) : (ms24 t).IsWhole := hstage0_24 ((cfg0.slots t 24).cast nbuf0_24)
/-- Window 25's staging memref at point `t`. -/
abbrev ms25 (t : Fin cfg0.N) : Memref sig .tc .vmem S1x1 .f32 := win0_25.stage (cfg0.slots t 25)
/-- It is a whole buffer. -/
abbrev hs25 (t : Fin cfg0.N) : (ms25 t).IsWhole := hstage0_25 ((cfg0.slots t 25).cast nbuf0_25)
/-- The scratch histogram as a memref. -/
abbrev scM : Memref sig .tc .vmem S1x1024 .f32 := Memref.whole cc0_scratch0

/-- The region's resting state: the scratch at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What is carried from point to point -/

/-- The input blocks of point `t`. -/
def blkAt (c : Dev nD) (t : Fin cfg0.N) : Blk F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t

/-- The grid coordinate of point `t` as the kernel's word. -/
abbrev word (t : Fin cfg0.N) : BitVec 32 := BitVec.ofNat 32 (grid0.coords t 0).val

/-- The loss cell after point `n`. -/
def lossAt (c : Dev nD) : (n : ℕ) → n < cfg0.N → Vec F S1x1 .f32
  | 0, hn => (blkAt m c ⟨0, hn⟩).loss (word ⟨0, hn⟩) (constant S1x1 .f32 0#32)
  | n + 1, hn => (blkAt m c ⟨n + 1, hn⟩).loss (word ⟨n + 1, hn⟩) (lossAt c n (Nat.lt_of_succ_lt hn))

/-- The histogram after point `n`. -/
def histAt (c : Dev nD) : (n : ℕ) → n < cfg0.N → Vec F S1x1024 .f32
  | 0, hn => (blkAt m c ⟨0, hn⟩).hist (word ⟨0, hn⟩) (constant S1x1024 .f32 0#32)
  | n + 1, hn => (blkAt m c ⟨n + 1, hn⟩).hist (word ⟨n + 1, hn⟩) (histAt c n (Nat.lt_of_succ_lt hn))

/-- The perplexity cell after point `n`. -/
def perpAt (c : Dev nD) : (n : ℕ) → n < cfg0.N → Vec F S1x1 .f32
  | 0, hn => (blkAt m c ⟨0, hn⟩).perp (word ⟨0, hn⟩) (constant S1x1024 .f32 0#32)
  | n + 1, hn => (blkAt m c ⟨n + 1, hn⟩).perp (word ⟨n + 1, hn⟩) (histAt m c n (Nat.lt_of_succ_lt hn))

/-- At a point after the first, each carried cell is the point's function of what the point before left. -/
theorem lossAt_pos (c : Dev nD) (t : Fin cfg0.N) (h : t.val ≠ 0) :
    lossAt m c t.val t.isLt = (blkAt m c t).loss (word t) (lossAt m c (t.val - 1) (Nat.lt_of_le_of_lt (Nat.sub_le _ _) t.isLt)) := by
  obtain ⟨n, hn⟩ := t
  cases n with
  | zero => exact absurd rfl h
  | succ n => rfl

/-- The same for the histogram. -/
theorem histAt_pos (c : Dev nD) (t : Fin cfg0.N) (h : t.val ≠ 0) :
    histAt m c t.val t.isLt = (blkAt m c t).hist (word t) (histAt m c (t.val - 1) (Nat.lt_of_le_of_lt (Nat.sub_le _ _) t.isLt)) := by
  obtain ⟨n, hn⟩ := t
  cases n with
  | zero => exact absurd rfl h
  | succ n => rfl

/-- The same for the perplexity. -/
theorem perpAt_pos (c : Dev nD) (t : Fin cfg0.N) (h : t.val ≠ 0) :
    perpAt m c t.val t.isLt = (blkAt m c t).perp (word t) (histAt m c (t.val - 1) (Nat.lt_of_le_of_lt (Nat.sub_le _ _) t.isLt)) := by
  obtain ⟨n, hn⟩ := t
  cases n with
  | zero => exact absurd rfl h
  | succ n => rfl

/-- The first point's word is zero. -/
theorem word_zero (t : Fin cfg0.N) (h : t.val = 0) : Scalar.cmpi .eq (word t) 0#32 = 1#1 := by
  have ht : t.val < 32 := Nat.lt_of_lt_of_eq t.isLt N_0
  have e0 : (grid0.coords t 0).val = t.val / 1 % 32 := Pipeline.Grid.coords_val t 0 (by decide) rfl
  simp only [word, e0, h]
  decide

/-- At the first point nothing depends on what the cells held. -/
theorem lossAt_zero (c : Dev nD) (t : Fin cfg0.N) (h : t.val = 0) (d : Vec F S1x1 .f32) :
    (blkAt m c t).loss (word t) d = lossAt m c t.val t.isLt := by
  have hw := word_zero t h
  obtain ⟨n, hn⟩ := t
  obtain rfl : n = 0 := h
  unfold lossAt Blk.loss k0_pay30
  simp only [hw]; rfl

/-- The same for the histogram. -/
theorem histAt_zero (c : Dev nD) (t : Fin cfg0.N) (h : t.val = 0) (d : Vec F S1x1024 .f32) :
    (blkAt m c t).hist (word t) d = histAt m c t.val t.isLt := by
  have hw := word_zero t h
  obtain ⟨n, hn⟩ := t
  obtain rfl : n = 0 := h
  unfold histAt Blk.hist k0_pay2 k0_pay1
  simp only [hw]; rfl

/-- The same for the perplexity. -/
theorem perpAt_zero (c : Dev nD) (t : Fin cfg0.N) (h : t.val = 0) (d : Vec F S1x1024 .f32) :
    (blkAt m c t).perp (word t) d = perpAt m c t.val t.isLt := by
  have hw := word_zero t h
  obtain ⟨n, hn⟩ := t
  obtain rfl : n = 0 := h
  unfold perpAt Blk.perp k0_pay4 k0_pay1
  simp only [hw]; rfl

/-- The region's invariant before position `n`: the resting state at the start, then the scratch at the histogram the
    point before left. -/
def PhiS (c : Dev nD) : (n : ℕ) → n ≤ cfg0.N → sProp 𝕄
  | 0, _ => Pipeline.ΦA spec0 c
  | n + 1, hn => iprop(iprop(owns (c : Thread nD τ) scM fullShare (histAt m c n hn)) ∗ (∃ r, prngReg c r))

/-- The invariant at the start. -/
theorem PhiS_zero (c : Dev nD) (n : ℕ) (h : n ≤ cfg0.N) (hz : n = 0) : PhiS m c n h = Pipeline.ΦA spec0 c := by
  subst hz; rfl

/-- The invariant after a point. -/
theorem PhiS_succ (c : Dev nD) (n : ℕ) (hn : n < cfg0.N) :
    PhiS m c (n + 1) hn = iprop(iprop(owns (c : Thread nD τ) scM fullShare (histAt m c n hn)) ∗ (∃ r, prngReg c r)) := rfl

/-- The invariant before a point that is not the first. -/
theorem PhiS_pos (c : Dev nD) (n : ℕ) (h : n ≤ cfg0.N) (hz : n ≠ 0) :
    PhiS m c n h = iprop(iprop(owns (c : Thread nD τ) scM fullShare (histAt m c (n - 1) (by omega))) ∗ (∃ r, prngReg c r)) := by
  cases n with
  | zero => exact absurd rfl hz
  | succ n => rfl

/-! ## The pipeline's proof data -/

/-- What the pipeline's buffers hold: the inputs their blocks, the outputs what each point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (blkAt m c t).ze
    | ⟨21, _⟩ => (blkAt m c t).zq
    | ⟨22, _⟩ => (blkAt m c t).enc
    | ⟨23, _⟩ => (blkAt m c t).idx
    | ⟨24, _⟩ => lossAt m c t.val t.isLt
    | ⟨25, _⟩ => perpAt m c t.val t.isLt
    | ⟨_ + 26, h⟩ => absurd h (Nat.not_lt.2 (Nat.le_add_left _ _))
  Φ t := PhiS m c t.val (Nat.le_of_lt_succ t.isLt)
  q _ := fullShare
  owed _ := 0

/-- The arrays are the region-entry contents. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after_0 (c : Dev nD) (t : Fin cfg0.N) : (dats m 0 c).after 0 t = iblk m c 0 t := by dsimp only [dats]
/-- What the body leaves in window 1. -/
theorem after_1 (c : Dev nD) (t : Fin cfg0.N) : (dats m 0 c).after 1 t = iblk m c 1 t := by dsimp only [dats]
/-- What the body leaves in window 2. -/
theorem after_2 (c : Dev nD) (t : Fin cfg0.N) : (dats m 0 c).after 2 t = iblk m c 2 t := by dsimp only [dats]
/-- What the body leaves in window 3. -/
theorem after_3 (c : Dev nD) (t : Fin cfg0.N) : (dats m 0 c).after 3 t = iblk m c 3 t := by dsimp only [dats]
/-- What the body leaves in window 4. -/
theorem after_4 (c : Dev nD) (t : Fin cfg0.N) : (dats m 0 c).after 4 t = iblk m c 4 t := by dsimp only [dats]
/-- What the body leaves in window 5. -/
theorem after_5 (c : Dev nD) (t : Fin cfg0.N) : (dats m 0 c).after 5 t = iblk m c 5 t := by dsimp only [dats]
/-- What the body leaves in window 6. -/
theorem after_6 (c : Dev nD) (t : Fin cfg0.N) : (dats m 0 c).after 6 t = iblk m c 6 t := by dsimp only [dats]
/-- What the body leaves in window 7. -/
theorem after_7 (c : Dev nD) (t : Fin cfg0.N) : (dats m 0 c).after 7 t = iblk m c 7 t := by dsimp only [dats]
/-- What the body leaves in window 8. -/
theorem after_8 (c : Dev nD) (t : Fin cfg0.N) : (dats m 0 c).after 8 t = iblk m c 8 t := by dsimp only [dats]
/-- What the body leaves in window 9. -/
theorem after_9 (c : Dev nD) (t : Fin cfg0.N) : (dats m 0 c).after 9 t = iblk m c 9 t := by dsimp only [dats]
/-- What the body leaves in window 10. -/
theorem after_10 (c : Dev nD) (t : Fin cfg0.N) : (dats m 0 c).after 10 t = iblk m c 10 t := by dsimp only [dats]
/-- What the body leaves in window 11. -/
theorem after_11 (c : Dev nD) (t : Fin cfg0.N) : (dats m 0 c).after 11 t = iblk m c 11 t := by dsimp only [dats]
/-- What the body leaves in window 12. -/
theorem after_12 (c : Dev nD) (t : Fin cfg0.N) : (dats m 0 c).after 12 t = iblk m c 12 t := by dsimp only [dats]
/-- What the body leaves in window 13. -/
theorem after_13 (c : Dev nD) (t : Fin cfg0.N) : (dats m 0 c).after 13 t = iblk m c 13 t := by dsimp only [dats]
/-- What the body leaves in window 14. -/
theorem after_14 (c : Dev nD) (t : Fin cfg0.N) : (dats m 0 c).after 14 t = iblk m c 14 t := by dsimp only [dats]
/-- What the body leaves in window 15. -/
theorem after_15 (c : Dev nD) (t : Fin cfg0.N) : (dats m 0 c).after 15 t = iblk m c 15 t := by dsimp only [dats]
/-- What the body leaves in window 16. -/
theorem after_16 (c : Dev nD) (t : Fin cfg0.N) : (dats m 0 c).after 16 t = iblk m c 16 t := by dsimp only [dats]
/-- What the body leaves in window 17. -/
theorem after_17 (c : Dev nD) (t : Fin cfg0.N) : (dats m 0 c).after 17 t = iblk m c 17 t := by dsimp only [dats]
/-- What the body leaves in window 18. -/
theorem after_18 (c : Dev nD) (t : Fin cfg0.N) : (dats m 0 c).after 18 t = iblk m c 18 t := by dsimp only [dats]
/-- What the body leaves in window 19. -/
theorem after_19 (c : Dev nD) (t : Fin cfg0.N) : (dats m 0 c).after 19 t = iblk m c 19 t := by dsimp only [dats]
/-- What the body leaves in window 20. -/
theorem after_20 (c : Dev nD) (t : Fin cfg0.N) : (dats m 0 c).after 20 t = (blkAt m c t).ze := by dsimp only [dats]
/-- What the body leaves in window 21. -/
theorem after_21 (c : Dev nD) (t : Fin cfg0.N) : (dats m 0 c).after 21 t = (blkAt m c t).zq := by dsimp only [dats]
/-- What the body leaves in window 22. -/
theorem after_22 (c : Dev nD) (t : Fin cfg0.N) : (dats m 0 c).after 22 t = (blkAt m c t).enc := by dsimp only [dats]
/-- What the body leaves in window 23. -/
theorem after_23 (c : Dev nD) (t : Fin cfg0.N) : (dats m 0 c).after 23 t = (blkAt m c t).idx := by dsimp only [dats]
/-- What the body leaves in window 24. -/
theorem after_24 (c : Dev nD) (t : Fin cfg0.N) : (dats m 0 c).after 24 t = lossAt m c t.val t.isLt := by dsimp only [dats]
/-- What the body leaves in window 25. -/
theorem after_25 (c : Dev nD) (t : Fin cfg0.N) : (dats m 0 c).after 25 t = perpAt m c t.val t.isLt := by dsimp only [dats]
/-- What the body finds in window 0. -/
theorem before_0 (c : Dev nD) (t : Fin cfg0.N) (d) : (dats m 0 c).before 0 t d = iblk m c 0 t :=
  before0_0_of m (dats m 0 c) (A_eq m c 0) (after_0 m c) t d
/-- What the body finds in window 1. -/
theorem before_1 (c : Dev nD) (t : Fin cfg0.N) (d) : (dats m 0 c).before 1 t d = iblk m c 1 t :=
  before0_1_of m (dats m 0 c) (A_eq m c 1) (after_1 m c) t d
/-- What the body finds in window 2. -/
theorem before_2 (c : Dev nD) (t : Fin cfg0.N) (d) : (dats m 0 c).before 2 t d = iblk m c 2 t :=
  before0_2_of m (dats m 0 c) (A_eq m c 2) (after_2 m c) t d
/-- What the body finds in window 3. -/
theorem before_3 (c : Dev nD) (t : Fin cfg0.N) (d) : (dats m 0 c).before 3 t d = iblk m c 3 t :=
  before0_3_of m (dats m 0 c) (A_eq m c 3) (after_3 m c) t d
/-- What the body finds in window 4. -/
theorem before_4 (c : Dev nD) (t : Fin cfg0.N) (d) : (dats m 0 c).before 4 t d = iblk m c 4 t :=
  before0_4_of m (dats m 0 c) (A_eq m c 4) (after_4 m c) t d
/-- What the body finds in window 5. -/
theorem before_5 (c : Dev nD) (t : Fin cfg0.N) (d) : (dats m 0 c).before 5 t d = iblk m c 5 t :=
  before0_5_of m (dats m 0 c) (A_eq m c 5) (after_5 m c) t d
/-- What the body finds in window 6. -/
theorem before_6 (c : Dev nD) (t : Fin cfg0.N) (d) : (dats m 0 c).before 6 t d = iblk m c 6 t :=
  before0_6_of m (dats m 0 c) (A_eq m c 6) (after_6 m c) t d
/-- What the body finds in window 7. -/
theorem before_7 (c : Dev nD) (t : Fin cfg0.N) (d) : (dats m 0 c).before 7 t d = iblk m c 7 t :=
  before0_7_of m (dats m 0 c) (A_eq m c 7) (after_7 m c) t d
/-- What the body finds in window 8. -/
theorem before_8 (c : Dev nD) (t : Fin cfg0.N) (d) : (dats m 0 c).before 8 t d = iblk m c 8 t :=
  before0_8_of m (dats m 0 c) (A_eq m c 8) (after_8 m c) t d
/-- What the body finds in window 9. -/
theorem before_9 (c : Dev nD) (t : Fin cfg0.N) (d) : (dats m 0 c).before 9 t d = iblk m c 9 t :=
  before0_9_of m (dats m 0 c) (A_eq m c 9) (after_9 m c) t d
/-- What the body finds in window 10. -/
theorem before_10 (c : Dev nD) (t : Fin cfg0.N) (d) : (dats m 0 c).before 10 t d = iblk m c 10 t :=
  before0_10_of m (dats m 0 c) (A_eq m c 10) (after_10 m c) t d
/-- What the body finds in window 11. -/
theorem before_11 (c : Dev nD) (t : Fin cfg0.N) (d) : (dats m 0 c).before 11 t d = iblk m c 11 t :=
  before0_11_of m (dats m 0 c) (A_eq m c 11) (after_11 m c) t d
/-- What the body finds in window 12. -/
theorem before_12 (c : Dev nD) (t : Fin cfg0.N) (d) : (dats m 0 c).before 12 t d = iblk m c 12 t :=
  before0_12_of m (dats m 0 c) (A_eq m c 12) (after_12 m c) t d
/-- What the body finds in window 13. -/
theorem before_13 (c : Dev nD) (t : Fin cfg0.N) (d) : (dats m 0 c).before 13 t d = iblk m c 13 t :=
  before0_13_of m (dats m 0 c) (A_eq m c 13) (after_13 m c) t d
/-- What the body finds in window 14. -/
theorem before_14 (c : Dev nD) (t : Fin cfg0.N) (d) : (dats m 0 c).before 14 t d = iblk m c 14 t :=
  before0_14_of m (dats m 0 c) (A_eq m c 14) (after_14 m c) t d
/-- What the body finds in window 15. -/
theorem before_15 (c : Dev nD) (t : Fin cfg0.N) (d) : (dats m 0 c).before 15 t d = iblk m c 15 t :=
  before0_15_of m (dats m 0 c) (A_eq m c 15) (after_15 m c) t d
/-- What the body finds in window 16. -/
theorem before_16 (c : Dev nD) (t : Fin cfg0.N) (d) : (dats m 0 c).before 16 t d = iblk m c 16 t :=
  before0_16_of m (dats m 0 c) (A_eq m c 16) (after_16 m c) t d
/-- What the body finds in window 17. -/
theorem before_17 (c : Dev nD) (t : Fin cfg0.N) (d) : (dats m 0 c).before 17 t d = iblk m c 17 t :=
  before0_17_of m (dats m 0 c) (A_eq m c 17) (after_17 m c) t d
/-- What the body finds in window 18. -/
theorem before_18 (c : Dev nD) (t : Fin cfg0.N) (d) : (dats m 0 c).before 18 t d = iblk m c 18 t :=
  before0_18_of m (dats m 0 c) (A_eq m c 18) (after_18 m c) t d
/-- What the body finds in window 19. -/
theorem before_19 (c : Dev nD) (t : Fin cfg0.N) (d) : (dats m 0 c).before 19 t d = iblk m c 19 t :=
  before0_19_of m (dats m 0 c) (A_eq m c 19) (after_19 m c) t d

/-- After the first point the loss cell holds what the point before left. -/
theorem before_24 (c : Dev nD) (t : Fin cfg0.N) (h0 : t.val ≠ 0) (d) :
    (dats m 0 c).before 24 t d = lossAt m c (t.val - 1) (Nat.lt_of_le_of_lt (Nat.sub_le _ _) t.isLt) := by
  have hN : t.val < 32 := lt_of_lt_of_eq t.isLt (show cfg0.N = 32 from N_0)
  rw [Dat.before_out_kept _ 24 rfl t (by omega) (Bool.eq_false_iff.mpr fun h => by have := (flush0_24 _).mp h; dsimp only at this; omega)
    (fun _ => rfl) (fun _ _ => rfl)]
  dsimp only [dats]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d))
    ∗ (∃ d, owns (c : Thread nD τ) (ms22 t) fullShare ((dats m 0 c).before 22 t d))
    ∗ (∃ d, owns (c : Thread nD τ) (ms23 t) fullShare ((dats m 0 c).before 23 t d))
    ∗ (∃ d, owns (c : Thread nD τ) (ms24 t) fullShare ((dats m 0 c).before 24 t d))
    ∗ (∃ d, owns (c : Thread nD τ) (ms25 t) fullShare ((dats m 0 c).before 25 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ owns (c : Thread nD τ) (ms17 t) fullShare ((dats m 0 c).after 17 t)
    ∗ owns (c : Thread nD τ) (ms18 t) fullShare ((dats m 0 c).after 18 t)
    ∗ owns (c : Thread nD τ) (ms19 t) fullShare ((dats m 0 c).after 19 t)
    ∗ owns (c : Thread nD τ) (ms20 t) fullShare ((dats m 0 c).after 20 t)
    ∗ owns (c : Thread nD τ) (ms21 t) fullShare ((dats m 0 c).after 21 t)
    ∗ owns (c : Thread nD τ) (ms22 t) fullShare ((dats m 0 c).after 22 t)
    ∗ owns (c : Thread nD τ) (ms23 t) fullShare ((dats m 0 c).after 23 t)
    ∗ owns (c : Thread nD τ) (ms24 t) fullShare ((dats m 0 c).after 24 t)
    ∗ owns (c : Thread nD τ) (ms25 t) fullShare ((dats m 0 c).after 25 t))

set_option maxHeartbeats 19200000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25]
  rw [show (dats m 0 c).Φ t.succ = PhiS m c (t.val + 1) t.isLt from rfl, PhiS_succ]
  by_cases hz : t.val = 0
  · rw [PhiS_castSucc m c t, PhiS_zero m c _ _ hz, PhiA_eq]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply (body_triple c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM (Memref.isWhole_whole _) (blkAt m c t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    isplitl [H23]; · iexists _; iexact H23
    isplitl [H24]; · iexact H24
    isplitl [H25]; · iexists _; iexact H25
    isplitl [HS]; · iexact HS
    iintro ⟨H0, H1, H2, H3, H4, H5, H6, H7, H8, H9, H10, H11, H12, H13, H14, H15, H16, H17, H18, H19, H20, H21, H22, H23, H24, H25, HS⟩
    rw [lossAt_zero m c t hz, histAt_zero m c t hz, perpAt_zero m c t hz]
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  · rw [PhiS_castSucc m c t, PhiS_pos m c _ _ hz]
    simp only [before_24 m c t hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply (body_triple c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM (Memref.isWhole_whole _) (blkAt m c t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    isplitl [H23]; · iexists _; iexact H23
    isplitl [H24]; · iexact H24
    isplitl [H25]; · iexists _; iexact H25
    isplitl [HS]; · iexact HS
    iintro ⟨H0, H1, H2, H3, H4, H5, H6, H7, H8, H9, H10, H11, H12, H13, H14, H15, H16, H17, H18, H19, H20, H21, H22, H23, H24, H25, HS⟩
    rw [← lossAt_pos m c t hz, ← histAt_pos m c t hz, ← perpAt_pos m c t hz]
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 4000000 in
/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the resting state back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The frame claim: every run ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.KernelIdeal.Body

end
-- ==== Proof.RRun.lean ====
module

public import proofs.«01_k».proof.ReferenceIdeal
public import proofs.«01_k».proof.Proof.Gen.ReferenceIdeal
public import Idealize.ShloMosaic.Lib.Claim
public import Idealize.ShloMosaic.Lib.StableHlo.RunHlo
public import Idealize.ShloMosaic.Lib.StableHlo.RunRead

@[expose] public section

set_option maxRecDepth 65536

noncomputable section

namespace Cert.ReferenceIdeal.Body

open Idealize.ShloMosaic Idealize.SL.Sem Idealize.ShloMosaic.StableHlo Cert.ReferenceIdeal.Facts₀

/-! ## Reading a straight line at its only writer -/

section Reads

variable {τ' : Topo} {sg : RefSig} {Val : EltTy → Type} {ops : List (HloOp τ' sg Val)} {W : List (Ref sg .tc)}

/-- A buffer that no operation from position `i` on writes holds, before operation `i`, what it holds at the end. -/
theorem upto_eq_after (hW : ops.map HloOp.writes = W.map fun w => {Proc.devRef (τ := τ') .tc w}) (V : Valuation τ' sg Val)
    (i : ℕ) {r : Ref sg .tc} (hr : r ∉ W.drop i) : upto ops V i (Proc.devRef .tc r) = after ops V (Proc.devRef .tc r) := by
  have h : after ops V = after (ops.drop i) (upto ops V i) := by
    unfold upto
    conv_lhs => rw [← List.take_append_drop i ops]
    generalize ops.take i = l
    generalize ops.drop i = l'
    clear hW hr
    induction l generalizing V with
    | nil => rfl
    | cons o l ih => exact ih _
  rw [h, after_unwritten (W.drop i) (by rw [List.map_drop, hW, List.map_drop]) hr]

/-- The last writer of a buffer is what the whole line leaves there. -/
theorem after_writer (hW : ops.map HloOp.writes = W.map fun w => {Proc.devRef (τ := τ') .tc w}) (V : Valuation τ' sg Val)
    (i : ℕ) {op : HloOp τ' sg Val} {r : Ref sg .tc} (h : ops[i]? = some op) (hr : r ∉ W.drop (i + 1)) :
    after ops V (Proc.devRef .tc r) = op.result (upto ops V i) (Proc.devRef .tc r) := by
  obtain ⟨hi, he⟩ := List.getElem?_eq_some_iff.mp h
  exact after_last_write (W.drop (i + 1)) (by rw [List.drop_eq_getElem_cons hi, he]) (by rw [List.map_drop, hW, List.map_drop]) hr V

/-- A constant, read at the end of the line. -/
theorem nullary_at (hW : ops.map HloOp.writes = W.map fun w => {Proc.devRef (τ := τ') .tc w}) (V : Valuation τ' sg Val)
    (i : ℕ) {y : Ref sg .tc} {v : y.ty.Contents Val} {hy} (h : ops[i]? = some (nullary y v hy)) (hr : y ∉ W.drop (i + 1)) :
    after ops V (Proc.devRef .tc y) = v :=
  (after_writer hW V i h hr).trans (nullary_result' v hy _)

/-- An operation of one operand, read at the end of the line. -/
theorem unary_at (hW : ops.map HloOp.writes = W.map fun w => {Proc.devRef (τ := τ') .tc w}) (V : Valuation τ' sg Val)
    (i : ℕ) {x y : Ref sg .tc} {f : x.ty.Contents Val → y.ty.Contents Val} {hx hy} (h : ops[i]? = some (unary x y f hx hy))
    (hr : y ∉ W.drop (i + 1)) (hx' : x ∉ W.drop i) {u : x.ty.Contents Val} (hu : after ops V (Proc.devRef .tc x) = u) :
    after ops V (Proc.devRef .tc y) = f u := by
  rw [← hu, ← upto_eq_after hW V i hx']
  exact (after_writer hW V i h hr).trans (unary_result' f hx hy _)

/-- A change of shape, read at the end of the line. -/
theorem reshape_at (hW : ops.map HloOp.writes = W.map fun w => {Proc.devRef (τ := τ') .tc w}) (V : Valuation τ' sg Val)
    (i : ℕ) {x y : Ref sg .tc} {he hn hx hy} (h : ops[i]? = some (reshape x y he hn hx hy))
    (hr : y ∉ W.drop (i + 1)) (hx' : x ∉ W.drop i) {u : x.ty.Contents Val} (hu : after ops V (Proc.devRef .tc x) = u) :
    after ops V (Proc.devRef .tc y) = fun j => he ▸ shapeCast y.ty.shape u hn j := by
  rw [← hu, ← upto_eq_after hW V i hx']
  exact (after_writer hW V i h hr).trans (reshape_result' he hn hx hy _)

/-- An operation of two operands, read at the end of the line. -/
theorem binary_at (hW : ops.map HloOp.writes = W.map fun w => {Proc.devRef (τ := τ') .tc w}) (V : Valuation τ' sg Val)
    (i : ℕ) {a b y : Ref sg .tc} {f : a.ty.Contents Val → b.ty.Contents Val → y.ty.Contents Val} {ha hb hy}
    (h : ops[i]? = some (binary a b y f ha hb hy))
    (hr : y ∉ W.drop (i + 1)) (ha' : a ∉ W.drop i) (hb' : b ∉ W.drop i) {u : a.ty.Contents Val} {v : b.ty.Contents Val}
    (hu : after ops V (Proc.devRef .tc a) = u) (hv : after ops V (Proc.devRef .tc b) = v) :
    after ops V (Proc.devRef .tc y) = f u v := by
  rw [← hu, ← hv, ← upto_eq_after hW V i ha', ← upto_eq_after hW V i hb']
  exact (after_writer hW V i h hr).trans (binary_result' f ha hb hy _)

/-- An operation of four operands, read at the end of the line. -/
theorem quaternary_at (hW : ops.map HloOp.writes = W.map fun w => {Proc.devRef (τ := τ') .tc w}) (V : Valuation τ' sg Val)
    (i : ℕ) {a b c e y : Ref sg .tc}
    {f : a.ty.Contents Val → b.ty.Contents Val → c.ty.Contents Val → e.ty.Contents Val → y.ty.Contents Val} {ha hb hc he' hy}
    (h : ops[i]? = some (quaternary a b c e y f ha hb hc he' hy))
    (hr : y ∉ W.drop (i + 1)) (ha' : a ∉ W.drop i) (hb' : b ∉ W.drop i) (hc' : c ∉ W.drop i) (hd' : e ∉ W.drop i)
    {u : a.ty.Contents Val} {v : b.ty.Contents Val} {s : c.ty.Contents Val} {t : e.ty.Contents Val}
    (hu : after ops V (Proc.devRef .tc a) = u) (hv : after ops V (Proc.devRef .tc b) = v)
    (hs : after ops V (Proc.devRef .tc c) = s) (ht : after ops V (Proc.devRef .tc e) = t) :
    after ops V (Proc.devRef .tc y) = f u v s t := by
  rw [← hu, ← hv, ← hs, ← ht, ← upto_eq_after hW V i ha', ← upto_eq_after hW V i hb', ← upto_eq_after hW V i hc',
    ← upto_eq_after hW V i hd']
  exact (after_writer hW V i h hr).trans (quaternary_result' f ha hb hc he' hy _)

end Reads

/-! ## The line of the reference's operations -/

variable {F : FTy → Type} [FloatOps F]

set_option maxHeartbeats 4000000 in
/-- The reference's operations 0 … 23, its calls opened. -/
def ops0 : List (HloOp τ sig (Elt F)) :=
  [StableHlo.nullary main_c ((constantI S_ 32 0#32) : (⟨S_, .i32⟩ : BufTy).Contents (Elt F)),
   StableHlo.unary main_c main_call0_v0 ((sitofp .f32) : (⟨S_, .i32⟩ : BufTy).Contents (Elt F) → (⟨S_, .f32⟩ : BufTy).Contents (Elt F)),
   StableHlo.binary main_arg0 main_call0_v0 main_v0 ((fun x v => pad S32x64x2050 ![0, 0, 1] ![0, 0, 1] ![0, 0, 0] x v pads_S32x64x2048_S32x64x2050_000_000_110 h_S_) : (⟨S32x64x2048, .f32⟩ : BufTy).Contents (Elt F) → (⟨S_, .f32⟩ : BufTy).Contents (Elt F) → (⟨S32x64x2050, .f32⟩ : BufTy).Contents (Elt F)),
   StableHlo.unary main_v0 main_v1 ((Host.slice S32x64x1024 ![0, 0, 0] ![1, 1, 2] · slicesBy_S32x64x2050_S32x64x1024_0s1_0s1_0s2) : (⟨S32x64x2050, .f32⟩ : BufTy).Contents (Elt F) → (⟨S32x64x1024, .f32⟩ : BufTy).Contents (Elt F)),
   StableHlo.unary main_arg1 main_v2 ((extractStridedSlice S256x64x1 ![0, 0, 0] · slices_S256x64x4_S256x64x1_0_0_0) : (⟨S256x64x4, .f32⟩ : BufTy).Contents (Elt F) → (⟨S256x64x1, .f32⟩ : BufTy).Contents (Elt F)),
   StableHlo.reshape main_v2 main_v3 (rfl : (.f32 : EltTy) = .f32) shapeCasts_S256x64x1_S256x64,
   StableHlo.binary main_v3 main_v1 main_v4 ((fun l r => Host.dotGeneral dot_S256x64_S32x64x1024_S256x32x1024_1_1_0_02_n_n none l r) : (⟨S256x64, .f32⟩ : BufTy).Contents (Elt F) → (⟨S32x64x1024, .f32⟩ : BufTy).Contents (Elt F) → (⟨S256x32x1024, .f32⟩ : BufTy).Contents (Elt F)),
   StableHlo.unary main_v4 main_v5 ((transpose S32x256x1024 [1, 0, 2] · transposes_S256x32x1024_S32x256x1024_1_0_2) : (⟨S256x32x1024, .f32⟩ : BufTy).Contents (Elt F) → (⟨S32x256x1024, .f32⟩ : BufTy).Contents (Elt F)),
   StableHlo.nullary main_cst ((constant S_ .f32 0x00000000#32) : (⟨S_, .f32⟩ : BufTy).Contents (Elt F)),
   StableHlo.unary main_cst main_v6 (broadcastInDim S32x256x1024 ![] bcast_S_S32x256x1024 : (⟨S_, .f32⟩ : BufTy).Contents (Elt F) → (⟨S32x256x1024, .f32⟩ : BufTy).Contents (Elt F)),
   StableHlo.binary main_v6 main_v5 main_v7 (addf : (⟨S32x256x1024, .f32⟩ : BufTy).Contents (Elt F) → (⟨S32x256x1024, .f32⟩ : BufTy).Contents (Elt F) → (⟨S32x256x1024, .f32⟩ : BufTy).Contents (Elt F)),
   StableHlo.unary main_v0 main_v8 ((Host.slice S32x64x1024 ![0, 0, 1] ![1, 1, 2] · slicesBy_S32x64x2050_S32x64x1024_0s1_0s1_1s2) : (⟨S32x64x2050, .f32⟩ : BufTy).Contents (Elt F) → (⟨S32x64x1024, .f32⟩ : BufTy).Contents (Elt F)),
   StableHlo.unary main_arg1 main_v9 ((extractStridedSlice S256x64x1 ![0, 0, 1] · slices_S256x64x4_S256x64x1_0_0_1) : (⟨S256x64x4, .f32⟩ : BufTy).Contents (Elt F) → (⟨S256x64x1, .f32⟩ : BufTy).Contents (Elt F)),
   StableHlo.reshape main_v9 main_v10 (rfl : (.f32 : EltTy) = .f32) shapeCasts_S256x64x1_S256x64,
   StableHlo.binary main_v10 main_v8 main_v11 ((fun l r => Host.dotGeneral dot_S256x64_S32x64x1024_S256x32x1024_1_1_0_02_n_n none l r) : (⟨S256x64, .f32⟩ : BufTy).Contents (Elt F) → (⟨S32x64x1024, .f32⟩ : BufTy).Contents (Elt F) → (⟨S256x32x1024, .f32⟩ : BufTy).Contents (Elt F)),
   StableHlo.unary main_v11 main_v12 ((transpose S32x256x1024 [1, 0, 2] · transposes_S256x32x1024_S32x256x1024_1_0_2) : (⟨S256x32x1024, .f32⟩ : BufTy).Contents (Elt F) → (⟨S32x256x1024, .f32⟩ : BufTy).Contents (Elt F)),
   StableHlo.binary main_v7 main_v12 main_v13 (addf : (⟨S32x256x1024, .f32⟩ : BufTy).Contents (Elt F) → (⟨S32x256x1024, .f32⟩ : BufTy).Contents (Elt F) → (⟨S32x256x1024, .f32⟩ : BufTy).Contents (Elt F)),
   StableHlo.unary main_v0 main_v14 ((Host.slice S32x64x1024 ![0, 0, 2] ![1, 1, 2] · slicesBy_S32x64x2050_S32x64x1024_0s1_0s1_2s2) : (⟨S32x64x2050, .f32⟩ : BufTy).Contents (Elt F) → (⟨S32x64x1024, .f32⟩ : BufTy).Contents (Elt F)),
   StableHlo.unary main_arg1 main_v15 ((extractStridedSlice S256x64x1 ![0, 0, 2] · slices_S256x64x4_S256x64x1_0_0_2) : (⟨S256x64x4, .f32⟩ : BufTy).Contents (Elt F) → (⟨S256x64x1, .f32⟩ : BufTy).Contents (Elt F)),
   StableHlo.reshape main_v15 main_v16 (rfl : (.f32 : EltTy) = .f32) shapeCasts_S256x64x1_S256x64,
   StableHlo.binary main_v16 main_v14 main_v17 ((fun l r => Host.dotGeneral dot_S256x64_S32x64x1024_S256x32x1024_1_1_0_02_n_n none l r) : (⟨S256x64, .f32⟩ : BufTy).Contents (Elt F) → (⟨S32x64x1024, .f32⟩ : BufTy).Contents (Elt F) → (⟨S256x32x1024, .f32⟩ : BufTy).Contents (Elt F)),
   StableHlo.unary main_v17 main_v18 ((transpose S32x256x1024 [1, 0, 2] · transposes_S256x32x1024_S32x256x1024_1_0_2) : (⟨S256x32x1024, .f32⟩ : BufTy).Contents (Elt F) → (⟨S32x256x1024, .f32⟩ : BufTy).Contents (Elt F)),
   StableHlo.binary main_v13 main_v18 main_v19 (addf : (⟨S32x256x1024, .f32⟩ : BufTy).Contents (Elt F) → (⟨S32x256x1024, .f32⟩ : BufTy).Contents (Elt F) → (⟨S32x256x1024, .f32⟩ : BufTy).Contents (Elt F)),
   StableHlo.unary main_v0 main_v20 ((Host.slice S32x64x1024 ![0, 0, 3] ![1, 1, 2] · slicesBy_S32x64x2050_S32x64x1024_0s1_0s1_3s2) : (⟨S32x64x2050, .f32⟩ : BufTy).Contents (Elt F) → (⟨S32x64x1024, .f32⟩ : BufTy).Contents (Elt F))]

set_option maxHeartbeats 4000000 in
/-- The reference's operations 24 … 47, its calls opened. -/
def ops1 : List (HloOp τ sig (Elt F)) :=
  [StableHlo.unary main_arg1 main_v21 ((extractStridedSlice S256x64x1 ![0, 0, 3] · slices_S256x64x4_S256x64x1_0_0_3) : (⟨S256x64x4, .f32⟩ : BufTy).Contents (Elt F) → (⟨S256x64x1, .f32⟩ : BufTy).Contents (Elt F)),
   StableHlo.reshape main_v21 main_v22 (rfl : (.f32 : EltTy) = .f32) shapeCasts_S256x64x1_S256x64,
   StableHlo.binary main_v22 main_v20 main_v23 ((fun l r => Host.dotGeneral dot_S256x64_S32x64x1024_S256x32x1024_1_1_0_02_n_n none l r) : (⟨S256x64, .f32⟩ : BufTy).Contents (Elt F) → (⟨S32x64x1024, .f32⟩ : BufTy).Contents (Elt F) → (⟨S256x32x1024, .f32⟩ : BufTy).Contents (Elt F)),
   StableHlo.unary main_v23 main_v24 ((transpose S32x256x1024 [1, 0, 2] · transposes_S256x32x1024_S32x256x1024_1_0_2) : (⟨S256x32x1024, .f32⟩ : BufTy).Contents (Elt F) → (⟨S32x256x1024, .f32⟩ : BufTy).Contents (Elt F)),
   StableHlo.binary main_v19 main_v24 main_v25 (addf : (⟨S32x256x1024, .f32⟩ : BufTy).Contents (Elt F) → (⟨S32x256x1024, .f32⟩ : BufTy).Contents (Elt F) → (⟨S32x256x1024, .f32⟩ : BufTy).Contents (Elt F)),
   StableHlo.unary main_arg2 main_v26 (broadcastInDim S1x256x1 ![1] bcast_S256_S1x256x1_1 : (⟨S256, .f32⟩ : BufTy).Contents (Elt F) → (⟨S1x256x1, .f32⟩ : BufTy).Contents (Elt F)),
   StableHlo.unary main_v26 main_v27 (broadcastInDim S32x256x1024 ![0, 1, 2] bcast_S1x256x1_S32x256x1024_0_1_2 : (⟨S1x256x1, .f32⟩ : BufTy).Contents (Elt F) → (⟨S32x256x1024, .f32⟩ : BufTy).Contents (Elt F)),
   StableHlo.binary main_v25 main_v27 main_v28 (addf : (⟨S32x256x1024, .f32⟩ : BufTy).Contents (Elt F) → (⟨S32x256x1024, .f32⟩ : BufTy).Contents (Elt F) → (⟨S32x256x1024, .f32⟩ : BufTy).Contents (Elt F)),
   StableHlo.nullary main_call1_cst ((constant S_ .f32 0x00000000#32) : (⟨S_, .f32⟩ : BufTy).Contents (Elt F)),
   StableHlo.unary main_call1_cst main_call1_v0 ((broadcastInDim S32x256x1024 ![] bcast_S_S32x256x1024) : (⟨S_, .f32⟩ : BufTy).Contents (Elt F) → (⟨S32x256x1024, .f32⟩ : BufTy).Contents (Elt F)),
   StableHlo.binary main_v28 main_call1_v0 main_v29 (maximumf : (⟨S32x256x1024, .f32⟩ : BufTy).Contents (Elt F) → (⟨S32x256x1024, .f32⟩ : BufTy).Contents (Elt F) → (⟨S32x256x1024, .f32⟩ : BufTy).Contents (Elt F)),
   StableHlo.nullary main_c_0 ((constantI S_ 32 0#32) : (⟨S_, .i32⟩ : BufTy).Contents (Elt F)),
   StableHlo.unary main_c_0 main_call2_v0 ((sitofp .f32) : (⟨S_, .i32⟩ : BufTy).Contents (Elt F) → (⟨S_, .f32⟩ : BufTy).Contents (Elt F)),
   StableHlo.binary main_v29 main_call2_v0 main_v30 ((fun x v => pad S32x256x1026 ![0, 0, 1] ![0, 0, 1] ![0, 0, 0] x v pads_S32x256x1024_S32x256x1026_000_000_110 h_S_) : (⟨S32x256x1024, .f32⟩ : BufTy).Contents (Elt F) → (⟨S_, .f32⟩ : BufTy).Contents (Elt F) → (⟨S32x256x1026, .f32⟩ : BufTy).Contents (Elt F)),
   StableHlo.unary main_v30 main_v31 ((Host.slice S32x256x512 ![0, 0, 0] ![1, 1, 2] · slicesBy_S32x256x1026_S32x256x512_0s1_0s1_0s2) : (⟨S32x256x1026, .f32⟩ : BufTy).Contents (Elt F) → (⟨S32x256x512, .f32⟩ : BufTy).Contents (Elt F)),
   StableHlo.unary main_arg3 main_v32 ((extractStridedSlice S256x256x1 ![0, 0, 0] · slices_S256x256x4_S256x256x1_0_0_0) : (⟨S256x256x4, .f32⟩ : BufTy).Contents (Elt F) → (⟨S256x256x1, .f32⟩ : BufTy).Contents (Elt F)),
   StableHlo.reshape main_v32 main_v33 (rfl : (.f32 : EltTy) = .f32) shapeCasts_S256x256x1_S256x256,
   StableHlo.binary main_v33 main_v31 main_v34 ((fun l r => Host.dotGeneral dot_S256x256_S32x256x512_S256x32x512_1_1_0_02_n_n none l r) : (⟨S256x256, .f32⟩ : BufTy).Contents (Elt F) → (⟨S32x256x512, .f32⟩ : BufTy).Contents (Elt F) → (⟨S256x32x512, .f32⟩ : BufTy).Contents (Elt F)),
   StableHlo.unary main_v34 main_v35 ((transpose S32x256x512 [1, 0, 2] · transposes_S256x32x512_S32x256x512_1_0_2) : (⟨S256x32x512, .f32⟩ : BufTy).Contents (Elt F) → (⟨S32x256x512, .f32⟩ : BufTy).Contents (Elt F)),
   StableHlo.nullary main_cst_1 ((constant S_ .f32 0x00000000#32) : (⟨S_, .f32⟩ : BufTy).Contents (Elt F)),
   StableHlo.unary main_cst_1 main_v36 (broadcastInDim S32x256x512 ![] bcast_S_S32x256x512 : (⟨S_, .f32⟩ : BufTy).Contents (Elt F) → (⟨S32x256x512, .f32⟩ : BufTy).Contents (Elt F)),
   StableHlo.binary main_v36 main_v35 main_v37 (addf : (⟨S32x256x512, .f32⟩ : BufTy).Contents (Elt F) → (⟨S32x256x512, .f32⟩ : BufTy).Contents (Elt F) → (⟨S32x256x512, .f32⟩ : BufTy).Contents (Elt F)),
   StableHlo.unary main_v30 main_v38 ((Host.slice S32x256x512 ![0, 0, 1] ![1, 1, 2] · slicesBy_S32x256x1026_S32x256x512_0s1_0s1_1s2) : (⟨S32x256x1026, .f32⟩ : BufTy).Contents (Elt F) → (⟨S32x256x512, .f32⟩ : BufTy).Contents (Elt F)),
   StableHlo.unary main_arg3 main_v39 ((extractStridedSlice S256x256x1 ![0, 0, 1] · slices_S256x256x4_S256x256x1_0_0_1) : (⟨S256x256x4, .f32⟩ : BufTy).Contents (Elt F) → (⟨S256x256x1, .f32⟩ : BufTy).Contents (Elt F))]

set_option maxHeartbeats 4000000 in
/-- The reference's operations 48 … 71, its calls opened. -/
def ops2 : List (HloOp τ sig (Elt F)) :=
  [StableHlo.reshape main_v39 main_v40 (rfl : (.f32 : EltTy) = .f32) shapeCasts_S256x256x1_S256x256,
   StableHlo.binary main_v40 main_v38 main_v41 ((fun l r => Host.dotGeneral dot_S256x256_S32x256x512_S256x32x512_1_1_0_02_n_n none l r) : (⟨S256x256, .f32⟩ : BufTy).Contents (Elt F) → (⟨S32x256x512, .f32⟩ : BufTy).Contents (Elt F) → (⟨S256x32x512, .f32⟩ : BufTy).Contents (Elt F)),
   StableHlo.unary main_v41 main_v42 ((transpose S32x256x512 [1, 0, 2] · transposes_S256x32x512_S32x256x512_1_0_2) : (⟨S256x32x512, .f32⟩ : BufTy).Contents (Elt F) → (⟨S32x256x512, .f32⟩ : BufTy).Contents (Elt F)),
   StableHlo.binary main_v37 main_v42 main_v43 (addf : (⟨S32x256x512, .f32⟩ : BufTy).Contents (Elt F) → (⟨S32x256x512, .f32⟩ : BufTy).Contents (Elt F) → (⟨S32x256x512, .f32⟩ : BufTy).Contents (Elt F)),
   StableHlo.unary main_v30 main_v44 ((Host.slice S32x256x512 ![0, 0, 2] ![1, 1, 2] · slicesBy_S32x256x1026_S32x256x512_0s1_0s1_2s2) : (⟨S32x256x1026, .f32⟩ : BufTy).Contents (Elt F) → (⟨S32x256x512, .f32⟩ : BufTy).Contents (Elt F)),
   StableHlo.unary main_arg3 main_v45 ((extractStridedSlice S256x256x1 ![0, 0, 2] · slices_S256x256x4_S256x256x1_0_0_2) : (⟨S256x256x4, .f32⟩ : BufTy).Contents (Elt F) → (⟨S256x256x1, .f32⟩ : BufTy).Contents (Elt F)),
   StableHlo.reshape main_v45 main_v46 (rfl : (.f32 : EltTy) = .f32) shapeCasts_S256x256x1_S256x256,
   StableHlo.binary main_v46 main_v44 main_v47 ((fun l r => Host.dotGeneral dot_S256x256_S32x256x512_S256x32x512_1_1_0_02_n_n none l r) : (⟨S256x256, .f32⟩ : BufTy).Contents (Elt F) → (⟨S32x256x512, .f32⟩ : BufTy).Contents (Elt F) → (⟨S256x32x512, .f32⟩ : BufTy).Contents (Elt F)),
   StableHlo.unary main_v47 main_v48 ((transpose S32x256x512 [1, 0, 2] · transposes_S256x32x512_S32x256x512_1_0_2) : (⟨S256x32x512, .f32⟩ : BufTy).Contents (Elt F) → (⟨S32x256x512, .f32⟩ : BufTy).Contents (Elt F)),
   StableHlo.binary main_v43 main_v48 main_v49 (addf : (⟨S32x256x512, .f32⟩ : BufTy).Contents (Elt F) → (⟨S32x256x512, .f32⟩ : BufTy).Contents (Elt F) → (⟨S32x256x512, .f32⟩ : BufTy).Contents (Elt F)),
   StableHlo.unary main_v30 main_v50 ((Host.slice S32x256x512 ![0, 0, 3] ![1, 1, 2] · slicesBy_S32x256x1026_S32x256x512_0s1_0s1_3s2) : (⟨S32x256x1026, .f32⟩ : BufTy).Contents (Elt F) → (⟨S32x256x512, .f32⟩ : BufTy).Contents (Elt F)),
   StableHlo.unary main_arg3 main_v51 ((extractStridedSlice S256x256x1 ![0, 0, 3] · slices_S256x256x4_S256x256x1_0_0_3) : (⟨S256x256x4, .f32⟩ : BufTy).Contents (Elt F) → (⟨S256x256x1, .f32⟩ : BufTy).Contents (Elt F)),
   StableHlo.reshape main_v51 main_v52 (rfl : (.f32 : EltTy) = .f32) shapeCasts_S256x256x1_S256x256,
   StableHlo.binary main_v52 main_v50 main_v53 ((fun l r => Host.dotGeneral dot_S256x256_S32x256x512_S256x32x512_1_1_0_02_n_n none l r) : (⟨S256x256, .f32⟩ : BufTy).Contents (Elt F) → (⟨S32x256x512, .f32⟩ : BufTy).Contents (Elt F) → (⟨S256x32x512, .f32⟩ : BufTy).Contents (Elt F)),
   StableHlo.unary main_v53 main_v54 ((transpose S32x256x512 [1, 0, 2] · transposes_S256x32x512_S32x256x512_1_0_2) : (⟨S256x32x512, .f32⟩ : BufTy).Contents (Elt F) → (⟨S32x256x512, .f32⟩ : BufTy).Contents (Elt F)),
   StableHlo.binary main_v49 main_v54 main_v55 (addf : (⟨S32x256x512, .f32⟩ : BufTy).Contents (Elt F) → (⟨S32x256x512, .f32⟩ : BufTy).Contents (Elt F) → (⟨S32x256x512, .f32⟩ : BufTy).Contents (Elt F)),
   StableHlo.unary main_arg4 main_v56 (broadcastInDim S1x256x1 ![1] bcast_S256_S1x256x1_1 : (⟨S256, .f32⟩ : BufTy).Contents (Elt F) → (⟨S1x256x1, .f32⟩ : BufTy).Contents (Elt F)),
   StableHlo.unary main_v56 main_v57 (broadcastInDim S32x256x512 ![0, 1, 2] bcast_S1x256x1_S32x256x512_0_1_2 : (⟨S1x256x1, .f32⟩ : BufTy).Contents (Elt F) → (⟨S32x256x512, .f32⟩ : BufTy).Contents (Elt F)),
   StableHlo.binary main_v55 main_v57 main_v58 (addf : (⟨S32x256x512, .f32⟩ : BufTy).Contents (Elt F) → (⟨S32x256x512, .f32⟩ : BufTy).Contents (Elt F) → (⟨S32x256x512, .f32⟩ : BufTy).Contents (Elt F)),
   StableHlo.nullary main_call3_cst ((constant S_ .f32 0x00000000#32) : (⟨S_, .f32⟩ : BufTy).Contents (Elt F)),
   StableHlo.unary main_call3_cst main_call3_v0 ((broadcastInDim S32x256x512 ![] bcast_S_S32x256x512) : (⟨S_, .f32⟩ : BufTy).Contents (Elt F) → (⟨S32x256x512, .f32⟩ : BufTy).Contents (Elt F)),
   StableHlo.binary main_v58 main_call3_v0 main_v59 (maximumf : (⟨S32x256x512, .f32⟩ : BufTy).Contents (Elt F) → (⟨S32x256x512, .f32⟩ : BufTy).Contents (Elt F) → (⟨S32x256x512, .f32⟩ : BufTy).Contents (Elt F)),
   StableHlo.nullary main_c_2 ((constantI S_ 32 0#32) : (⟨S_, .i32⟩ : BufTy).Contents (Elt F)),
   StableHlo.unary main_c_2 main_call4_v0 ((sitofp .f32) : (⟨S_, .i32⟩ : BufTy).Contents (Elt F) → (⟨S_, .f32⟩ : BufTy).Contents (Elt F))]

set_option maxHeartbeats 4000000 in
/-- The reference's operations 72 … 95, its calls opened. -/
def ops3 : List (HloOp τ sig (Elt F)) :=
  [StableHlo.binary main_v59 main_call4_v0 main_v60 ((fun x v => pad S32x256x514 ![0, 0, 1] ![0, 0, 1] ![0, 0, 0] x v pads_S32x256x512_S32x256x514_000_000_110 h_S_) : (⟨S32x256x512, .f32⟩ : BufTy).Contents (Elt F) → (⟨S_, .f32⟩ : BufTy).Contents (Elt F) → (⟨S32x256x514, .f32⟩ : BufTy).Contents (Elt F)),
   StableHlo.unary main_v60 main_v61 ((extractStridedSlice S32x256x512 ![0, 0, 0] · slices_S32x256x514_S32x256x512_0_0_0) : (⟨S32x256x514, .f32⟩ : BufTy).Contents (Elt F) → (⟨S32x256x512, .f32⟩ : BufTy).Contents (Elt F)),
   StableHlo.unary main_arg5 main_v62 ((extractStridedSlice S64x256x1 ![0, 0, 0] · slices_S64x256x3_S64x256x1_0_0_0) : (⟨S64x256x3, .f32⟩ : BufTy).Contents (Elt F) → (⟨S64x256x1, .f32⟩ : BufTy).Contents (Elt F)),
   StableHlo.reshape main_v62 main_v63 (rfl : (.f32 : EltTy) = .f32) shapeCasts_S64x256x1_S64x256,
   StableHlo.binary main_v63 main_v61 main_v64 ((fun l r => Host.dotGeneral dot_S64x256_S32x256x512_S64x32x512_1_1_0_02_n_n none l r) : (⟨S64x256, .f32⟩ : BufTy).Contents (Elt F) → (⟨S32x256x512, .f32⟩ : BufTy).Contents (Elt F) → (⟨S64x32x512, .f32⟩ : BufTy).Contents (Elt F)),
   StableHlo.unary main_v64 main_v65 ((transpose S32x64x512 [1, 0, 2] · transposes_S64x32x512_S32x64x512_1_0_2) : (⟨S64x32x512, .f32⟩ : BufTy).Contents (Elt F) → (⟨S32x64x512, .f32⟩ : BufTy).Contents (Elt F)),
   StableHlo.nullary main_cst_3 ((constant S_ .f32 0x00000000#32) : (⟨S_, .f32⟩ : BufTy).Contents (Elt F)),
   StableHlo.unary main_cst_3 main_v66 (broadcastInDim S32x64x512 ![] bcast_S_S32x64x512 : (⟨S_, .f32⟩ : BufTy).Contents (Elt F) → (⟨S32x64x512, .f32⟩ : BufTy).Contents (Elt F)),
   StableHlo.binary main_v66 main_v65 main_v67 (addf : (⟨S32x64x512, .f32⟩ : BufTy).Contents (Elt F) → (⟨S32x64x512, .f32⟩ : BufTy).Contents (Elt F) → (⟨S32x64x512, .f32⟩ : BufTy).Contents (Elt F)),
   StableHlo.unary main_v60 main_v68 ((extractStridedSlice S32x256x512 ![0, 0, 1] · slices_S32x256x514_S32x256x512_0_0_1) : (⟨S32x256x514, .f32⟩ : BufTy).Contents (Elt F) → (⟨S32x256x512, .f32⟩ : BufTy).Contents (Elt F)),
   StableHlo.unary main_arg5 main_v69 ((extractStridedSlice S64x256x1 ![0, 0, 1] · slices_S64x256x3_S64x256x1_0_0_1) : (⟨S64x256x3, .f32⟩ : BufTy).Contents (Elt F) → (⟨S64x256x1, .f32⟩ : BufTy).Contents (Elt F)),
   StableHlo.reshape main_v69 main_v70 (rfl : (.f32 : EltTy) = .f32) shapeCasts_S64x256x1_S64x256,
   StableHlo.binary main_v70 main_v68 main_v71 ((fun l r => Host.dotGeneral dot_S64x256_S32x256x512_S64x32x512_1_1_0_02_n_n none l r) : (⟨S64x256, .f32⟩ : BufTy).Contents (Elt F) → (⟨S32x256x512, .f32⟩ : BufTy).Contents (Elt F) → (⟨S64x32x512, .f32⟩ : BufTy).Contents (Elt F)),
   StableHlo.unary main_v71 main_v72 ((transpose S32x64x512 [1, 0, 2] · transposes_S64x32x512_S32x64x512_1_0_2) : (⟨S64x32x512, .f32⟩ : BufTy).Contents (Elt F) → (⟨S32x64x512, .f32⟩ : BufTy).Contents (Elt F)),
   StableHlo.binary main_v67 main_v72 main_v73 (addf : (⟨S32x64x512, .f32⟩ : BufTy).Contents (Elt F) → (⟨S32x64x512, .f32⟩ : BufTy).Contents (Elt F) → (⟨S32x64x512, .f32⟩ : BufTy).Contents (Elt F)),
   StableHlo.unary main_v60 main_v74 ((extractStridedSlice S32x256x512 ![0, 0, 2] · slices_S32x256x514_S32x256x512_0_0_2) : (⟨S32x256x514, .f32⟩ : BufTy).Contents (Elt F) → (⟨S32x256x512, .f32⟩ : BufTy).Contents (Elt F)),
   StableHlo.unary main_arg5 main_v75 ((extractStridedSlice S64x256x1 ![0, 0, 2] · slices_S64x256x3_S64x256x1_0_0_2) : (⟨S64x256x3, .f32⟩ : BufTy).Contents (Elt F) → (⟨S64x256x1, .f32⟩ : BufTy).Contents (Elt F)),
   StableHlo.reshape main_v75 main_v76 (rfl : (.f32 : EltTy) = .f32) shapeCasts_S64x256x1_S64x256,
   StableHlo.binary main_v76 main_v74 main_v77 ((fun l r => Host.dotGeneral dot_S64x256_S32x256x512_S64x32x512_1_1_0_02_n_n none l r) : (⟨S64x256, .f32⟩ : BufTy).Contents (Elt F) → (⟨S32x256x512, .f32⟩ : BufTy).Contents (Elt F) → (⟨S64x32x512, .f32⟩ : BufTy).Contents (Elt F)),
   StableHlo.unary main_v77 main_v78 ((transpose S32x64x512 [1, 0, 2] · transposes_S64x32x512_S32x64x512_1_0_2) : (⟨S64x32x512, .f32⟩ : BufTy).Contents (Elt F) → (⟨S32x64x512, .f32⟩ : BufTy).Contents (Elt F)),
   StableHlo.binary main_v73 main_v78 main_v79 (addf : (⟨S32x64x512, .f32⟩ : BufTy).Contents (Elt F) → (⟨S32x64x512, .f32⟩ : BufTy).Contents (Elt F) → (⟨S32x64x512, .f32⟩ : BufTy).Contents (Elt F)),
   StableHlo.unary main_arg6 main_v80 (broadcastInDim S1x64x1 ![1] bcast_S64_S1x64x1_1 : (⟨S64, .f32⟩ : BufTy).Contents (Elt F) → (⟨S1x64x1, .f32⟩ : BufTy).Contents (Elt F)),
   StableHlo.unary main_v80 main_v81 (broadcastInDim S32x64x512 ![0, 1, 2] bcast_S1x64x1_S32x64x512_0_1_2 : (⟨S1x64x1, .f32⟩ : BufTy).Contents (Elt F) → (⟨S32x64x512, .f32⟩ : BufTy).Contents (Elt F)),
   StableHlo.binary main_v79 main_v81 main_v82 (addf : (⟨S32x64x512, .f32⟩ : BufTy).Contents (Elt F) → (⟨S32x64x512, .f32⟩ : BufTy).Contents (Elt F) → (⟨S32x64x512, .f32⟩ : BufTy).Contents (Elt F))]

set_option maxHeartbeats 4000000 in
/-- The reference's operations 96 … 119, its calls opened. -/
def ops4 : List (HloOp τ sig (Elt F)) :=
  [StableHlo.nullary main_call5_cst ((constant S_ .f32 0x00000000#32) : (⟨S_, .f32⟩ : BufTy).Contents (Elt F)),
   StableHlo.unary main_call5_cst main_call5_v0 ((broadcastInDim S32x64x512 ![] bcast_S_S32x64x512) : (⟨S_, .f32⟩ : BufTy).Contents (Elt F) → (⟨S32x64x512, .f32⟩ : BufTy).Contents (Elt F)),
   StableHlo.binary main_v82 main_call5_v0 main_v83 (maximumf : (⟨S32x64x512, .f32⟩ : BufTy).Contents (Elt F) → (⟨S32x64x512, .f32⟩ : BufTy).Contents (Elt F) → (⟨S32x64x512, .f32⟩ : BufTy).Contents (Elt F)),
   StableHlo.nullary main_c_4 ((constantI S_ 32 0#32) : (⟨S_, .i32⟩ : BufTy).Contents (Elt F)),
   StableHlo.unary main_c_4 main_call6_v0 ((sitofp .f32) : (⟨S_, .i32⟩ : BufTy).Contents (Elt F) → (⟨S_, .f32⟩ : BufTy).Contents (Elt F)),
   StableHlo.binary main_v83 main_call6_v0 main_v84 ((fun x v => pad S32x64x514 ![0, 0, 1] ![0, 0, 1] ![0, 0, 0] x v pads_S32x64x512_S32x64x514_000_000_110 h_S_) : (⟨S32x64x512, .f32⟩ : BufTy).Contents (Elt F) → (⟨S_, .f32⟩ : BufTy).Contents (Elt F) → (⟨S32x64x514, .f32⟩ : BufTy).Contents (Elt F)),
   StableHlo.unary main_v84 main_v85 ((extractStridedSlice S32x64x512 ![0, 0, 0] · slices_S32x64x514_S32x64x512_0_0_0) : (⟨S32x64x514, .f32⟩ : BufTy).Contents (Elt F) → (⟨S32x64x512, .f32⟩ : BufTy).Contents (Elt F)),
   StableHlo.unary main_arg7 main_v86 ((extractStridedSlice S64x64x1 ![0, 0, 0] · slices_S64x64x3_S64x64x1_0_0_0) : (⟨S64x64x3, .f32⟩ : BufTy).Contents (Elt F) → (⟨S64x64x1, .f32⟩ : BufTy).Contents (Elt F)),
   StableHlo.reshape main_v86 main_v87 (rfl : (.f32 : EltTy) = .f32) shapeCasts_S64x64x1_S64x64,
   StableHlo.binary main_v87 main_v85 main_v88 ((fun l r => Host.dotGeneral dot_S64x64_S32x64x512_S64x32x512_1_1_0_02_n_n none l r) : (⟨S64x64, .f32⟩ : BufTy).Contents (Elt F) → (⟨S32x64x512, .f32⟩ : BufTy).Contents (Elt F) → (⟨S64x32x512, .f32⟩ : BufTy).Contents (Elt F)),
   StableHlo.unary main_v88 main_v89 ((transpose S32x64x512 [1, 0, 2] · transposes_S64x32x512_S32x64x512_1_0_2) : (⟨S64x32x512, .f32⟩ : BufTy).Contents (Elt F) → (⟨S32x64x512, .f32⟩ : BufTy).Contents (Elt F)),
   StableHlo.nullary main_cst_5 ((constant S_ .f32 0x00000000#32) : (⟨S_, .f32⟩ : BufTy).Contents (Elt F)),
   StableHlo.unary main_cst_5 main_v90 (broadcastInDim S32x64x512 ![] bcast_S_S32x64x512 : (⟨S_, .f32⟩ : BufTy).Contents (Elt F) → (⟨S32x64x512, .f32⟩ : BufTy).Contents (Elt F)),
   StableHlo.binary main_v90 main_v89 main_v91 (addf : (⟨S32x64x512, .f32⟩ : BufTy).Contents (Elt F) → (⟨S32x64x512, .f32⟩ : BufTy).Contents (Elt F) → (⟨S32x64x512, .f32⟩ : BufTy).Contents (Elt F)),
   StableHlo.unary main_v84 main_v92 ((extractStridedSlice S32x64x512 ![0, 0, 1] · slices_S32x64x514_S32x64x512_0_0_1) : (⟨S32x64x514, .f32⟩ : BufTy).Contents (Elt F) → (⟨S32x64x512, .f32⟩ : BufTy).Contents (Elt F)),
   StableHlo.unary main_arg7 main_v93 ((extractStridedSlice S64x64x1 ![0, 0, 1] · slices_S64x64x3_S64x64x1_0_0_1) : (⟨S64x64x3, .f32⟩ : BufTy).Contents (Elt F) → (⟨S64x64x1, .f32⟩ : BufTy).Contents (Elt F)),
   StableHlo.reshape main_v93 main_v94 (rfl : (.f32 : EltTy) = .f32) shapeCasts_S64x64x1_S64x64,
   StableHlo.binary main_v94 main_v92 main_v95 ((fun l r => Host.dotGeneral dot_S64x64_S32x64x512_S64x32x512_1_1_0_02_n_n none l r) : (⟨S64x64, .f32⟩ : BufTy).Contents (Elt F) → (⟨S32x64x512, .f32⟩ : BufTy).Contents (Elt F) → (⟨S64x32x512, .f32⟩ : BufTy).Contents (Elt F)),
   StableHlo.unary main_v95 main_v96 ((transpose S32x64x512 [1, 0, 2] · transposes_S64x32x512_S32x64x512_1_0_2) : (⟨S64x32x512, .f32⟩ : BufTy).Contents (Elt F) → (⟨S32x64x512, .f32⟩ : BufTy).Contents (Elt F)),
   StableHlo.binary main_v91 main_v96 main_v97 (addf : (⟨S32x64x512, .f32⟩ : BufTy).Contents (Elt F) → (⟨S32x64x512, .f32⟩ : BufTy).Contents (Elt F) → (⟨S32x64x512, .f32⟩ : BufTy).Contents (Elt F)),
   StableHlo.unary main_v84 main_v98 ((extractStridedSlice S32x64x512 ![0, 0, 2] · slices_S32x64x514_S32x64x512_0_0_2) : (⟨S32x64x514, .f32⟩ : BufTy).Contents (Elt F) → (⟨S32x64x512, .f32⟩ : BufTy).Contents (Elt F)),
   StableHlo.unary main_arg7 main_v99 ((extractStridedSlice S64x64x1 ![0, 0, 2] · slices_S64x64x3_S64x64x1_0_0_2) : (⟨S64x64x3, .f32⟩ : BufTy).Contents (Elt F) → (⟨S64x64x1, .f32⟩ : BufTy).Contents (Elt F)),
   StableHlo.reshape main_v99 main_v100 (rfl : (.f32 : EltTy) = .f32) shapeCasts_S64x64x1_S64x64,
   StableHlo.binary main_v100 main_v98 main_v101 ((fun l r => Host.dotGeneral dot_S64x64_S32x64x512_S64x32x512_1_1_0_02_n_n none l r) : (⟨S64x64, .f32⟩ : BufTy).Contents (Elt F) → (⟨S32x64x512, .f32⟩ : BufTy).Contents (Elt F) → (⟨S64x32x512, .f32⟩ : BufTy).Contents (Elt F))]

set_option maxHeartbeats 4000000 in
/-- The reference's operations 120 … 143, its calls opened. -/
def ops5 : List (HloOp τ sig (Elt F)) :=
  [StableHlo.unary main_v101 main_v102 ((transpose S32x64x512 [1, 0, 2] · transposes_S64x32x512_S32x64x512_1_0_2) : (⟨S64x32x512, .f32⟩ : BufTy).Contents (Elt F) → (⟨S32x64x512, .f32⟩ : BufTy).Contents (Elt F)),
   StableHlo.binary main_v97 main_v102 main_v103 (addf : (⟨S32x64x512, .f32⟩ : BufTy).Contents (Elt F) → (⟨S32x64x512, .f32⟩ : BufTy).Contents (Elt F) → (⟨S32x64x512, .f32⟩ : BufTy).Contents (Elt F)),
   StableHlo.unary main_arg8 main_v104 (broadcastInDim S1x64x1 ![1] bcast_S64_S1x64x1_1 : (⟨S64, .f32⟩ : BufTy).Contents (Elt F) → (⟨S1x64x1, .f32⟩ : BufTy).Contents (Elt F)),
   StableHlo.unary main_v104 main_v105 (broadcastInDim S32x64x512 ![0, 1, 2] bcast_S1x64x1_S32x64x512_0_1_2 : (⟨S1x64x1, .f32⟩ : BufTy).Contents (Elt F) → (⟨S32x64x512, .f32⟩ : BufTy).Contents (Elt F)),
   StableHlo.binary main_v103 main_v105 main_v106 (addf : (⟨S32x64x512, .f32⟩ : BufTy).Contents (Elt F) → (⟨S32x64x512, .f32⟩ : BufTy).Contents (Elt F) → (⟨S32x64x512, .f32⟩ : BufTy).Contents (Elt F)),
   StableHlo.nullary main_call7_cst ((constant S_ .f32 0x00000000#32) : (⟨S_, .f32⟩ : BufTy).Contents (Elt F)),
   StableHlo.unary main_call7_cst main_call7_v0 ((broadcastInDim S32x64x512 ![] bcast_S_S32x64x512) : (⟨S_, .f32⟩ : BufTy).Contents (Elt F) → (⟨S32x64x512, .f32⟩ : BufTy).Contents (Elt F)),
   StableHlo.binary main_v106 main_call7_v0 main_v107 (maximumf : (⟨S32x64x512, .f32⟩ : BufTy).Contents (Elt F) → (⟨S32x64x512, .f32⟩ : BufTy).Contents (Elt F) → (⟨S32x64x512, .f32⟩ : BufTy).Contents (Elt F)),
   StableHlo.nullary main_c_6 ((constantI S_ 32 0#32) : (⟨S_, .i32⟩ : BufTy).Contents (Elt F)),
   StableHlo.unary main_c_6 main_call8_v0 ((sitofp .f32) : (⟨S_, .i32⟩ : BufTy).Contents (Elt F) → (⟨S_, .f32⟩ : BufTy).Contents (Elt F)),
   StableHlo.binary main_v107 main_call8_v0 main_v108 ((fun x v => pad S32x64x512 ![0, 0, 0] ![0, 0, 0] ![0, 0, 0] x v pads_S32x64x512_S32x64x512_000_000_000 h_S_) : (⟨S32x64x512, .f32⟩ : BufTy).Contents (Elt F) → (⟨S_, .f32⟩ : BufTy).Contents (Elt F) → (⟨S32x64x512, .f32⟩ : BufTy).Contents (Elt F)),
   StableHlo.reshape main_arg9 main_v109 (rfl : (.f32 : EltTy) = .f32) shapeCasts_S64x64x1_S64x64,
   StableHlo.binary main_v109 main_v108 main_v110 ((fun l r => Host.dotGeneral dot_S64x64_S32x64x512_S64x32x512_1_1_0_02_n_n none l r) : (⟨S64x64, .f32⟩ : BufTy).Contents (Elt F) → (⟨S32x64x512, .f32⟩ : BufTy).Contents (Elt F) → (⟨S64x32x512, .f32⟩ : BufTy).Contents (Elt F)),
   StableHlo.unary main_v110 main_v111 ((transpose S32x64x512 [1, 0, 2] · transposes_S64x32x512_S32x64x512_1_0_2) : (⟨S64x32x512, .f32⟩ : BufTy).Contents (Elt F) → (⟨S32x64x512, .f32⟩ : BufTy).Contents (Elt F)),
   StableHlo.nullary main_cst_7 ((constant S_ .f32 0x00000000#32) : (⟨S_, .f32⟩ : BufTy).Contents (Elt F)),
   StableHlo.unary main_cst_7 main_v112 (broadcastInDim S32x64x512 ![] bcast_S_S32x64x512 : (⟨S_, .f32⟩ : BufTy).Contents (Elt F) → (⟨S32x64x512, .f32⟩ : BufTy).Contents (Elt F)),
   StableHlo.binary main_v112 main_v111 main_v113 (addf : (⟨S32x64x512, .f32⟩ : BufTy).Contents (Elt F) → (⟨S32x64x512, .f32⟩ : BufTy).Contents (Elt F) → (⟨S32x64x512, .f32⟩ : BufTy).Contents (Elt F)),
   StableHlo.unary main_arg10 main_v114 (broadcastInDim S1x64x1 ![1] bcast_S64_S1x64x1_1 : (⟨S64, .f32⟩ : BufTy).Contents (Elt F) → (⟨S1x64x1, .f32⟩ : BufTy).Contents (Elt F)),
   StableHlo.unary main_v114 main_v115 (broadcastInDim S32x64x512 ![0, 1, 2] bcast_S1x64x1_S32x64x512_0_1_2 : (⟨S1x64x1, .f32⟩ : BufTy).Contents (Elt F) → (⟨S32x64x512, .f32⟩ : BufTy).Contents (Elt F)),
   StableHlo.binary main_v113 main_v115 main_v116 (addf : (⟨S32x64x512, .f32⟩ : BufTy).Contents (Elt F) → (⟨S32x64x512, .f32⟩ : BufTy).Contents (Elt F) → (⟨S32x64x512, .f32⟩ : BufTy).Contents (Elt F)),
   StableHlo.binary main_v82 main_v116 main_v117 (addf : (⟨S32x64x512, .f32⟩ : BufTy).Contents (Elt F) → (⟨S32x64x512, .f32⟩ : BufTy).Contents (Elt F) → (⟨S32x64x512, .f32⟩ : BufTy).Contents (Elt F)),
   StableHlo.nullary main_call9_cst ((constant S_ .f32 0x00000000#32) : (⟨S_, .f32⟩ : BufTy).Contents (Elt F)),
   StableHlo.unary main_call9_cst main_call9_v0 ((broadcastInDim S32x64x512 ![] bcast_S_S32x64x512) : (⟨S_, .f32⟩ : BufTy).Contents (Elt F) → (⟨S32x64x512, .f32⟩ : BufTy).Contents (Elt F)),
   StableHlo.binary main_v117 main_call9_v0 main_v118 (maximumf : (⟨S32x64x512, .f32⟩ : BufTy).Contents (Elt F) → (⟨S32x64x512, .f32⟩ : BufTy).Contents (Elt F) → (⟨S32x64x512, .f32⟩ : BufTy).Contents (Elt F))]

set_option maxHeartbeats 4000000 in
/-- The reference's operations 144 … 167, its calls opened. -/
def ops6 : List (HloOp τ sig (Elt F)) :=
  [StableHlo.nullary main_c_8 ((constantI S_ 32 0#32) : (⟨S_, .i32⟩ : BufTy).Contents (Elt F)),
   StableHlo.unary main_c_8 main_call10_v0 ((sitofp .f32) : (⟨S_, .i32⟩ : BufTy).Contents (Elt F) → (⟨S_, .f32⟩ : BufTy).Contents (Elt F)),
   StableHlo.binary main_v118 main_call10_v0 main_v119 ((fun x v => pad S32x64x514 ![0, 0, 1] ![0, 0, 1] ![0, 0, 0] x v pads_S32x64x512_S32x64x514_000_000_110 h_S_) : (⟨S32x64x512, .f32⟩ : BufTy).Contents (Elt F) → (⟨S_, .f32⟩ : BufTy).Contents (Elt F) → (⟨S32x64x514, .f32⟩ : BufTy).Contents (Elt F)),
   StableHlo.unary main_v119 main_v120 ((extractStridedSlice S32x64x512 ![0, 0, 0] · slices_S32x64x514_S32x64x512_0_0_0) : (⟨S32x64x514, .f32⟩ : BufTy).Contents (Elt F) → (⟨S32x64x512, .f32⟩ : BufTy).Contents (Elt F)),
   StableHlo.unary main_arg11 main_v121 ((extractStridedSlice S64x64x1 ![0, 0, 0] · slices_S64x64x3_S64x64x1_0_0_0) : (⟨S64x64x3, .f32⟩ : BufTy).Contents (Elt F) → (⟨S64x64x1, .f32⟩ : BufTy).Contents (Elt F)),
   StableHlo.reshape main_v121 main_v122 (rfl : (.f32 : EltTy) = .f32) shapeCasts_S64x64x1_S64x64,
   StableHlo.binary main_v122 main_v120 main_v123 ((fun l r => Host.dotGeneral dot_S64x64_S32x64x512_S64x32x512_1_1_0_02_n_n none l r) : (⟨S64x64, .f32⟩ : BufTy).Contents (Elt F) → (⟨S32x64x512, .f32⟩ : BufTy).Contents (Elt F) → (⟨S64x32x512, .f32⟩ : BufTy).Contents (Elt F)),
   StableHlo.unary main_v123 main_v124 ((transpose S32x64x512 [1, 0, 2] · transposes_S64x32x512_S32x64x512_1_0_2) : (⟨S64x32x512, .f32⟩ : BufTy).Contents (Elt F) → (⟨S32x64x512, .f32⟩ : BufTy).Contents (Elt F)),
   StableHlo.nullary main_cst_9 ((constant S_ .f32 0x00000000#32) : (⟨S_, .f32⟩ : BufTy).Contents (Elt F)),
   StableHlo.unary main_cst_9 main_v125 (broadcastInDim S32x64x512 ![] bcast_S_S32x64x512 : (⟨S_, .f32⟩ : BufTy).Contents (Elt F) → (⟨S32x64x512, .f32⟩ : BufTy).Contents (Elt F)),
   StableHlo.binary main_v125 main_v124 main_v126 (addf : (⟨S32x64x512, .f32⟩ : BufTy).Contents (Elt F) → (⟨S32x64x512, .f32⟩ : BufTy).Contents (Elt F) → (⟨S32x64x512, .f32⟩ : BufTy).Contents (Elt F)),
   StableHlo.unary main_v119 main_v127 ((extractStridedSlice S32x64x512 ![0, 0, 1] · slices_S32x64x514_S32x64x512_0_0_1) : (⟨S32x64x514, .f32⟩ : BufTy).Contents (Elt F) → (⟨S32x64x512, .f32⟩ : BufTy).Contents (Elt F)),
   StableHlo.unary main_arg11 main_v128 ((extractStridedSlice S64x64x1 ![0, 0, 1] · slices_S64x64x3_S64x64x1_0_0_1) : (⟨S64x64x3, .f32⟩ : BufTy).Contents (Elt F) → (⟨S64x64x1, .f32⟩ : BufTy).Contents (Elt F)),
   StableHlo.reshape main_v128 main_v129 (rfl : (.f32 : EltTy) = .f32) shapeCasts_S64x64x1_S64x64,
   StableHlo.binary main_v129 main_v127 main_v130 ((fun l r => Host.dotGeneral dot_S64x64_S32x64x512_S64x32x512_1_1_0_02_n_n none l r) : (⟨S64x64, .f32⟩ : BufTy).Contents (Elt F) → (⟨S32x64x512, .f32⟩ : BufTy).Contents (Elt F) → (⟨S64x32x512, .f32⟩ : BufTy).Contents (Elt F)),
   StableHlo.unary main_v130 main_v131 ((transpose S32x64x512 [1, 0, 2] · transposes_S64x32x512_S32x64x512_1_0_2) : (⟨S64x32x512, .f32⟩ : BufTy).Contents (Elt F) → (⟨S32x64x512, .f32⟩ : BufTy).Contents (Elt F)),
   StableHlo.binary main_v126 main_v131 main_v132 (addf : (⟨S32x64x512, .f32⟩ : BufTy).Contents (Elt F) → (⟨S32x64x512, .f32⟩ : BufTy).Contents (Elt F) → (⟨S32x64x512, .f32⟩ : BufTy).Contents (Elt F)),
   StableHlo.unary main_v119 main_v133 ((extractStridedSlice S32x64x512 ![0, 0, 2] · slices_S32x64x514_S32x64x512_0_0_2) : (⟨S32x64x514, .f32⟩ : BufTy).Contents (Elt F) → (⟨S32x64x512, .f32⟩ : BufTy).Contents (Elt F)),
   StableHlo.unary main_arg11 main_v134 ((extractStridedSlice S64x64x1 ![0, 0, 2] · slices_S64x64x3_S64x64x1_0_0_2) : (⟨S64x64x3, .f32⟩ : BufTy).Contents (Elt F) → (⟨S64x64x1, .f32⟩ : BufTy).Contents (Elt F)),
   StableHlo.reshape main_v134 main_v135 (rfl : (.f32 : EltTy) = .f32) shapeCasts_S64x64x1_S64x64,
   StableHlo.binary main_v135 main_v133 main_v136 ((fun l r => Host.dotGeneral dot_S64x64_S32x64x512_S64x32x512_1_1_0_02_n_n none l r) : (⟨S64x64, .f32⟩ : BufTy).Contents (Elt F) → (⟨S32x64x512, .f32⟩ : BufTy).Contents (Elt F) → (⟨S64x32x512, .f32⟩ : BufTy).Contents (Elt F)),
   StableHlo.unary main_v136 main_v137 ((transpose S32x64x512 [1, 0, 2] · transposes_S64x32x512_S32x64x512_1_0_2) : (⟨S64x32x512, .f32⟩ : BufTy).Contents (Elt F) → (⟨S32x64x512, .f32⟩ : BufTy).Contents (Elt F)),
   StableHlo.binary main_v132 main_v137 main_v138 (addf : (⟨S32x64x512, .f32⟩ : BufTy).Contents (Elt F) → (⟨S32x64x512, .f32⟩ : BufTy).Contents (Elt F) → (⟨S32x64x512, .f32⟩ : BufTy).Contents (Elt F)),
   StableHlo.unary main_arg12 main_v139 (broadcastInDim S1x64x1 ![1] bcast_S64_S1x64x1_1 : (⟨S64, .f32⟩ : BufTy).Contents (Elt F) → (⟨S1x64x1, .f32⟩ : BufTy).Contents (Elt F))]

set_option maxHeartbeats 4000000 in
/-- The reference's operations 168 … 191, its calls opened. -/
def ops7 : List (HloOp τ sig (Elt F)) :=
  [StableHlo.unary main_v139 main_v140 (broadcastInDim S32x64x512 ![0, 1, 2] bcast_S1x64x1_S32x64x512_0_1_2 : (⟨S1x64x1, .f32⟩ : BufTy).Contents (Elt F) → (⟨S32x64x512, .f32⟩ : BufTy).Contents (Elt F)),
   StableHlo.binary main_v138 main_v140 main_v141 (addf : (⟨S32x64x512, .f32⟩ : BufTy).Contents (Elt F) → (⟨S32x64x512, .f32⟩ : BufTy).Contents (Elt F) → (⟨S32x64x512, .f32⟩ : BufTy).Contents (Elt F)),
   StableHlo.nullary main_call11_cst ((constant S_ .f32 0x00000000#32) : (⟨S_, .f32⟩ : BufTy).Contents (Elt F)),
   StableHlo.unary main_call11_cst main_call11_v0 ((broadcastInDim S32x64x512 ![] bcast_S_S32x64x512) : (⟨S_, .f32⟩ : BufTy).Contents (Elt F) → (⟨S32x64x512, .f32⟩ : BufTy).Contents (Elt F)),
   StableHlo.binary main_v141 main_call11_v0 main_v142 (maximumf : (⟨S32x64x512, .f32⟩ : BufTy).Contents (Elt F) → (⟨S32x64x512, .f32⟩ : BufTy).Contents (Elt F) → (⟨S32x64x512, .f32⟩ : BufTy).Contents (Elt F)),
   StableHlo.nullary main_c_10 ((constantI S_ 32 0#32) : (⟨S_, .i32⟩ : BufTy).Contents (Elt F)),
   StableHlo.unary main_c_10 main_call12_v0 ((sitofp .f32) : (⟨S_, .i32⟩ : BufTy).Contents (Elt F) → (⟨S_, .f32⟩ : BufTy).Contents (Elt F)),
   StableHlo.binary main_v142 main_call12_v0 main_v143 ((fun x v => pad S32x64x512 ![0, 0, 0] ![0, 0, 0] ![0, 0, 0] x v pads_S32x64x512_S32x64x512_000_000_000 h_S_) : (⟨S32x64x512, .f32⟩ : BufTy).Contents (Elt F) → (⟨S_, .f32⟩ : BufTy).Contents (Elt F) → (⟨S32x64x512, .f32⟩ : BufTy).Contents (Elt F)),
   StableHlo.reshape main_arg13 main_v144 (rfl : (.f32 : EltTy) = .f32) shapeCasts_S64x64x1_S64x64,
   StableHlo.binary main_v144 main_v143 main_v145 ((fun l r => Host.dotGeneral dot_S64x64_S32x64x512_S64x32x512_1_1_0_02_n_n none l r) : (⟨S64x64, .f32⟩ : BufTy).Contents (Elt F) → (⟨S32x64x512, .f32⟩ : BufTy).Contents (Elt F) → (⟨S64x32x512, .f32⟩ : BufTy).Contents (Elt F)),
   StableHlo.unary main_v145 main_v146 ((transpose S32x64x512 [1, 0, 2] · transposes_S64x32x512_S32x64x512_1_0_2) : (⟨S64x32x512, .f32⟩ : BufTy).Contents (Elt F) → (⟨S32x64x512, .f32⟩ : BufTy).Contents (Elt F)),
   StableHlo.nullary main_cst_11 ((constant S_ .f32 0x00000000#32) : (⟨S_, .f32⟩ : BufTy).Contents (Elt F)),
   StableHlo.unary main_cst_11 main_v147 (broadcastInDim S32x64x512 ![] bcast_S_S32x64x512 : (⟨S_, .f32⟩ : BufTy).Contents (Elt F) → (⟨S32x64x512, .f32⟩ : BufTy).Contents (Elt F)),
   StableHlo.binary main_v147 main_v146 main_v148 (addf : (⟨S32x64x512, .f32⟩ : BufTy).Contents (Elt F) → (⟨S32x64x512, .f32⟩ : BufTy).Contents (Elt F) → (⟨S32x64x512, .f32⟩ : BufTy).Contents (Elt F)),
   StableHlo.unary main_arg14 main_v149 (broadcastInDim S1x64x1 ![1] bcast_S64_S1x64x1_1 : (⟨S64, .f32⟩ : BufTy).Contents (Elt F) → (⟨S1x64x1, .f32⟩ : BufTy).Contents (Elt F)),
   StableHlo.unary main_v149 main_v150 (broadcastInDim S32x64x512 ![0, 1, 2] bcast_S1x64x1_S32x64x512_0_1_2 : (⟨S1x64x1, .f32⟩ : BufTy).Contents (Elt F) → (⟨S32x64x512, .f32⟩ : BufTy).Contents (Elt F)),
   StableHlo.binary main_v148 main_v150 main_v151 (addf : (⟨S32x64x512, .f32⟩ : BufTy).Contents (Elt F) → (⟨S32x64x512, .f32⟩ : BufTy).Contents (Elt F) → (⟨S32x64x512, .f32⟩ : BufTy).Contents (Elt F)),
   StableHlo.binary main_v117 main_v151 main_v152 (addf : (⟨S32x64x512, .f32⟩ : BufTy).Contents (Elt F) → (⟨S32x64x512, .f32⟩ : BufTy).Contents (Elt F) → (⟨S32x64x512, .f32⟩ : BufTy).Contents (Elt F)),
   StableHlo.nullary main_call13_cst ((constant S_ .f32 0x00000000#32) : (⟨S_, .f32⟩ : BufTy).Contents (Elt F)),
   StableHlo.unary main_call13_cst main_call13_v0 ((broadcastInDim S32x64x512 ![] bcast_S_S32x64x512) : (⟨S_, .f32⟩ : BufTy).Contents (Elt F) → (⟨S32x64x512, .f32⟩ : BufTy).Contents (Elt F)),
   StableHlo.binary main_v152 main_call13_v0 main_v153 (maximumf : (⟨S32x64x512, .f32⟩ : BufTy).Contents (Elt F) → (⟨S32x64x512, .f32⟩ : BufTy).Contents (Elt F) → (⟨S32x64x512, .f32⟩ : BufTy).Contents (Elt F)),
   StableHlo.nullary main_c_12 ((constantI S_ 32 0#32) : (⟨S_, .i32⟩ : BufTy).Contents (Elt F)),
   StableHlo.unary main_c_12 main_call14_v0 ((sitofp .f32) : (⟨S_, .i32⟩ : BufTy).Contents (Elt F) → (⟨S_, .f32⟩ : BufTy).Contents (Elt F)),
   StableHlo.binary main_v153 main_call14_v0 main_v154 ((fun x v => pad S32x64x512 ![0, 0, 0] ![0, 0, 0] ![0, 0, 0] x v pads_S32x64x512_S32x64x512_000_000_000 h_S_) : (⟨S32x64x512, .f32⟩ : BufTy).Contents (Elt F) → (⟨S_, .f32⟩ : BufTy).Contents (Elt F) → (⟨S32x64x512, .f32⟩ : BufTy).Contents (Elt F))]

set_option maxHeartbeats 4000000 in
/-- The reference's operations 192 … 215, its calls opened. -/
def ops8 : List (HloOp τ sig (Elt F)) :=
  [StableHlo.reshape main_arg15 main_v155 (rfl : (.f32 : EltTy) = .f32) shapeCasts_S64x64x1_S64x64,
   StableHlo.binary main_v155 main_v154 main_v156 ((fun l r => Host.dotGeneral dot_S64x64_S32x64x512_S64x32x512_1_1_0_02_n_n none l r) : (⟨S64x64, .f32⟩ : BufTy).Contents (Elt F) → (⟨S32x64x512, .f32⟩ : BufTy).Contents (Elt F) → (⟨S64x32x512, .f32⟩ : BufTy).Contents (Elt F)),
   StableHlo.unary main_v156 main_v157 ((transpose S32x64x512 [1, 0, 2] · transposes_S64x32x512_S32x64x512_1_0_2) : (⟨S64x32x512, .f32⟩ : BufTy).Contents (Elt F) → (⟨S32x64x512, .f32⟩ : BufTy).Contents (Elt F)),
   StableHlo.nullary main_cst_13 ((constant S_ .f32 0x00000000#32) : (⟨S_, .f32⟩ : BufTy).Contents (Elt F)),
   StableHlo.unary main_cst_13 main_v158 (broadcastInDim S32x64x512 ![] bcast_S_S32x64x512 : (⟨S_, .f32⟩ : BufTy).Contents (Elt F) → (⟨S32x64x512, .f32⟩ : BufTy).Contents (Elt F)),
   StableHlo.binary main_v158 main_v157 main_v159 (addf : (⟨S32x64x512, .f32⟩ : BufTy).Contents (Elt F) → (⟨S32x64x512, .f32⟩ : BufTy).Contents (Elt F) → (⟨S32x64x512, .f32⟩ : BufTy).Contents (Elt F)),
   StableHlo.unary main_arg16 main_v160 (broadcastInDim S1x64x1 ![1] bcast_S64_S1x64x1_1 : (⟨S64, .f32⟩ : BufTy).Contents (Elt F) → (⟨S1x64x1, .f32⟩ : BufTy).Contents (Elt F)),
   StableHlo.unary main_v160 main_v161 (broadcastInDim S32x64x512 ![0, 1, 2] bcast_S1x64x1_S32x64x512_0_1_2 : (⟨S1x64x1, .f32⟩ : BufTy).Contents (Elt F) → (⟨S32x64x512, .f32⟩ : BufTy).Contents (Elt F)),
   StableHlo.binary main_v159 main_v161 main_v162 (addf : (⟨S32x64x512, .f32⟩ : BufTy).Contents (Elt F) → (⟨S32x64x512, .f32⟩ : BufTy).Contents (Elt F) → (⟨S32x64x512, .f32⟩ : BufTy).Contents (Elt F)),
   StableHlo.unary main_v162 main_v163 ((transpose S32x512x64 [0, 2, 1] · transposes_S32x64x512_S32x512x64_0_2_1) : (⟨S32x64x512, .f32⟩ : BufTy).Contents (Elt F) → (⟨S32x512x64, .f32⟩ : BufTy).Contents (Elt F)),
   StableHlo.reshape main_v163 main_v164 (rfl : (.f32 : EltTy) = .f32) shapeCasts_S32x512x64_S16384x64,
   StableHlo.binary main_v164 main_v164 main_v165 (mulf : (⟨S16384x64, .f32⟩ : BufTy).Contents (Elt F) → (⟨S16384x64, .f32⟩ : BufTy).Contents (Elt F) → (⟨S16384x64, .f32⟩ : BufTy).Contents (Elt F)),
   StableHlo.nullary main_cst_14 ((constant S_ .f32 0x00000000#32) : (⟨S_, .f32⟩ : BufTy).Contents (Elt F)),
   StableHlo.binary main_v165 main_cst_14 main_v166 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
   StableHlo.unary main_v166 main_v167 (broadcastInDim S16384x1 ![0] bcast_S16384_S16384x1_0 : (⟨S16384, .f32⟩ : BufTy).Contents (Elt F) → (⟨S16384x1, .f32⟩ : BufTy).Contents (Elt F)),
   StableHlo.binary main_arg17 main_arg17 main_v168 (mulf : (⟨S1024x64, .f32⟩ : BufTy).Contents (Elt F) → (⟨S1024x64, .f32⟩ : BufTy).Contents (Elt F) → (⟨S1024x64, .f32⟩ : BufTy).Contents (Elt F)),
   StableHlo.nullary main_cst_15 ((constant S_ .f32 0x00000000#32) : (⟨S_, .f32⟩ : BufTy).Contents (Elt F)),
   StableHlo.binary main_v168 main_cst_15 main_v169 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
   StableHlo.unary main_v169 main_v170 (broadcastInDim S1x1024 ![1] bcast_S1024_S1x1024_1 : (⟨S1024, .f32⟩ : BufTy).Contents (Elt F) → (⟨S1x1024, .f32⟩ : BufTy).Contents (Elt F)),
   StableHlo.unary main_v167 main_v171 (broadcastInDim S16384x1024 ![0, 1] bcast_S16384x1_S16384x1024_0_1 : (⟨S16384x1, .f32⟩ : BufTy).Contents (Elt F) → (⟨S16384x1024, .f32⟩ : BufTy).Contents (Elt F)),
   StableHlo.unary main_v170 main_v172 (broadcastInDim S16384x1024 ![0, 1] bcast_S1x1024_S16384x1024_0_1 : (⟨S1x1024, .f32⟩ : BufTy).Contents (Elt F) → (⟨S16384x1024, .f32⟩ : BufTy).Contents (Elt F)),
   StableHlo.binary main_v171 main_v172 main_v173 (addf : (⟨S16384x1024, .f32⟩ : BufTy).Contents (Elt F) → (⟨S16384x1024, .f32⟩ : BufTy).Contents (Elt F) → (⟨S16384x1024, .f32⟩ : BufTy).Contents (Elt F)),
   StableHlo.unary main_arg17 main_v174 ((transpose S64x1024 [1, 0] · transposes_S1024x64_S64x1024_1_0) : (⟨S1024x64, .f32⟩ : BufTy).Contents (Elt F) → (⟨S64x1024, .f32⟩ : BufTy).Contents (Elt F)),
   StableHlo.binary main_v164 main_v174 main_v175 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F))]

set_option maxHeartbeats 4000000 in
/-- The reference's operations 216 … 239, its calls opened. -/
def ops9 : List (HloOp τ sig (Elt F)) :=
  [StableHlo.nullary main_cst_16 ((constant S_ .f32 0x40000000#32) : (⟨S_, .f32⟩ : BufTy).Contents (Elt F)),
   StableHlo.unary main_cst_16 main_v176 (broadcastInDim S16384x1024 ![] bcast_S_S16384x1024 : (⟨S_, .f32⟩ : BufTy).Contents (Elt F) → (⟨S16384x1024, .f32⟩ : BufTy).Contents (Elt F)),
   StableHlo.binary main_v176 main_v175 main_v177 (mulf : (⟨S16384x1024, .f32⟩ : BufTy).Contents (Elt F) → (⟨S16384x1024, .f32⟩ : BufTy).Contents (Elt F) → (⟨S16384x1024, .f32⟩ : BufTy).Contents (Elt F)),
   StableHlo.binary main_v173 main_v177 main_v178 (subf : (⟨S16384x1024, .f32⟩ : BufTy).Contents (Elt F) → (⟨S16384x1024, .f32⟩ : BufTy).Contents (Elt F) → (⟨S16384x1024, .f32⟩ : BufTy).Contents (Elt F)),
   StableHlo.nullary main_call15_v0 ((iotaInDim S16384x1024 32 1) : (⟨S16384x1024, .i32⟩ : BufTy).Contents (Elt F)),
   StableHlo.nullary main_call15_cst ((constant S_ .f32 0x7F800000#32) : (⟨S_, .f32⟩ : BufTy).Contents (Elt F)),
   StableHlo.nullary main_call15_c ((constantI S_ 32 0#32) : (⟨S_, .i32⟩ : BufTy).Contents (Elt F)),
   StableHlo.quaternary main_v178 main_call15_v0 main_call15_cst main_call15_c main_call15_v1_0 ((fun x y u v j => (Host.argReduce reducer_argmin_f32_i32 x y u v reducesTo_S16384x1024_S16384_d1 h_S_ j).1) : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .f32⟩ : BufTy).Contents (Elt F)),
   StableHlo.quaternary main_v178 main_call15_v0 main_call15_cst main_call15_c main_v179 ((fun x y u v j => (Host.argReduce reducer_argmin_f32_i32 x y u v reducesTo_S16384x1024_S16384_d1 h_S_ j).2) : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .i32⟩ : BufTy).Contents (Elt F)),
   StableHlo.unary main_v179 main_call16_v0 ((broadcastInDim S16384x1 ![0] bcast_S16384_S16384x1_0) : (⟨S16384, .i32⟩ : BufTy).Contents (Elt F) → (⟨S16384x1, .i32⟩ : BufTy).Contents (Elt F)),
   StableHlo.nullary main_call16_v1 ((iotaInDim S1x1024 32 1) : (⟨S1x1024, .i32⟩ : BufTy).Contents (Elt F)),
   StableHlo.unary main_call16_v0 main_call16_v2 ((broadcastInDim S16384x1024 ![0, 1] bcast_S16384x1_S16384x1024_0_1) : (⟨S16384x1, .i32⟩ : BufTy).Contents (Elt F) → (⟨S16384x1024, .i32⟩ : BufTy).Contents (Elt F)),
   StableHlo.unary main_call16_v1 main_call16_v3 ((broadcastInDim S16384x1024 ![0, 1] bcast_S1x1024_S16384x1024_0_1) : (⟨S1x1024, .i32⟩ : BufTy).Contents (Elt F) → (⟨S16384x1024, .i32⟩ : BufTy).Contents (Elt F)),
   StableHlo.binary main_call16_v2 main_call16_v3 main_call16_v4 ((cmpi .eq) : (⟨S16384x1024, .i32⟩ : BufTy).Contents (Elt F) → (⟨S16384x1024, .i32⟩ : BufTy).Contents (Elt F) → (⟨S16384x1024, .i1⟩ : BufTy).Contents (Elt F)),
   StableHlo.unary main_call16_v4 main_v180 ((uitofp .f32) : (⟨S16384x1024, .i1⟩ : BufTy).Contents (Elt F) → (⟨S16384x1024, .f32⟩ : BufTy).Contents (Elt F)),
   StableHlo.binary main_v180 main_arg17 main_v181 ((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F)),
   StableHlo.reshape main_v181 main_v182 (rfl : (.f32 : EltTy) = .f32) shapeCasts_S16384x64_S32x512x64,
   StableHlo.binary main_v182 main_v163 main_v183 (subf : (⟨S32x512x64, .f32⟩ : BufTy).Contents (Elt F) → (⟨S32x512x64, .f32⟩ : BufTy).Contents (Elt F) → (⟨S32x512x64, .f32⟩ : BufTy).Contents (Elt F)),
   StableHlo.binary main_v183 main_v183 main_v184 (mulf : (⟨S32x512x64, .f32⟩ : BufTy).Contents (Elt F) → (⟨S32x512x64, .f32⟩ : BufTy).Contents (Elt F) → (⟨S32x512x64, .f32⟩ : BufTy).Contents (Elt F)),
   StableHlo.nullary main_cst_17 ((constant S_ .f32 0x00000000#32) : (⟨S_, .f32⟩ : BufTy).Contents (Elt F)),
   StableHlo.binary main_v184 main_cst_17 main_v185 ((fun x v => Host.reduceAdd x v reducesTo_S32x512x64_S_d0_1_2 h_S_) : (⟨S32x512x64, .f32⟩ : BufTy).Contents (Elt F) → (⟨S_, .f32⟩ : BufTy).Contents (Elt F) → (⟨S_, .f32⟩ : BufTy).Contents (Elt F)),
   StableHlo.nullary main_cst_18 ((constant S_ .f32 0x49800000#32) : (⟨S_, .f32⟩ : BufTy).Contents (Elt F)),
   StableHlo.binary main_v185 main_cst_18 main_v186 (Host.divf : (⟨S_, .f32⟩ : BufTy).Contents (Elt F) → (⟨S_, .f32⟩ : BufTy).Contents (Elt F) → (⟨S_, .f32⟩ : BufTy).Contents (Elt F)),
   StableHlo.binary main_v182 main_v163 main_v187 (subf : (⟨S32x512x64, .f32⟩ : BufTy).Contents (Elt F) → (⟨S32x512x64, .f32⟩ : BufTy).Contents (Elt F) → (⟨S32x512x64, .f32⟩ : BufTy).Contents (Elt F))]

set_option maxHeartbeats 4000000 in
/-- The reference's operations 240 … 263, its calls opened. -/
def ops10 : List (HloOp τ sig (Elt F)) :=
  [StableHlo.binary main_v187 main_v187 main_v188 (mulf : (⟨S32x512x64, .f32⟩ : BufTy).Contents (Elt F) → (⟨S32x512x64, .f32⟩ : BufTy).Contents (Elt F) → (⟨S32x512x64, .f32⟩ : BufTy).Contents (Elt F)),
   StableHlo.nullary main_cst_19 ((constant S_ .f32 0x00000000#32) : (⟨S_, .f32⟩ : BufTy).Contents (Elt F)),
   StableHlo.binary main_v188 main_cst_19 main_v189 ((fun x v => Host.reduceAdd x v reducesTo_S32x512x64_S_d0_1_2 h_S_) : (⟨S32x512x64, .f32⟩ : BufTy).Contents (Elt F) → (⟨S_, .f32⟩ : BufTy).Contents (Elt F) → (⟨S_, .f32⟩ : BufTy).Contents (Elt F)),
   StableHlo.nullary main_cst_20 ((constant S_ .f32 0x49800000#32) : (⟨S_, .f32⟩ : BufTy).Contents (Elt F)),
   StableHlo.binary main_v189 main_cst_20 main_v190 (Host.divf : (⟨S_, .f32⟩ : BufTy).Contents (Elt F) → (⟨S_, .f32⟩ : BufTy).Contents (Elt F) → (⟨S_, .f32⟩ : BufTy).Contents (Elt F)),
   StableHlo.nullary main_cst_21 ((constant S_ .f32 0x3E800000#32) : (⟨S_, .f32⟩ : BufTy).Contents (Elt F)),
   StableHlo.binary main_cst_21 main_v190 main_v191 (mulf : (⟨S_, .f32⟩ : BufTy).Contents (Elt F) → (⟨S_, .f32⟩ : BufTy).Contents (Elt F) → (⟨S_, .f32⟩ : BufTy).Contents (Elt F)),
   StableHlo.binary main_v186 main_v191 main_v192 (addf : (⟨S_, .f32⟩ : BufTy).Contents (Elt F) → (⟨S_, .f32⟩ : BufTy).Contents (Elt F) → (⟨S_, .f32⟩ : BufTy).Contents (Elt F)),
   StableHlo.binary main_v182 main_v163 main_v193 (subf : (⟨S32x512x64, .f32⟩ : BufTy).Contents (Elt F) → (⟨S32x512x64, .f32⟩ : BufTy).Contents (Elt F) → (⟨S32x512x64, .f32⟩ : BufTy).Contents (Elt F)),
   StableHlo.binary main_v163 main_v193 main_v194 (addf : (⟨S32x512x64, .f32⟩ : BufTy).Contents (Elt F) → (⟨S32x512x64, .f32⟩ : BufTy).Contents (Elt F) → (⟨S32x512x64, .f32⟩ : BufTy).Contents (Elt F)),
   StableHlo.nullary main_cst_22 ((constant S_ .f32 0x00000000#32) : (⟨S_, .f32⟩ : BufTy).Contents (Elt F)),
   StableHlo.binary main_v180 main_cst_22 main_v195 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
   StableHlo.nullary main_cst_23 ((constant S_ .f32 0x46800000#32) : (⟨S_, .f32⟩ : BufTy).Contents (Elt F)),
   StableHlo.unary main_cst_23 main_v196 (broadcastInDim S1024 ![] bcast_S_S1024 : (⟨S_, .f32⟩ : BufTy).Contents (Elt F) → (⟨S1024, .f32⟩ : BufTy).Contents (Elt F)),
   StableHlo.binary main_v195 main_v196 main_v197 (Host.divf : (⟨S1024, .f32⟩ : BufTy).Contents (Elt F) → (⟨S1024, .f32⟩ : BufTy).Contents (Elt F) → (⟨S1024, .f32⟩ : BufTy).Contents (Elt F)),
   StableHlo.nullary main_cst_24 ((constant S_ .f32 0x2EDBE6FF#32) : (⟨S_, .f32⟩ : BufTy).Contents (Elt F)),
   StableHlo.unary main_cst_24 main_v198 (broadcastInDim S1024 ![] bcast_S_S1024 : (⟨S_, .f32⟩ : BufTy).Contents (Elt F) → (⟨S1024, .f32⟩ : BufTy).Contents (Elt F)),
   StableHlo.binary main_v197 main_v198 main_v199 (addf : (⟨S1024, .f32⟩ : BufTy).Contents (Elt F) → (⟨S1024, .f32⟩ : BufTy).Contents (Elt F) → (⟨S1024, .f32⟩ : BufTy).Contents (Elt F)),
   StableHlo.unary main_v199 main_v200 (Host.log : (⟨S1024, .f32⟩ : BufTy).Contents (Elt F) → (⟨S1024, .f32⟩ : BufTy).Contents (Elt F)),
   StableHlo.binary main_v197 main_v200 main_v201 (mulf : (⟨S1024, .f32⟩ : BufTy).Contents (Elt F) → (⟨S1024, .f32⟩ : BufTy).Contents (Elt F) → (⟨S1024, .f32⟩ : BufTy).Contents (Elt F)),
   StableHlo.nullary main_cst_25 ((constant S_ .f32 0x00000000#32) : (⟨S_, .f32⟩ : BufTy).Contents (Elt F)),
   StableHlo.binary main_v201 main_cst_25 main_v202 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
   StableHlo.unary main_v202 main_v203 (Host.negf : (⟨S_, .f32⟩ : BufTy).Contents (Elt F) → (⟨S_, .f32⟩ : BufTy).Contents (Elt F)),
   StableHlo.unary main_v203 main_v204 (Host.exp : (⟨S_, .f32⟩ : BufTy).Contents (Elt F) → (⟨S_, .f32⟩ : BufTy).Contents (Elt F))]

/-- The reference's operations in order, its calls opened. -/
def opsR : List (HloOp τ sig (Elt F)) :=
  ops0 ++ (ops1 ++ (ops2 ++ (ops3 ++ (ops4 ++ (ops5 ++ (ops6 ++ (ops7 ++ (ops8 ++ (ops9 ++ (ops10))))))))))

/-- The buffers the operations write, in order. -/
def wrR : List (Ref sig .tc) :=
  [main_c, main_call0_v0, main_v0, main_v1, main_v2, main_v3, main_v4, main_v5,
   main_cst, main_v6, main_v7, main_v8, main_v9, main_v10, main_v11, main_v12,
   main_v13, main_v14, main_v15, main_v16, main_v17, main_v18, main_v19, main_v20,
   main_v21, main_v22, main_v23, main_v24, main_v25, main_v26, main_v27, main_v28,
   main_call1_cst, main_call1_v0, main_v29, main_c_0, main_call2_v0, main_v30, main_v31, main_v32,
   main_v33, main_v34, main_v35, main_cst_1, main_v36, main_v37, main_v38, main_v39,
   main_v40, main_v41, main_v42, main_v43, main_v44, main_v45, main_v46, main_v47,
   main_v48, main_v49, main_v50, main_v51, main_v52, main_v53, main_v54, main_v55,
   main_v56, main_v57, main_v58, main_call3_cst, main_call3_v0, main_v59, main_c_2, main_call4_v0,
   main_v60, main_v61, main_v62, main_v63, main_v64, main_v65, main_cst_3, main_v66,
   main_v67, main_v68, main_v69, main_v70, main_v71, main_v72, main_v73, main_v74,
   main_v75, main_v76, main_v77, main_v78, main_v79, main_v80, main_v81, main_v82,
   main_call5_cst, main_call5_v0, main_v83, main_c_4, main_call6_v0, main_v84, main_v85, main_v86,
   main_v87, main_v88, main_v89, main_cst_5, main_v90, main_v91, main_v92, main_v93,
   main_v94, main_v95, main_v96, main_v97, main_v98, main_v99, main_v100, main_v101,
   main_v102, main_v103, main_v104, main_v105, main_v106, main_call7_cst, main_call7_v0, main_v107,
   main_c_6, main_call8_v0, main_v108, main_v109, main_v110, main_v111, main_cst_7, main_v112,
   main_v113, main_v114, main_v115, main_v116, main_v117, main_call9_cst, main_call9_v0, main_v118,
   main_c_8, main_call10_v0, main_v119, main_v120, main_v121, main_v122, main_v123, main_v124,
   main_cst_9, main_v125, main_v126, main_v127, main_v128, main_v129, main_v130, main_v131,
   main_v132, main_v133, main_v134, main_v135, main_v136, main_v137, main_v138, main_v139,
   main_v140, main_v141, main_call11_cst, main_call11_v0, main_v142, main_c_10, main_call12_v0, main_v143,
   main_v144, main_v145, main_v146, main_cst_11, main_v147, main_v148, main_v149, main_v150,
   main_v151, main_v152, main_call13_cst, main_call13_v0, main_v153, main_c_12, main_call14_v0, main_v154,
   main_v155, main_v156, main_v157, main_cst_13, main_v158, main_v159, main_v160, main_v161,
   main_v162, main_v163, main_v164, main_v165, main_cst_14, main_v166, main_v167, main_v168,
   main_cst_15, main_v169, main_v170, main_v171, main_v172, main_v173, main_v174, main_v175,
   main_cst_16, main_v176, main_v177, main_v178, main_call15_v0, main_call15_cst, main_call15_c, main_call15_v1_0,
   main_v179, main_call16_v0, main_call16_v1, main_call16_v2, main_call16_v3, main_call16_v4, main_v180, main_v181,
   main_v182, main_v183, main_v184, main_cst_17, main_v185, main_cst_18, main_v186, main_v187,
   main_v188, main_cst_19, main_v189, main_cst_20, main_v190, main_cst_21, main_v191, main_v192,
   main_v193, main_v194, main_cst_22, main_v195, main_cst_23, main_v196, main_v197, main_cst_24,
   main_v198, main_v199, main_v200, main_v201, main_cst_25, main_v202, main_v203, main_v204]

set_option maxHeartbeats 4000000 in
/-- The reference is the line of its operations. -/
theorem main_seq (c : Dev nD) : IsSeq (main (F := F) c) opsR := by
  hlo_seq

/-- Each operation writes its own buffer. -/
theorem wrR_eq : (opsR (F := F)).map HloOp.writes = wrR.map fun w => {Proc.devRef (τ := τ) .tc w} := rfl

set_option maxHeartbeats 4000000 in
/-- Every run of the reference ends at the operations' fold over the launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after opsR (launchContents m d) (Proc.devRef .tc b) :=
  run_hlo _ _ main_seq (by decide) (by decide) (by simp [opsR, ops0, ops1, ops2, ops3, ops4, ops5, ops6, ops7, ops8, ops9, ops10])
    (by intro _ h; (repeat (cases h with | head => rfl | tail _ h => ?_)); exact nomatch h) m ρ

/-- An argument buffer keeps its contents. -/
theorem after_arg (V : Valuation τ sig (Elt F)) {r : Ref sig .tc} (hr : r ∉ wrR) :
    after opsR V (Proc.devRef .tc r) = V (Proc.devRef .tc r) := after_unwritten wrR wrR_eq hr V

end Cert.ReferenceIdeal.Body

end
-- ==== Proof.RFrame.lean ====
module

public import proofs.«01_k».proof.Proof.RRun
public import Idealize.ShloMosaic.Lib.Quiescent

@[expose] public section

set_option maxRecDepth 65536

noncomputable section

namespace Cert.ReferenceIdeal.Body

open Idealize.ShloMosaic Idealize.SL.Sem Idealize.ShloMosaic.StableHlo

variable {F : FTy → Type} [FloatOps F] (m : (ℓ : Loc nD τ sig) → Buf (Elt F) ℓ) (ρ : Dev nD → PrngReg)

/-- The reference's frame: every run ends with the argument arrays unchanged and every semaphore counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) := by
  refine θ_run_mono (run m ρ) fun r h => ⟨fun c => ?_, sem_eq_zero_of_no_sems (by decide) r.2⟩
  refine ⟨?_, ?_, ?_, ?_, ?_, ?_, ?_, ?_, ?_, ?_, ?_, ?_, ?_, ?_, ?_, ?_, ?_, ?_⟩ <;>
    exact (h c _).trans (after_arg _ (by decide +kernel))

end Cert.ReferenceIdeal.Body

end
-- ==== Proof.RVals.lean ====
module

public import Idealize.ShloMosaic.Lib.Pointwise
public import proofs.«01_k».proof.ReferenceIdeal
public import proofs.«01_k».proof.Proof.Gen.ReferenceIdeal

@[expose] public section

set_option maxRecDepth 65536

noncomputable section

namespace Cert.ReferenceIdeal.Body

open Idealize.ShloMosaic Idealize.SL.Sem Idealize.ShloMosaic.StableHlo Cert.ReferenceIdeal.Facts₀

/-- The reference's eighteen argument arrays. -/
structure Args where
  a0 : FVec Ideal S32x64x2048 .f32
  a1 : FVec Ideal S256x64x4 .f32
  a2 : FVec Ideal S256 .f32
  a3 : FVec Ideal S256x256x4 .f32
  a4 : FVec Ideal S256 .f32
  a5 : FVec Ideal S64x256x3 .f32
  a6 : FVec Ideal S64 .f32
  a7 : FVec Ideal S64x64x3 .f32
  a8 : FVec Ideal S64 .f32
  a9 : FVec Ideal S64x64x1 .f32
  a10 : FVec Ideal S64 .f32
  a11 : FVec Ideal S64x64x3 .f32
  a12 : FVec Ideal S64 .f32
  a13 : FVec Ideal S64x64x1 .f32
  a14 : FVec Ideal S64 .f32
  a15 : FVec Ideal S64x64x1 .f32
  a16 : FVec Ideal S64 .f32
  a17 : FVec Ideal S1024x64 .f32

/-- Argument 0. -/
def w_arg0 (A : Args) : FVec Ideal S32x64x2048 .f32 := A.a0
/-- Argument 1. -/
def w_arg1 (A : Args) : FVec Ideal S256x64x4 .f32 := A.a1
/-- Argument 2. -/
def w_arg2 (A : Args) : FVec Ideal S256 .f32 := A.a2
/-- Argument 3. -/
def w_arg3 (A : Args) : FVec Ideal S256x256x4 .f32 := A.a3
/-- Argument 4. -/
def w_arg4 (A : Args) : FVec Ideal S256 .f32 := A.a4
/-- Argument 5. -/
def w_arg5 (A : Args) : FVec Ideal S64x256x3 .f32 := A.a5
/-- Argument 6. -/
def w_arg6 (A : Args) : FVec Ideal S64 .f32 := A.a6
/-- Argument 7. -/
def w_arg7 (A : Args) : FVec Ideal S64x64x3 .f32 := A.a7
/-- Argument 8. -/
def w_arg8 (A : Args) : FVec Ideal S64 .f32 := A.a8
/-- Argument 9. -/
def w_arg9 (A : Args) : FVec Ideal S64x64x1 .f32 := A.a9
/-- Argument 10. -/
def w_arg10 (A : Args) : FVec Ideal S64 .f32 := A.a10
/-- Argument 11. -/
def w_arg11 (A : Args) : FVec Ideal S64x64x3 .f32 := A.a11
/-- Argument 12. -/
def w_arg12 (A : Args) : FVec Ideal S64 .f32 := A.a12
/-- Argument 13. -/
def w_arg13 (A : Args) : FVec Ideal S64x64x1 .f32 := A.a13
/-- Argument 14. -/
def w_arg14 (A : Args) : FVec Ideal S64 .f32 := A.a14
/-- Argument 15. -/
def w_arg15 (A : Args) : FVec Ideal S64x64x1 .f32 := A.a15
/-- Argument 16. -/
def w_arg16 (A : Args) : FVec Ideal S64 .f32 := A.a16
/-- Argument 17. -/
def w_arg17 (A : Args) : FVec Ideal S1024x64 .f32 := A.a17

/-- The reference's value `main_c`. -/
def w_c (A : Args) : IVec S_ 32 :=
  (constantI S_ 32 0#32)
/-- The reference's value `main_call0_v0`. -/
def w_call0_v0 (A : Args) : FVec Ideal S_ .f32 :=
  (sitofp .f32) (w_c A)
/-- The reference's value `main_v0`. -/
def w_v0 (A : Args) : FVec Ideal S32x64x2050 .f32 :=
  pad S32x64x2050 ![0, 0, 1] ![0, 0, 1] ![0, 0, 0] (w_arg0 A) (w_call0_v0 A) pads_S32x64x2048_S32x64x2050_000_000_110 h_S_
/-- The reference's value `main_v1`. -/
def w_v1 (A : Args) : FVec Ideal S32x64x1024 .f32 :=
  Host.slice S32x64x1024 ![0, 0, 0] ![1, 1, 2] (w_v0 A) slicesBy_S32x64x2050_S32x64x1024_0s1_0s1_0s2
/-- The reference's value `main_v2`. -/
def w_v2 (A : Args) : FVec Ideal S256x64x1 .f32 :=
  extractStridedSlice S256x64x1 ![0, 0, 0] (w_arg1 A) slices_S256x64x4_S256x64x1_0_0_0
/-- The reference's value `main_v3`. -/
def w_v3 (A : Args) : FVec Ideal S256x64 .f32 :=
  shapeCast S256x64 (w_v2 A) shapeCasts_S256x64x1_S256x64
/-- The reference's value `main_v4`. -/
def w_v4 (A : Args) : FVec Ideal S256x32x1024 .f32 :=
  Host.dotGeneral dot_S256x64_S32x64x1024_S256x32x1024_1_1_0_02_n_n none (w_v3 A) (w_v1 A)
/-- The reference's value `main_v5`. -/
def w_v5 (A : Args) : FVec Ideal S32x256x1024 .f32 :=
  transpose S32x256x1024 [1, 0, 2] (w_v4 A) transposes_S256x32x1024_S32x256x1024_1_0_2
/-- The reference's value `main_cst`. -/
def w_cst (A : Args) : FVec Ideal S_ .f32 :=
  (constant S_ .f32 0x00000000#32)
/-- The reference's value `main_v6`. -/
def w_v6 (A : Args) : FVec Ideal S32x256x1024 .f32 :=
  broadcastInDim S32x256x1024 ![] bcast_S_S32x256x1024 (w_cst A)
/-- The reference's value `main_v7`. -/
def w_v7 (A : Args) : FVec Ideal S32x256x1024 .f32 :=
  addf (w_v6 A) (w_v5 A)
/-- The reference's value `main_v8`. -/
def w_v8 (A : Args) : FVec Ideal S32x64x1024 .f32 :=
  Host.slice S32x64x1024 ![0, 0, 1] ![1, 1, 2] (w_v0 A) slicesBy_S32x64x2050_S32x64x1024_0s1_0s1_1s2
/-- The reference's value `main_v9`. -/
def w_v9 (A : Args) : FVec Ideal S256x64x1 .f32 :=
  extractStridedSlice S256x64x1 ![0, 0, 1] (w_arg1 A) slices_S256x64x4_S256x64x1_0_0_1
/-- The reference's value `main_v10`. -/
def w_v10 (A : Args) : FVec Ideal S256x64 .f32 :=
  shapeCast S256x64 (w_v9 A) shapeCasts_S256x64x1_S256x64
/-- The reference's value `main_v11`. -/
def w_v11 (A : Args) : FVec Ideal S256x32x1024 .f32 :=
  Host.dotGeneral dot_S256x64_S32x64x1024_S256x32x1024_1_1_0_02_n_n none (w_v10 A) (w_v8 A)
/-- The reference's value `main_v12`. -/
def w_v12 (A : Args) : FVec Ideal S32x256x1024 .f32 :=
  transpose S32x256x1024 [1, 0, 2] (w_v11 A) transposes_S256x32x1024_S32x256x1024_1_0_2
/-- The reference's value `main_v13`. -/
def w_v13 (A : Args) : FVec Ideal S32x256x1024 .f32 :=
  addf (w_v7 A) (w_v12 A)
/-- The reference's value `main_v14`. -/
def w_v14 (A : Args) : FVec Ideal S32x64x1024 .f32 :=
  Host.slice S32x64x1024 ![0, 0, 2] ![1, 1, 2] (w_v0 A) slicesBy_S32x64x2050_S32x64x1024_0s1_0s1_2s2
/-- The reference's value `main_v15`. -/
def w_v15 (A : Args) : FVec Ideal S256x64x1 .f32 :=
  extractStridedSlice S256x64x1 ![0, 0, 2] (w_arg1 A) slices_S256x64x4_S256x64x1_0_0_2
/-- The reference's value `main_v16`. -/
def w_v16 (A : Args) : FVec Ideal S256x64 .f32 :=
  shapeCast S256x64 (w_v15 A) shapeCasts_S256x64x1_S256x64
/-- The reference's value `main_v17`. -/
def w_v17 (A : Args) : FVec Ideal S256x32x1024 .f32 :=
  Host.dotGeneral dot_S256x64_S32x64x1024_S256x32x1024_1_1_0_02_n_n none (w_v16 A) (w_v14 A)
/-- The reference's value `main_v18`. -/
def w_v18 (A : Args) : FVec Ideal S32x256x1024 .f32 :=
  transpose S32x256x1024 [1, 0, 2] (w_v17 A) transposes_S256x32x1024_S32x256x1024_1_0_2
/-- The reference's value `main_v19`. -/
def w_v19 (A : Args) : FVec Ideal S32x256x1024 .f32 :=
  addf (w_v13 A) (w_v18 A)
/-- The reference's value `main_v20`. -/
def w_v20 (A : Args) : FVec Ideal S32x64x1024 .f32 :=
  Host.slice S32x64x1024 ![0, 0, 3] ![1, 1, 2] (w_v0 A) slicesBy_S32x64x2050_S32x64x1024_0s1_0s1_3s2
/-- The reference's value `main_v21`. -/
def w_v21 (A : Args) : FVec Ideal S256x64x1 .f32 :=
  extractStridedSlice S256x64x1 ![0, 0, 3] (w_arg1 A) slices_S256x64x4_S256x64x1_0_0_3
/-- The reference's value `main_v22`. -/
def w_v22 (A : Args) : FVec Ideal S256x64 .f32 :=
  shapeCast S256x64 (w_v21 A) shapeCasts_S256x64x1_S256x64
/-- The reference's value `main_v23`. -/
def w_v23 (A : Args) : FVec Ideal S256x32x1024 .f32 :=
  Host.dotGeneral dot_S256x64_S32x64x1024_S256x32x1024_1_1_0_02_n_n none (w_v22 A) (w_v20 A)
/-- The reference's value `main_v24`. -/
def w_v24 (A : Args) : FVec Ideal S32x256x1024 .f32 :=
  transpose S32x256x1024 [1, 0, 2] (w_v23 A) transposes_S256x32x1024_S32x256x1024_1_0_2
/-- The reference's value `main_v25`. -/
def w_v25 (A : Args) : FVec Ideal S32x256x1024 .f32 :=
  addf (w_v19 A) (w_v24 A)
/-- The reference's value `main_v26`. -/
def w_v26 (A : Args) : FVec Ideal S1x256x1 .f32 :=
  broadcastInDim S1x256x1 ![1] bcast_S256_S1x256x1_1 (w_arg2 A)
/-- The reference's value `main_v27`. -/
def w_v27 (A : Args) : FVec Ideal S32x256x1024 .f32 :=
  broadcastInDim S32x256x1024 ![0, 1, 2] bcast_S1x256x1_S32x256x1024_0_1_2 (w_v26 A)
/-- The reference's value `main_v28`. -/
def w_v28 (A : Args) : FVec Ideal S32x256x1024 .f32 :=
  addf (w_v25 A) (w_v27 A)
/-- The reference's value `main_call1_cst`. -/
def w_call1_cst (A : Args) : FVec Ideal S_ .f32 :=
  (constant S_ .f32 0x00000000#32)
/-- The reference's value `main_call1_v0`. -/
def w_call1_v0 (A : Args) : FVec Ideal S32x256x1024 .f32 :=
  (broadcastInDim S32x256x1024 ![] bcast_S_S32x256x1024) (w_call1_cst A)
/-- The reference's value `main_v29`. -/
def w_v29 (A : Args) : FVec Ideal S32x256x1024 .f32 :=
  maximumf (w_v28 A) (w_call1_v0 A)
/-- The reference's value `main_c_0`. -/
def w_c_0 (A : Args) : IVec S_ 32 :=
  (constantI S_ 32 0#32)
/-- The reference's value `main_call2_v0`. -/
def w_call2_v0 (A : Args) : FVec Ideal S_ .f32 :=
  (sitofp .f32) (w_c_0 A)
/-- The reference's value `main_v30`. -/
def w_v30 (A : Args) : FVec Ideal S32x256x1026 .f32 :=
  pad S32x256x1026 ![0, 0, 1] ![0, 0, 1] ![0, 0, 0] (w_v29 A) (w_call2_v0 A) pads_S32x256x1024_S32x256x1026_000_000_110 h_S_
/-- The reference's value `main_v31`. -/
def w_v31 (A : Args) : FVec Ideal S32x256x512 .f32 :=
  Host.slice S32x256x512 ![0, 0, 0] ![1, 1, 2] (w_v30 A) slicesBy_S32x256x1026_S32x256x512_0s1_0s1_0s2
/-- The reference's value `main_v32`. -/
def w_v32 (A : Args) : FVec Ideal S256x256x1 .f32 :=
  extractStridedSlice S256x256x1 ![0, 0, 0] (w_arg3 A) slices_S256x256x4_S256x256x1_0_0_0
/-- The reference's value `main_v33`. -/
def w_v33 (A : Args) : FVec Ideal S256x256 .f32 :=
  shapeCast S256x256 (w_v32 A) shapeCasts_S256x256x1_S256x256
/-- The reference's value `main_v34`. -/
def w_v34 (A : Args) : FVec Ideal S256x32x512 .f32 :=
  Host.dotGeneral dot_S256x256_S32x256x512_S256x32x512_1_1_0_02_n_n none (w_v33 A) (w_v31 A)
/-- The reference's value `main_v35`. -/
def w_v35 (A : Args) : FVec Ideal S32x256x512 .f32 :=
  transpose S32x256x512 [1, 0, 2] (w_v34 A) transposes_S256x32x512_S32x256x512_1_0_2
/-- The reference's value `main_cst_1`. -/
def w_cst_1 (A : Args) : FVec Ideal S_ .f32 :=
  (constant S_ .f32 0x00000000#32)
/-- The reference's value `main_v36`. -/
def w_v36 (A : Args) : FVec Ideal S32x256x512 .f32 :=
  broadcastInDim S32x256x512 ![] bcast_S_S32x256x512 (w_cst_1 A)
/-- The reference's value `main_v37`. -/
def w_v37 (A : Args) : FVec Ideal S32x256x512 .f32 :=
  addf (w_v36 A) (w_v35 A)
/-- The reference's value `main_v38`. -/
def w_v38 (A : Args) : FVec Ideal S32x256x512 .f32 :=
  Host.slice S32x256x512 ![0, 0, 1] ![1, 1, 2] (w_v30 A) slicesBy_S32x256x1026_S32x256x512_0s1_0s1_1s2
/-- The reference's value `main_v39`. -/
def w_v39 (A : Args) : FVec Ideal S256x256x1 .f32 :=
  extractStridedSlice S256x256x1 ![0, 0, 1] (w_arg3 A) slices_S256x256x4_S256x256x1_0_0_1
/-- The reference's value `main_v40`. -/
def w_v40 (A : Args) : FVec Ideal S256x256 .f32 :=
  shapeCast S256x256 (w_v39 A) shapeCasts_S256x256x1_S256x256
/-- The reference's value `main_v41`. -/
def w_v41 (A : Args) : FVec Ideal S256x32x512 .f32 :=
  Host.dotGeneral dot_S256x256_S32x256x512_S256x32x512_1_1_0_02_n_n none (w_v40 A) (w_v38 A)
/-- The reference's value `main_v42`. -/
def w_v42 (A : Args) : FVec Ideal S32x256x512 .f32 :=
  transpose S32x256x512 [1, 0, 2] (w_v41 A) transposes_S256x32x512_S32x256x512_1_0_2
/-- The reference's value `main_v43`. -/
def w_v43 (A : Args) : FVec Ideal S32x256x512 .f32 :=
  addf (w_v37 A) (w_v42 A)
/-- The reference's value `main_v44`. -/
def w_v44 (A : Args) : FVec Ideal S32x256x512 .f32 :=
  Host.slice S32x256x512 ![0, 0, 2] ![1, 1, 2] (w_v30 A) slicesBy_S32x256x1026_S32x256x512_0s1_0s1_2s2
/-- The reference's value `main_v45`. -/
def w_v45 (A : Args) : FVec Ideal S256x256x1 .f32 :=
  extractStridedSlice S256x256x1 ![0, 0, 2] (w_arg3 A) slices_S256x256x4_S256x256x1_0_0_2
/-- The reference's value `main_v46`. -/
def w_v46 (A : Args) : FVec Ideal S256x256 .f32 :=
  shapeCast S256x256 (w_v45 A) shapeCasts_S256x256x1_S256x256
/-- The reference's value `main_v47`. -/
def w_v47 (A : Args) : FVec Ideal S256x32x512 .f32 :=
  Host.dotGeneral dot_S256x256_S32x256x512_S256x32x512_1_1_0_02_n_n none (w_v46 A) (w_v44 A)
/-- The reference's value `main_v48`. -/
def w_v48 (A : Args) : FVec Ideal S32x256x512 .f32 :=
  transpose S32x256x512 [1, 0, 2] (w_v47 A) transposes_S256x32x512_S32x256x512_1_0_2
/-- The reference's value `main_v49`. -/
def w_v49 (A : Args) : FVec Ideal S32x256x512 .f32 :=
  addf (w_v43 A) (w_v48 A)
/-- The reference's value `main_v50`. -/
def w_v50 (A : Args) : FVec Ideal S32x256x512 .f32 :=
  Host.slice S32x256x512 ![0, 0, 3] ![1, 1, 2] (w_v30 A) slicesBy_S32x256x1026_S32x256x512_0s1_0s1_3s2
/-- The reference's value `main_v51`. -/
def w_v51 (A : Args) : FVec Ideal S256x256x1 .f32 :=
  extractStridedSlice S256x256x1 ![0, 0, 3] (w_arg3 A) slices_S256x256x4_S256x256x1_0_0_3
/-- The reference's value `main_v52`. -/
def w_v52 (A : Args) : FVec Ideal S256x256 .f32 :=
  shapeCast S256x256 (w_v51 A) shapeCasts_S256x256x1_S256x256
/-- The reference's value `main_v53`. -/
def w_v53 (A : Args) : FVec Ideal S256x32x512 .f32 :=
  Host.dotGeneral dot_S256x256_S32x256x512_S256x32x512_1_1_0_02_n_n none (w_v52 A) (w_v50 A)
/-- The reference's value `main_v54`. -/
def w_v54 (A : Args) : FVec Ideal S32x256x512 .f32 :=
  transpose S32x256x512 [1, 0, 2] (w_v53 A) transposes_S256x32x512_S32x256x512_1_0_2
/-- The reference's value `main_v55`. -/
def w_v55 (A : Args) : FVec Ideal S32x256x512 .f32 :=
  addf (w_v49 A) (w_v54 A)
/-- The reference's value `main_v56`. -/
def w_v56 (A : Args) : FVec Ideal S1x256x1 .f32 :=
  broadcastInDim S1x256x1 ![1] bcast_S256_S1x256x1_1 (w_arg4 A)
/-- The reference's value `main_v57`. -/
def w_v57 (A : Args) : FVec Ideal S32x256x512 .f32 :=
  broadcastInDim S32x256x512 ![0, 1, 2] bcast_S1x256x1_S32x256x512_0_1_2 (w_v56 A)
/-- The reference's value `main_v58`. -/
def w_v58 (A : Args) : FVec Ideal S32x256x512 .f32 :=
  addf (w_v55 A) (w_v57 A)
/-- The reference's value `main_call3_cst`. -/
def w_call3_cst (A : Args) : FVec Ideal S_ .f32 :=
  (constant S_ .f32 0x00000000#32)
/-- The reference's value `main_call3_v0`. -/
def w_call3_v0 (A : Args) : FVec Ideal S32x256x512 .f32 :=
  (broadcastInDim S32x256x512 ![] bcast_S_S32x256x512) (w_call3_cst A)
/-- The reference's value `main_v59`. -/
def w_v59 (A : Args) : FVec Ideal S32x256x512 .f32 :=
  maximumf (w_v58 A) (w_call3_v0 A)
/-- The reference's value `main_c_2`. -/
def w_c_2 (A : Args) : IVec S_ 32 :=
  (constantI S_ 32 0#32)
/-- The reference's value `main_call4_v0`. -/
def w_call4_v0 (A : Args) : FVec Ideal S_ .f32 :=
  (sitofp .f32) (w_c_2 A)
/-- The reference's value `main_v60`. -/
def w_v60 (A : Args) : FVec Ideal S32x256x514 .f32 :=
  pad S32x256x514 ![0, 0, 1] ![0, 0, 1] ![0, 0, 0] (w_v59 A) (w_call4_v0 A) pads_S32x256x512_S32x256x514_000_000_110 h_S_
/-- The reference's value `main_v61`. -/
def w_v61 (A : Args) : FVec Ideal S32x256x512 .f32 :=
  extractStridedSlice S32x256x512 ![0, 0, 0] (w_v60 A) slices_S32x256x514_S32x256x512_0_0_0
/-- The reference's value `main_v62`. -/
def w_v62 (A : Args) : FVec Ideal S64x256x1 .f32 :=
  extractStridedSlice S64x256x1 ![0, 0, 0] (w_arg5 A) slices_S64x256x3_S64x256x1_0_0_0
/-- The reference's value `main_v63`. -/
def w_v63 (A : Args) : FVec Ideal S64x256 .f32 :=
  shapeCast S64x256 (w_v62 A) shapeCasts_S64x256x1_S64x256
/-- The reference's value `main_v64`. -/
def w_v64 (A : Args) : FVec Ideal S64x32x512 .f32 :=
  Host.dotGeneral dot_S64x256_S32x256x512_S64x32x512_1_1_0_02_n_n none (w_v63 A) (w_v61 A)
/-- The reference's value `main_v65`. -/
def w_v65 (A : Args) : FVec Ideal S32x64x512 .f32 :=
  transpose S32x64x512 [1, 0, 2] (w_v64 A) transposes_S64x32x512_S32x64x512_1_0_2
/-- The reference's value `main_cst_3`. -/
def w_cst_3 (A : Args) : FVec Ideal S_ .f32 :=
  (constant S_ .f32 0x00000000#32)
/-- The reference's value `main_v66`. -/
def w_v66 (A : Args) : FVec Ideal S32x64x512 .f32 :=
  broadcastInDim S32x64x512 ![] bcast_S_S32x64x512 (w_cst_3 A)
/-- The reference's value `main_v67`. -/
def w_v67 (A : Args) : FVec Ideal S32x64x512 .f32 :=
  addf (w_v66 A) (w_v65 A)
/-- The reference's value `main_v68`. -/
def w_v68 (A : Args) : FVec Ideal S32x256x512 .f32 :=
  extractStridedSlice S32x256x512 ![0, 0, 1] (w_v60 A) slices_S32x256x514_S32x256x512_0_0_1
/-- The reference's value `main_v69`. -/
def w_v69 (A : Args) : FVec Ideal S64x256x1 .f32 :=
  extractStridedSlice S64x256x1 ![0, 0, 1] (w_arg5 A) slices_S64x256x3_S64x256x1_0_0_1
/-- The reference's value `main_v70`. -/
def w_v70 (A : Args) : FVec Ideal S64x256 .f32 :=
  shapeCast S64x256 (w_v69 A) shapeCasts_S64x256x1_S64x256
/-- The reference's value `main_v71`. -/
def w_v71 (A : Args) : FVec Ideal S64x32x512 .f32 :=
  Host.dotGeneral dot_S64x256_S32x256x512_S64x32x512_1_1_0_02_n_n none (w_v70 A) (w_v68 A)
/-- The reference's value `main_v72`. -/
def w_v72 (A : Args) : FVec Ideal S32x64x512 .f32 :=
  transpose S32x64x512 [1, 0, 2] (w_v71 A) transposes_S64x32x512_S32x64x512_1_0_2
/-- The reference's value `main_v73`. -/
def w_v73 (A : Args) : FVec Ideal S32x64x512 .f32 :=
  addf (w_v67 A) (w_v72 A)
/-- The reference's value `main_v74`. -/
def w_v74 (A : Args) : FVec Ideal S32x256x512 .f32 :=
  extractStridedSlice S32x256x512 ![0, 0, 2] (w_v60 A) slices_S32x256x514_S32x256x512_0_0_2
/-- The reference's value `main_v75`. -/
def w_v75 (A : Args) : FVec Ideal S64x256x1 .f32 :=
  extractStridedSlice S64x256x1 ![0, 0, 2] (w_arg5 A) slices_S64x256x3_S64x256x1_0_0_2
/-- The reference's value `main_v76`. -/
def w_v76 (A : Args) : FVec Ideal S64x256 .f32 :=
  shapeCast S64x256 (w_v75 A) shapeCasts_S64x256x1_S64x256
/-- The reference's value `main_v77`. -/
def w_v77 (A : Args) : FVec Ideal S64x32x512 .f32 :=
  Host.dotGeneral dot_S64x256_S32x256x512_S64x32x512_1_1_0_02_n_n none (w_v76 A) (w_v74 A)
/-- The reference's value `main_v78`. -/
def w_v78 (A : Args) : FVec Ideal S32x64x512 .f32 :=
  transpose S32x64x512 [1, 0, 2] (w_v77 A) transposes_S64x32x512_S32x64x512_1_0_2
/-- The reference's value `main_v79`. -/
def w_v79 (A : Args) : FVec Ideal S32x64x512 .f32 :=
  addf (w_v73 A) (w_v78 A)
/-- The reference's value `main_v80`. -/
def w_v80 (A : Args) : FVec Ideal S1x64x1 .f32 :=
  broadcastInDim S1x64x1 ![1] bcast_S64_S1x64x1_1 (w_arg6 A)
/-- The reference's value `main_v81`. -/
def w_v81 (A : Args) : FVec Ideal S32x64x512 .f32 :=
  broadcastInDim S32x64x512 ![0, 1, 2] bcast_S1x64x1_S32x64x512_0_1_2 (w_v80 A)
/-- The reference's value `main_v82`. -/
def w_v82 (A : Args) : FVec Ideal S32x64x512 .f32 :=
  addf (w_v79 A) (w_v81 A)
/-- The reference's value `main_call5_cst`. -/
def w_call5_cst (A : Args) : FVec Ideal S_ .f32 :=
  (constant S_ .f32 0x00000000#32)
/-- The reference's value `main_call5_v0`. -/
def w_call5_v0 (A : Args) : FVec Ideal S32x64x512 .f32 :=
  (broadcastInDim S32x64x512 ![] bcast_S_S32x64x512) (w_call5_cst A)
/-- The reference's value `main_v83`. -/
def w_v83 (A : Args) : FVec Ideal S32x64x512 .f32 :=
  maximumf (w_v82 A) (w_call5_v0 A)
/-- The reference's value `main_c_4`. -/
def w_c_4 (A : Args) : IVec S_ 32 :=
  (constantI S_ 32 0#32)
/-- The reference's value `main_call6_v0`. -/
def w_call6_v0 (A : Args) : FVec Ideal S_ .f32 :=
  (sitofp .f32) (w_c_4 A)
/-- The reference's value `main_v84`. -/
def w_v84 (A : Args) : FVec Ideal S32x64x514 .f32 :=
  pad S32x64x514 ![0, 0, 1] ![0, 0, 1] ![0, 0, 0] (w_v83 A) (w_call6_v0 A) pads_S32x64x512_S32x64x514_000_000_110 h_S_
/-- The reference's value `main_v85`. -/
def w_v85 (A : Args) : FVec Ideal S32x64x512 .f32 :=
  extractStridedSlice S32x64x512 ![0, 0, 0] (w_v84 A) slices_S32x64x514_S32x64x512_0_0_0
/-- The reference's value `main_v86`. -/
def w_v86 (A : Args) : FVec Ideal S64x64x1 .f32 :=
  extractStridedSlice S64x64x1 ![0, 0, 0] (w_arg7 A) slices_S64x64x3_S64x64x1_0_0_0
/-- The reference's value `main_v87`. -/
def w_v87 (A : Args) : FVec Ideal S64x64 .f32 :=
  shapeCast S64x64 (w_v86 A) shapeCasts_S64x64x1_S64x64
/-- The reference's value `main_v88`. -/
def w_v88 (A : Args) : FVec Ideal S64x32x512 .f32 :=
  Host.dotGeneral dot_S64x64_S32x64x512_S64x32x512_1_1_0_02_n_n none (w_v87 A) (w_v85 A)
/-- The reference's value `main_v89`. -/
def w_v89 (A : Args) : FVec Ideal S32x64x512 .f32 :=
  transpose S32x64x512 [1, 0, 2] (w_v88 A) transposes_S64x32x512_S32x64x512_1_0_2
/-- The reference's value `main_cst_5`. -/
def w_cst_5 (A : Args) : FVec Ideal S_ .f32 :=
  (constant S_ .f32 0x00000000#32)
/-- The reference's value `main_v90`. -/
def w_v90 (A : Args) : FVec Ideal S32x64x512 .f32 :=
  broadcastInDim S32x64x512 ![] bcast_S_S32x64x512 (w_cst_5 A)
/-- The reference's value `main_v91`. -/
def w_v91 (A : Args) : FVec Ideal S32x64x512 .f32 :=
  addf (w_v90 A) (w_v89 A)
/-- The reference's value `main_v92`. -/
def w_v92 (A : Args) : FVec Ideal S32x64x512 .f32 :=
  extractStridedSlice S32x64x512 ![0, 0, 1] (w_v84 A) slices_S32x64x514_S32x64x512_0_0_1
/-- The reference's value `main_v93`. -/
def w_v93 (A : Args) : FVec Ideal S64x64x1 .f32 :=
  extractStridedSlice S64x64x1 ![0, 0, 1] (w_arg7 A) slices_S64x64x3_S64x64x1_0_0_1
/-- The reference's value `main_v94`. -/
def w_v94 (A : Args) : FVec Ideal S64x64 .f32 :=
  shapeCast S64x64 (w_v93 A) shapeCasts_S64x64x1_S64x64
/-- The reference's value `main_v95`. -/
def w_v95 (A : Args) : FVec Ideal S64x32x512 .f32 :=
  Host.dotGeneral dot_S64x64_S32x64x512_S64x32x512_1_1_0_02_n_n none (w_v94 A) (w_v92 A)
/-- The reference's value `main_v96`. -/
def w_v96 (A : Args) : FVec Ideal S32x64x512 .f32 :=
  transpose S32x64x512 [1, 0, 2] (w_v95 A) transposes_S64x32x512_S32x64x512_1_0_2
/-- The reference's value `main_v97`. -/
def w_v97 (A : Args) : FVec Ideal S32x64x512 .f32 :=
  addf (w_v91 A) (w_v96 A)
/-- The reference's value `main_v98`. -/
def w_v98 (A : Args) : FVec Ideal S32x64x512 .f32 :=
  extractStridedSlice S32x64x512 ![0, 0, 2] (w_v84 A) slices_S32x64x514_S32x64x512_0_0_2
/-- The reference's value `main_v99`. -/
def w_v99 (A : Args) : FVec Ideal S64x64x1 .f32 :=
  extractStridedSlice S64x64x1 ![0, 0, 2] (w_arg7 A) slices_S64x64x3_S64x64x1_0_0_2
/-- The reference's value `main_v100`. -/
def w_v100 (A : Args) : FVec Ideal S64x64 .f32 :=
  shapeCast S64x64 (w_v99 A) shapeCasts_S64x64x1_S64x64
/-- The reference's value `main_v101`. -/
def w_v101 (A : Args) : FVec Ideal S64x32x512 .f32 :=
  Host.dotGeneral dot_S64x64_S32x64x512_S64x32x512_1_1_0_02_n_n none (w_v100 A) (w_v98 A)
/-- The reference's value `main_v102`. -/
def w_v102 (A : Args) : FVec Ideal S32x64x512 .f32 :=
  transpose S32x64x512 [1, 0, 2] (w_v101 A) transposes_S64x32x512_S32x64x512_1_0_2
/-- The reference's value `main_v103`. -/
def w_v103 (A : Args) : FVec Ideal S32x64x512 .f32 :=
  addf (w_v97 A) (w_v102 A)
/-- The reference's value `main_v104`. -/
def w_v104 (A : Args) : FVec Ideal S1x64x1 .f32 :=
  broadcastInDim S1x64x1 ![1] bcast_S64_S1x64x1_1 (w_arg8 A)
/-- The reference's value `main_v105`. -/
def w_v105 (A : Args) : FVec Ideal S32x64x512 .f32 :=
  broadcastInDim S32x64x512 ![0, 1, 2] bcast_S1x64x1_S32x64x512_0_1_2 (w_v104 A)
/-- The reference's value `main_v106`. -/
def w_v106 (A : Args) : FVec Ideal S32x64x512 .f32 :=
  addf (w_v103 A) (w_v105 A)
/-- The reference's value `main_call7_cst`. -/
def w_call7_cst (A : Args) : FVec Ideal S_ .f32 :=
  (constant S_ .f32 0x00000000#32)
/-- The reference's value `main_call7_v0`. -/
def w_call7_v0 (A : Args) : FVec Ideal S32x64x512 .f32 :=
  (broadcastInDim S32x64x512 ![] bcast_S_S32x64x512) (w_call7_cst A)
/-- The reference's value `main_v107`. -/
def w_v107 (A : Args) : FVec Ideal S32x64x512 .f32 :=
  maximumf (w_v106 A) (w_call7_v0 A)
/-- The reference's value `main_c_6`. -/
def w_c_6 (A : Args) : IVec S_ 32 :=
  (constantI S_ 32 0#32)
/-- The reference's value `main_call8_v0`. -/
def w_call8_v0 (A : Args) : FVec Ideal S_ .f32 :=
  (sitofp .f32) (w_c_6 A)
/-- The reference's value `main_v108`. -/
def w_v108 (A : Args) : FVec Ideal S32x64x512 .f32 :=
  pad S32x64x512 ![0, 0, 0] ![0, 0, 0] ![0, 0, 0] (w_v107 A) (w_call8_v0 A) pads_S32x64x512_S32x64x512_000_000_000 h_S_
/-- The reference's value `main_v109`. -/
def w_v109 (A : Args) : FVec Ideal S64x64 .f32 :=
  shapeCast S64x64 (w_arg9 A) shapeCasts_S64x64x1_S64x64
/-- The reference's value `main_v110`. -/
def w_v110 (A : Args) : FVec Ideal S64x32x512 .f32 :=
  Host.dotGeneral dot_S64x64_S32x64x512_S64x32x512_1_1_0_02_n_n none (w_v109 A) (w_v108 A)
/-- The reference's value `main_v111`. -/
def w_v111 (A : Args) : FVec Ideal S32x64x512 .f32 :=
  transpose S32x64x512 [1, 0, 2] (w_v110 A) transposes_S64x32x512_S32x64x512_1_0_2
/-- The reference's value `main_cst_7`. -/
def w_cst_7 (A : Args) : FVec Ideal S_ .f32 :=
  (constant S_ .f32 0x00000000#32)
/-- The reference's value `main_v112`. -/
def w_v112 (A : Args) : FVec Ideal S32x64x512 .f32 :=
  broadcastInDim S32x64x512 ![] bcast_S_S32x64x512 (w_cst_7 A)
/-- The reference's value `main_v113`. -/
def w_v113 (A : Args) : FVec Ideal S32x64x512 .f32 :=
  addf (w_v112 A) (w_v111 A)
/-- The reference's value `main_v114`. -/
def w_v114 (A : Args) : FVec Ideal S1x64x1 .f32 :=
  broadcastInDim S1x64x1 ![1] bcast_S64_S1x64x1_1 (w_arg10 A)
/-- The reference's value `main_v115`. -/
def w_v115 (A : Args) : FVec Ideal S32x64x512 .f32 :=
  broadcastInDim S32x64x512 ![0, 1, 2] bcast_S1x64x1_S32x64x512_0_1_2 (w_v114 A)
/-- The reference's value `main_v116`. -/
def w_v116 (A : Args) : FVec Ideal S32x64x512 .f32 :=
  addf (w_v113 A) (w_v115 A)
/-- The reference's value `main_v117`. -/
def w_v117 (A : Args) : FVec Ideal S32x64x512 .f32 :=
  addf (w_v82 A) (w_v116 A)
/-- The reference's value `main_call9_cst`. -/
def w_call9_cst (A : Args) : FVec Ideal S_ .f32 :=
  (constant S_ .f32 0x00000000#32)
/-- The reference's value `main_call9_v0`. -/
def w_call9_v0 (A : Args) : FVec Ideal S32x64x512 .f32 :=
  (broadcastInDim S32x64x512 ![] bcast_S_S32x64x512) (w_call9_cst A)
/-- The reference's value `main_v118`. -/
def w_v118 (A : Args) : FVec Ideal S32x64x512 .f32 :=
  maximumf (w_v117 A) (w_call9_v0 A)
/-- The reference's value `main_c_8`. -/
def w_c_8 (A : Args) : IVec S_ 32 :=
  (constantI S_ 32 0#32)
/-- The reference's value `main_call10_v0`. -/
def w_call10_v0 (A : Args) : FVec Ideal S_ .f32 :=
  (sitofp .f32) (w_c_8 A)
/-- The reference's value `main_v119`. -/
def w_v119 (A : Args) : FVec Ideal S32x64x514 .f32 :=
  pad S32x64x514 ![0, 0, 1] ![0, 0, 1] ![0, 0, 0] (w_v118 A) (w_call10_v0 A) pads_S32x64x512_S32x64x514_000_000_110 h_S_
/-- The reference's value `main_v120`. -/
def w_v120 (A : Args) : FVec Ideal S32x64x512 .f32 :=
  extractStridedSlice S32x64x512 ![0, 0, 0] (w_v119 A) slices_S32x64x514_S32x64x512_0_0_0
/-- The reference's value `main_v121`. -/
def w_v121 (A : Args) : FVec Ideal S64x64x1 .f32 :=
  extractStridedSlice S64x64x1 ![0, 0, 0] (w_arg11 A) slices_S64x64x3_S64x64x1_0_0_0
/-- The reference's value `main_v122`. -/
def w_v122 (A : Args) : FVec Ideal S64x64 .f32 :=
  shapeCast S64x64 (w_v121 A) shapeCasts_S64x64x1_S64x64
/-- The reference's value `main_v123`. -/
def w_v123 (A : Args) : FVec Ideal S64x32x512 .f32 :=
  Host.dotGeneral dot_S64x64_S32x64x512_S64x32x512_1_1_0_02_n_n none (w_v122 A) (w_v120 A)
/-- The reference's value `main_v124`. -/
def w_v124 (A : Args) : FVec Ideal S32x64x512 .f32 :=
  transpose S32x64x512 [1, 0, 2] (w_v123 A) transposes_S64x32x512_S32x64x512_1_0_2
/-- The reference's value `main_cst_9`. -/
def w_cst_9 (A : Args) : FVec Ideal S_ .f32 :=
  (constant S_ .f32 0x00000000#32)
/-- The reference's value `main_v125`. -/
def w_v125 (A : Args) : FVec Ideal S32x64x512 .f32 :=
  broadcastInDim S32x64x512 ![] bcast_S_S32x64x512 (w_cst_9 A)
/-- The reference's value `main_v126`. -/
def w_v126 (A : Args) : FVec Ideal S32x64x512 .f32 :=
  addf (w_v125 A) (w_v124 A)
/-- The reference's value `main_v127`. -/
def w_v127 (A : Args) : FVec Ideal S32x64x512 .f32 :=
  extractStridedSlice S32x64x512 ![0, 0, 1] (w_v119 A) slices_S32x64x514_S32x64x512_0_0_1
/-- The reference's value `main_v128`. -/
def w_v128 (A : Args) : FVec Ideal S64x64x1 .f32 :=
  extractStridedSlice S64x64x1 ![0, 0, 1] (w_arg11 A) slices_S64x64x3_S64x64x1_0_0_1
/-- The reference's value `main_v129`. -/
def w_v129 (A : Args) : FVec Ideal S64x64 .f32 :=
  shapeCast S64x64 (w_v128 A) shapeCasts_S64x64x1_S64x64
/-- The reference's value `main_v130`. -/
def w_v130 (A : Args) : FVec Ideal S64x32x512 .f32 :=
  Host.dotGeneral dot_S64x64_S32x64x512_S64x32x512_1_1_0_02_n_n none (w_v129 A) (w_v127 A)
/-- The reference's value `main_v131`. -/
def w_v131 (A : Args) : FVec Ideal S32x64x512 .f32 :=
  transpose S32x64x512 [1, 0, 2] (w_v130 A) transposes_S64x32x512_S32x64x512_1_0_2
/-- The reference's value `main_v132`. -/
def w_v132 (A : Args) : FVec Ideal S32x64x512 .f32 :=
  addf (w_v126 A) (w_v131 A)
/-- The reference's value `main_v133`. -/
def w_v133 (A : Args) : FVec Ideal S32x64x512 .f32 :=
  extractStridedSlice S32x64x512 ![0, 0, 2] (w_v119 A) slices_S32x64x514_S32x64x512_0_0_2
/-- The reference's value `main_v134`. -/
def w_v134 (A : Args) : FVec Ideal S64x64x1 .f32 :=
  extractStridedSlice S64x64x1 ![0, 0, 2] (w_arg11 A) slices_S64x64x3_S64x64x1_0_0_2
/-- The reference's value `main_v135`. -/
def w_v135 (A : Args) : FVec Ideal S64x64 .f32 :=
  shapeCast S64x64 (w_v134 A) shapeCasts_S64x64x1_S64x64
/-- The reference's value `main_v136`. -/
def w_v136 (A : Args) : FVec Ideal S64x32x512 .f32 :=
  Host.dotGeneral dot_S64x64_S32x64x512_S64x32x512_1_1_0_02_n_n none (w_v135 A) (w_v133 A)
/-- The reference's value `main_v137`. -/
def w_v137 (A : Args) : FVec Ideal S32x64x512 .f32 :=
  transpose S32x64x512 [1, 0, 2] (w_v136 A) transposes_S64x32x512_S32x64x512_1_0_2
/-- The reference's value `main_v138`. -/
def w_v138 (A : Args) : FVec Ideal S32x64x512 .f32 :=
  addf (w_v132 A) (w_v137 A)
/-- The reference's value `main_v139`. -/
def w_v139 (A : Args) : FVec Ideal S1x64x1 .f32 :=
  broadcastInDim S1x64x1 ![1] bcast_S64_S1x64x1_1 (w_arg12 A)
/-- The reference's value `main_v140`. -/
def w_v140 (A : Args) : FVec Ideal S32x64x512 .f32 :=
  broadcastInDim S32x64x512 ![0, 1, 2] bcast_S1x64x1_S32x64x512_0_1_2 (w_v139 A)
/-- The reference's value `main_v141`. -/
def w_v141 (A : Args) : FVec Ideal S32x64x512 .f32 :=
  addf (w_v138 A) (w_v140 A)
/-- The reference's value `main_call11_cst`. -/
def w_call11_cst (A : Args) : FVec Ideal S_ .f32 :=
  (constant S_ .f32 0x00000000#32)
/-- The reference's value `main_call11_v0`. -/
def w_call11_v0 (A : Args) : FVec Ideal S32x64x512 .f32 :=
  (broadcastInDim S32x64x512 ![] bcast_S_S32x64x512) (w_call11_cst A)
/-- The reference's value `main_v142`. -/
def w_v142 (A : Args) : FVec Ideal S32x64x512 .f32 :=
  maximumf (w_v141 A) (w_call11_v0 A)
/-- The reference's value `main_c_10`. -/
def w_c_10 (A : Args) : IVec S_ 32 :=
  (constantI S_ 32 0#32)
/-- The reference's value `main_call12_v0`. -/
def w_call12_v0 (A : Args) : FVec Ideal S_ .f32 :=
  (sitofp .f32) (w_c_10 A)
/-- The reference's value `main_v143`. -/
def w_v143 (A : Args) : FVec Ideal S32x64x512 .f32 :=
  pad S32x64x512 ![0, 0, 0] ![0, 0, 0] ![0, 0, 0] (w_v142 A) (w_call12_v0 A) pads_S32x64x512_S32x64x512_000_000_000 h_S_
/-- The reference's value `main_v144`. -/
def w_v144 (A : Args) : FVec Ideal S64x64 .f32 :=
  shapeCast S64x64 (w_arg13 A) shapeCasts_S64x64x1_S64x64
/-- The reference's value `main_v145`. -/
def w_v145 (A : Args) : FVec Ideal S64x32x512 .f32 :=
  Host.dotGeneral dot_S64x64_S32x64x512_S64x32x512_1_1_0_02_n_n none (w_v144 A) (w_v143 A)
/-- The reference's value `main_v146`. -/
def w_v146 (A : Args) : FVec Ideal S32x64x512 .f32 :=
  transpose S32x64x512 [1, 0, 2] (w_v145 A) transposes_S64x32x512_S32x64x512_1_0_2
/-- The reference's value `main_cst_11`. -/
def w_cst_11 (A : Args) : FVec Ideal S_ .f32 :=
  (constant S_ .f32 0x00000000#32)
/-- The reference's value `main_v147`. -/
def w_v147 (A : Args) : FVec Ideal S32x64x512 .f32 :=
  broadcastInDim S32x64x512 ![] bcast_S_S32x64x512 (w_cst_11 A)
/-- The reference's value `main_v148`. -/
def w_v148 (A : Args) : FVec Ideal S32x64x512 .f32 :=
  addf (w_v147 A) (w_v146 A)
/-- The reference's value `main_v149`. -/
def w_v149 (A : Args) : FVec Ideal S1x64x1 .f32 :=
  broadcastInDim S1x64x1 ![1] bcast_S64_S1x64x1_1 (w_arg14 A)
/-- The reference's value `main_v150`. -/
def w_v150 (A : Args) : FVec Ideal S32x64x512 .f32 :=
  broadcastInDim S32x64x512 ![0, 1, 2] bcast_S1x64x1_S32x64x512_0_1_2 (w_v149 A)
/-- The reference's value `main_v151`. -/
def w_v151 (A : Args) : FVec Ideal S32x64x512 .f32 :=
  addf (w_v148 A) (w_v150 A)
/-- The reference's value `main_v152`. -/
def w_v152 (A : Args) : FVec Ideal S32x64x512 .f32 :=
  addf (w_v117 A) (w_v151 A)
/-- The reference's value `main_call13_cst`. -/
def w_call13_cst (A : Args) : FVec Ideal S_ .f32 :=
  (constant S_ .f32 0x00000000#32)
/-- The reference's value `main_call13_v0`. -/
def w_call13_v0 (A : Args) : FVec Ideal S32x64x512 .f32 :=
  (broadcastInDim S32x64x512 ![] bcast_S_S32x64x512) (w_call13_cst A)
/-- The reference's value `main_v153`. -/
def w_v153 (A : Args) : FVec Ideal S32x64x512 .f32 :=
  maximumf (w_v152 A) (w_call13_v0 A)
/-- The reference's value `main_c_12`. -/
def w_c_12 (A : Args) : IVec S_ 32 :=
  (constantI S_ 32 0#32)
/-- The reference's value `main_call14_v0`. -/
def w_call14_v0 (A : Args) : FVec Ideal S_ .f32 :=
  (sitofp .f32) (w_c_12 A)
/-- The reference's value `main_v154`. -/
def w_v154 (A : Args) : FVec Ideal S32x64x512 .f32 :=
  pad S32x64x512 ![0, 0, 0] ![0, 0, 0] ![0, 0, 0] (w_v153 A) (w_call14_v0 A) pads_S32x64x512_S32x64x512_000_000_000 h_S_
/-- The reference's value `main_v155`. -/
def w_v155 (A : Args) : FVec Ideal S64x64 .f32 :=
  shapeCast S64x64 (w_arg15 A) shapeCasts_S64x64x1_S64x64
/-- The reference's value `main_v156`. -/
def w_v156 (A : Args) : FVec Ideal S64x32x512 .f32 :=
  Host.dotGeneral dot_S64x64_S32x64x512_S64x32x512_1_1_0_02_n_n none (w_v155 A) (w_v154 A)
/-- The reference's value `main_v157`. -/
def w_v157 (A : Args) : FVec Ideal S32x64x512 .f32 :=
  transpose S32x64x512 [1, 0, 2] (w_v156 A) transposes_S64x32x512_S32x64x512_1_0_2
/-- The reference's value `main_cst_13`. -/
def w_cst_13 (A : Args) : FVec Ideal S_ .f32 :=
  (constant S_ .f32 0x00000000#32)
/-- The reference's value `main_v158`. -/
def w_v158 (A : Args) : FVec Ideal S32x64x512 .f32 :=
  broadcastInDim S32x64x512 ![] bcast_S_S32x64x512 (w_cst_13 A)
/-- The reference's value `main_v159`. -/
def w_v159 (A : Args) : FVec Ideal S32x64x512 .f32 :=
  addf (w_v158 A) (w_v157 A)
/-- The reference's value `main_v160`. -/
def w_v160 (A : Args) : FVec Ideal S1x64x1 .f32 :=
  broadcastInDim S1x64x1 ![1] bcast_S64_S1x64x1_1 (w_arg16 A)
/-- The reference's value `main_v161`. -/
def w_v161 (A : Args) : FVec Ideal S32x64x512 .f32 :=
  broadcastInDim S32x64x512 ![0, 1, 2] bcast_S1x64x1_S32x64x512_0_1_2 (w_v160 A)
/-- The reference's value `main_v162`. -/
def w_v162 (A : Args) : FVec Ideal S32x64x512 .f32 :=
  addf (w_v159 A) (w_v161 A)
/-- The reference's value `main_v163`. -/
def w_v163 (A : Args) : FVec Ideal S32x512x64 .f32 :=
  transpose S32x512x64 [0, 2, 1] (w_v162 A) transposes_S32x64x512_S32x512x64_0_2_1
/-- The reference's value `main_v164`. -/
def w_v164 (A : Args) : FVec Ideal S16384x64 .f32 :=
  shapeCast S16384x64 (w_v163 A) shapeCasts_S32x512x64_S16384x64
/-- The reference's value `main_v165`. -/
def w_v165 (A : Args) : FVec Ideal S16384x64 .f32 :=
  mulf (w_v164 A) (w_v164 A)
/-- The reference's value `main_cst_14`. -/
def w_cst_14 (A : Args) : FVec Ideal S_ .f32 :=
  (constant S_ .f32 0x00000000#32)
/-- The reference's value `main_v166`. -/
def w_v166 (A : Args) : FVec Ideal S16384 .f32 :=
  Host.reduceAdd (w_v165 A) (w_cst_14 A) reducesTo_S16384x64_S16384_d1 h_S_
/-- The reference's value `main_v167`. -/
def w_v167 (A : Args) : FVec Ideal S16384x1 .f32 :=
  broadcastInDim S16384x1 ![0] bcast_S16384_S16384x1_0 (w_v166 A)
/-- The reference's value `main_v168`. -/
def w_v168 (A : Args) : FVec Ideal S1024x64 .f32 :=
  mulf (w_arg17 A) (w_arg17 A)
/-- The reference's value `main_cst_15`. -/
def w_cst_15 (A : Args) : FVec Ideal S_ .f32 :=
  (constant S_ .f32 0x00000000#32)
/-- The reference's value `main_v169`. -/
def w_v169 (A : Args) : FVec Ideal S1024 .f32 :=
  Host.reduceAdd (w_v168 A) (w_cst_15 A) reducesTo_S1024x64_S1024_d1 h_S_
/-- The reference's value `main_v170`. -/
def w_v170 (A : Args) : FVec Ideal S1x1024 .f32 :=
  broadcastInDim S1x1024 ![1] bcast_S1024_S1x1024_1 (w_v169 A)
/-- The reference's value `main_v171`. -/
def w_v171 (A : Args) : FVec Ideal S16384x1024 .f32 :=
  broadcastInDim S16384x1024 ![0, 1] bcast_S16384x1_S16384x1024_0_1 (w_v167 A)
/-- The reference's value `main_v172`. -/
def w_v172 (A : Args) : FVec Ideal S16384x1024 .f32 :=
  broadcastInDim S16384x1024 ![0, 1] bcast_S1x1024_S16384x1024_0_1 (w_v170 A)
/-- The reference's value `main_v173`. -/
def w_v173 (A : Args) : FVec Ideal S16384x1024 .f32 :=
  addf (w_v171 A) (w_v172 A)
/-- The reference's value `main_v174`. -/
def w_v174 (A : Args) : FVec Ideal S64x1024 .f32 :=
  transpose S64x1024 [1, 0] (w_arg17 A) transposes_S1024x64_S64x1024_1_0
/-- The reference's value `main_v175`. -/
def w_v175 (A : Args) : FVec Ideal S16384x1024 .f32 :=
  Host.dotGeneral dot_S16384x64_S64x1024_S16384x1024_1_0_0_1_n_n none (w_v164 A) (w_v174 A)
/-- The reference's value `main_cst_16`. -/
def w_cst_16 (A : Args) : FVec Ideal S_ .f32 :=
  (constant S_ .f32 0x40000000#32)
/-- The reference's value `main_v176`. -/
def w_v176 (A : Args) : FVec Ideal S16384x1024 .f32 :=
  broadcastInDim S16384x1024 ![] bcast_S_S16384x1024 (w_cst_16 A)
/-- The reference's value `main_v177`. -/
def w_v177 (A : Args) : FVec Ideal S16384x1024 .f32 :=
  mulf (w_v176 A) (w_v175 A)
/-- The reference's value `main_v178`. -/
def w_v178 (A : Args) : FVec Ideal S16384x1024 .f32 :=
  subf (w_v173 A) (w_v177 A)
/-- The reference's value `main_call15_v0`. -/
def w_call15_v0 (A : Args) : IVec S16384x1024 32 :=
  (iotaInDim S16384x1024 32 1)
/-- The reference's value `main_call15_cst`. -/
def w_call15_cst (A : Args) : FVec Ideal S_ .f32 :=
  (constant S_ .f32 0x7F800000#32)
/-- The reference's value `main_call15_c`. -/
def w_call15_c (A : Args) : IVec S_ 32 :=
  (constantI S_ 32 0#32)
/-- The reference's value `main_call15_v1_0`. -/
def w_call15_v1_0 (A : Args) : FVec Ideal S16384 .f32 :=
  fun j => (Host.argReduce reducer_argmin_f32_i32 (w_v178 A) (w_call15_v0 A) (w_call15_cst A) (w_call15_c A) reducesTo_S16384x1024_S16384_d1 h_S_ j).1
/-- The reference's value `main_v179`. -/
def w_v179 (A : Args) : IVec S16384 32 :=
  fun j => (Host.argReduce reducer_argmin_f32_i32 (w_v178 A) (w_call15_v0 A) (w_call15_cst A) (w_call15_c A) reducesTo_S16384x1024_S16384_d1 h_S_ j).2
/-- The reference's value `main_call16_v0`. -/
def w_call16_v0 (A : Args) : IVec S16384x1 32 :=
  (broadcastInDim S16384x1 ![0] bcast_S16384_S16384x1_0) (w_v179 A)
/-- The reference's value `main_call16_v1`. -/
def w_call16_v1 (A : Args) : IVec S1x1024 32 :=
  (iotaInDim S1x1024 32 1)
/-- The reference's value `main_call16_v2`. -/
def w_call16_v2 (A : Args) : IVec S16384x1024 32 :=
  (broadcastInDim S16384x1024 ![0, 1] bcast_S16384x1_S16384x1024_0_1) (w_call16_v0 A)
/-- The reference's value `main_call16_v3`. -/
def w_call16_v3 (A : Args) : IVec S16384x1024 32 :=
  (broadcastInDim S16384x1024 ![0, 1] bcast_S1x1024_S16384x1024_0_1) (w_call16_v1 A)
/-- The reference's value `main_call16_v4`. -/
def w_call16_v4 (A : Args) : IVec S16384x1024 1 :=
  (cmpi .eq) (w_call16_v2 A) (w_call16_v3 A)
/-- The reference's value `main_v180`. -/
def w_v180 (A : Args) : FVec Ideal S16384x1024 .f32 :=
  (uitofp .f32) (w_call16_v4 A)
/-- The reference's value `main_v181`. -/
def w_v181 (A : Args) : FVec Ideal S16384x64 .f32 :=
  Host.dotGeneral dot_S16384x1024_S1024x64_S16384x64_1_0_0_1_n_n none (w_v180 A) (w_arg17 A)
/-- The reference's value `main_v182`. -/
def w_v182 (A : Args) : FVec Ideal S32x512x64 .f32 :=
  shapeCast S32x512x64 (w_v181 A) shapeCasts_S16384x64_S32x512x64
/-- The reference's value `main_v183`. -/
def w_v183 (A : Args) : FVec Ideal S32x512x64 .f32 :=
  subf (w_v182 A) (w_v163 A)
/-- The reference's value `main_v184`. -/
def w_v184 (A : Args) : FVec Ideal S32x512x64 .f32 :=
  mulf (w_v183 A) (w_v183 A)
/-- The reference's value `main_cst_17`. -/
def w_cst_17 (A : Args) : FVec Ideal S_ .f32 :=
  (constant S_ .f32 0x00000000#32)
/-- The reference's value `main_v185`. -/
def w_v185 (A : Args) : FVec Ideal S_ .f32 :=
  Host.reduceAdd (w_v184 A) (w_cst_17 A) reducesTo_S32x512x64_S_d0_1_2 h_S_
/-- The reference's value `main_cst_18`. -/
def w_cst_18 (A : Args) : FVec Ideal S_ .f32 :=
  (constant S_ .f32 0x49800000#32)
/-- The reference's value `main_v186`. -/
def w_v186 (A : Args) : FVec Ideal S_ .f32 :=
  Host.divf (w_v185 A) (w_cst_18 A)
/-- The reference's value `main_v187`. -/
def w_v187 (A : Args) : FVec Ideal S32x512x64 .f32 :=
  subf (w_v182 A) (w_v163 A)
/-- The reference's value `main_v188`. -/
def w_v188 (A : Args) : FVec Ideal S32x512x64 .f32 :=
  mulf (w_v187 A) (w_v187 A)
/-- The reference's value `main_cst_19`. -/
def w_cst_19 (A : Args) : FVec Ideal S_ .f32 :=
  (constant S_ .f32 0x00000000#32)
/-- The reference's value `main_v189`. -/
def w_v189 (A : Args) : FVec Ideal S_ .f32 :=
  Host.reduceAdd (w_v188 A) (w_cst_19 A) reducesTo_S32x512x64_S_d0_1_2 h_S_
/-- The reference's value `main_cst_20`. -/
def w_cst_20 (A : Args) : FVec Ideal S_ .f32 :=
  (constant S_ .f32 0x49800000#32)
/-- The reference's value `main_v190`. -/
def w_v190 (A : Args) : FVec Ideal S_ .f32 :=
  Host.divf (w_v189 A) (w_cst_20 A)
/-- The reference's value `main_cst_21`. -/
def w_cst_21 (A : Args) : FVec Ideal S_ .f32 :=
  (constant S_ .f32 0x3E800000#32)
/-- The reference's value `main_v191`. -/
def w_v191 (A : Args) : FVec Ideal S_ .f32 :=
  mulf (w_cst_21 A) (w_v190 A)
/-- The reference's value `main_v192`. -/
def w_v192 (A : Args) : FVec Ideal S_ .f32 :=
  addf (w_v186 A) (w_v191 A)
/-- The reference's value `main_v193`. -/
def w_v193 (A : Args) : FVec Ideal S32x512x64 .f32 :=
  subf (w_v182 A) (w_v163 A)
/-- The reference's value `main_v194`. -/
def w_v194 (A : Args) : FVec Ideal S32x512x64 .f32 :=
  addf (w_v163 A) (w_v193 A)
/-- The reference's value `main_cst_22`. -/
def w_cst_22 (A : Args) : FVec Ideal S_ .f32 :=
  (constant S_ .f32 0x00000000#32)
/-- The reference's value `main_v195`. -/
def w_v195 (A : Args) : FVec Ideal S1024 .f32 :=
  Host.reduceAdd (w_v180 A) (w_cst_22 A) reducesTo_S16384x1024_S1024_d0 h_S_
/-- The reference's value `main_cst_23`. -/
def w_cst_23 (A : Args) : FVec Ideal S_ .f32 :=
  (constant S_ .f32 0x46800000#32)
/-- The reference's value `main_v196`. -/
def w_v196 (A : Args) : FVec Ideal S1024 .f32 :=
  broadcastInDim S1024 ![] bcast_S_S1024 (w_cst_23 A)
/-- The reference's value `main_v197`. -/
def w_v197 (A : Args) : FVec Ideal S1024 .f32 :=
  Host.divf (w_v195 A) (w_v196 A)
/-- The reference's value `main_cst_24`. -/
def w_cst_24 (A : Args) : FVec Ideal S_ .f32 :=
  (constant S_ .f32 0x2EDBE6FF#32)
/-- The reference's value `main_v198`. -/
def w_v198 (A : Args) : FVec Ideal S1024 .f32 :=
  broadcastInDim S1024 ![] bcast_S_S1024 (w_cst_24 A)
/-- The reference's value `main_v199`. -/
def w_v199 (A : Args) : FVec Ideal S1024 .f32 :=
  addf (w_v197 A) (w_v198 A)
/-- The reference's value `main_v200`. -/
def w_v200 (A : Args) : FVec Ideal S1024 .f32 :=
  Host.log (w_v199 A)
/-- The reference's value `main_v201`. -/
def w_v201 (A : Args) : FVec Ideal S1024 .f32 :=
  mulf (w_v197 A) (w_v200 A)
/-- The reference's value `main_cst_25`. -/
def w_cst_25 (A : Args) : FVec Ideal S_ .f32 :=
  (constant S_ .f32 0x00000000#32)
/-- The reference's value `main_v202`. -/
def w_v202 (A : Args) : FVec Ideal S_ .f32 :=
  Host.reduceAdd (w_v201 A) (w_cst_25 A) reducesTo_S1024_S_d0 h_S_
/-- The reference's value `main_v203`. -/
def w_v203 (A : Args) : FVec Ideal S_ .f32 :=
  Host.negf (w_v202 A)
/-- The reference's value `main_v204`. -/
def w_v204 (A : Args) : FVec Ideal S_ .f32 :=
  Host.exp (w_v203 A)

end Cert.ReferenceIdeal.Body

end
-- ==== Proof.RConv.lean ====
module

public import proofs.«01_k».proof.Proof.RVals
public import Idealize.ShloMosaic.Lib.Pointwise

@[expose] public section

set_option maxRecDepth 16384

noncomputable section

namespace Cert.ReferenceIdeal.Body

open Idealize.ShloMosaic Idealize.SL.Sem

/-- The padding is the real number zero. -/
theorem pad_word : (FloatOps.sitofp FTy.f32 0#32 : Ideal .f32) = 0 := by
  show (((0#32 : BitVec 32).toInt : ℝ) : EReal) = 0
  simp

/-- A convolution of the reference at one element: the sum over the taps and the channels, and the
    bias. -/
theorem w_v28_at (A : Args) (b : Fin 32) (o : Fin 256) (t : Fin 1024) :
    w_v28 A (ix3 b o t) = ∑ x : Fin 64, A.a1 (ix3 o x 0) * w_v0 A (ix3 b x ⟨2 * (t : ℕ), by omega⟩)
      + ∑ x : Fin 64, A.a1 (ix3 o x 1) * w_v0 A (ix3 b x ⟨1 + 2 * (t : ℕ), by omega⟩)
      + ∑ x : Fin 64, A.a1 (ix3 o x 2) * w_v0 A (ix3 b x ⟨2 + 2 * (t : ℕ), by omega⟩)
      + ∑ x : Fin 64, A.a1 (ix3 o x 3) * w_v0 A (ix3 b x ⟨3 + 2 * (t : ℕ), by omega⟩)
      + A.a2 (ix1 o) := by
  pointwise! [w_v1, w_v2, w_v3, w_v4, w_v5, w_v6, w_v7, w_v8, w_v9, w_v10, w_v11, w_v12, w_v13, w_v14, w_v15, w_v16, w_v17, w_v18, w_v19, w_v20, w_v21, w_v22, w_v23, w_v24, w_v25, w_v26, w_v27, w_v28, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A convolution of the reference at one element: the sum over the taps and the channels, and the
    bias. -/
theorem w_v58_at (A : Args) (b : Fin 32) (o : Fin 256) (t : Fin 512) :
    w_v58 A (ix3 b o t) = ∑ x : Fin 256, A.a3 (ix3 o x 0) * w_v30 A (ix3 b x ⟨2 * (t : ℕ), by omega⟩)
      + ∑ x : Fin 256, A.a3 (ix3 o x 1) * w_v30 A (ix3 b x ⟨1 + 2 * (t : ℕ), by omega⟩)
      + ∑ x : Fin 256, A.a3 (ix3 o x 2) * w_v30 A (ix3 b x ⟨2 + 2 * (t : ℕ), by omega⟩)
      + ∑ x : Fin 256, A.a3 (ix3 o x 3) * w_v30 A (ix3 b x ⟨3 + 2 * (t : ℕ), by omega⟩)
      + A.a4 (ix1 o) := by
  pointwise! [w_v31, w_v32, w_v33, w_v34, w_v35, w_v36, w_v37, w_v38, w_v39, w_v40, w_v41, w_v42, w_v43, w_v44, w_v45, w_v46, w_v47, w_v48, w_v49, w_v50, w_v51, w_v52, w_v53, w_v54, w_v55, w_v56, w_v57, w_v58, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A convolution of the reference at one element: the sum over the taps and the channels, and the
    bias. -/
theorem w_v82_at (A : Args) (b : Fin 32) (o : Fin 64) (t : Fin 512) :
    w_v82 A (ix3 b o t) = ∑ x : Fin 256, A.a5 (ix3 o x 0) * w_v60 A (ix3 b x ⟨(t : ℕ), by omega⟩)
      + ∑ x : Fin 256, A.a5 (ix3 o x 1) * w_v60 A (ix3 b x ⟨1 + (t : ℕ), by omega⟩)
      + ∑ x : Fin 256, A.a5 (ix3 o x 2) * w_v60 A (ix3 b x ⟨2 + (t : ℕ), by omega⟩)
      + A.a6 (ix1 o) := by
  pointwise! [w_v61, w_v62, w_v63, w_v64, w_v65, w_v66, w_v67, w_v68, w_v69, w_v70, w_v71, w_v72, w_v73, w_v74, w_v75, w_v76, w_v77, w_v78, w_v79, w_v80, w_v81, w_v82, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A convolution of the reference at one element: the sum over the taps and the channels, and the
    bias. -/
theorem w_v106_at (A : Args) (b : Fin 32) (o : Fin 64) (t : Fin 512) :
    w_v106 A (ix3 b o t) = ∑ x : Fin 64, A.a7 (ix3 o x 0) * w_v84 A (ix3 b x ⟨(t : ℕ), by omega⟩)
      + ∑ x : Fin 64, A.a7 (ix3 o x 1) * w_v84 A (ix3 b x ⟨1 + (t : ℕ), by omega⟩)
      + ∑ x : Fin 64, A.a7 (ix3 o x 2) * w_v84 A (ix3 b x ⟨2 + (t : ℕ), by omega⟩)
      + A.a8 (ix1 o) := by
  pointwise! [w_v85, w_v86, w_v87, w_v88, w_v89, w_v90, w_v91, w_v92, w_v93, w_v94, w_v95, w_v96, w_v97, w_v98, w_v99, w_v100, w_v101, w_v102, w_v103, w_v104, w_v105, w_v106, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A convolution of the reference at one element: the sum over the taps and the channels, and the
    bias. -/
theorem w_v116_at (A : Args) (b : Fin 32) (o : Fin 64) (t : Fin 512) :
    w_v116 A (ix3 b o t) = ∑ x : Fin 64, A.a9 (ix3 o x 0) * w_v108 A (ix3 b x t)
      + A.a10 (ix1 o) := by
  pointwise! [w_v109, w_v110, w_v111, w_v112, w_v113, w_v114, w_v115, w_v116, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A convolution of the reference at one element: the sum over the taps and the channels, and the
    bias. -/
theorem w_v141_at (A : Args) (b : Fin 32) (o : Fin 64) (t : Fin 512) :
    w_v141 A (ix3 b o t) = ∑ x : Fin 64, A.a11 (ix3 o x 0) * w_v119 A (ix3 b x ⟨(t : ℕ), by omega⟩)
      + ∑ x : Fin 64, A.a11 (ix3 o x 1) * w_v119 A (ix3 b x ⟨1 + (t : ℕ), by omega⟩)
      + ∑ x : Fin 64, A.a11 (ix3 o x 2) * w_v119 A (ix3 b x ⟨2 + (t : ℕ), by omega⟩)
      + A.a12 (ix1 o) := by
  pointwise! [w_v120, w_v121, w_v122, w_v123, w_v124, w_v125, w_v126, w_v127, w_v128, w_v129, w_v130, w_v131, w_v132, w_v133, w_v134, w_v135, w_v136, w_v137, w_v138, w_v139, w_v140, w_v141, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A convolution of the reference at one element: the sum over the taps and the channels, and the
    bias. -/
theorem w_v151_at (A : Args) (b : Fin 32) (o : Fin 64) (t : Fin 512) :
    w_v151 A (ix3 b o t) = ∑ x : Fin 64, A.a13 (ix3 o x 0) * w_v143 A (ix3 b x t)
      + A.a14 (ix1 o) := by
  pointwise! [w_v144, w_v145, w_v146, w_v147, w_v148, w_v149, w_v150, w_v151, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A convolution of the reference at one element: the sum over the taps and the channels, and the
    bias. -/
theorem w_v162_at (A : Args) (b : Fin 32) (o : Fin 64) (t : Fin 512) :
    w_v162 A (ix3 b o t) = ∑ x : Fin 64, A.a15 (ix3 o x 0) * w_v154 A (ix3 b x t)
      + A.a16 (ix1 o) := by
  pointwise! [w_v155, w_v156, w_v157, w_v158, w_v159, w_v160, w_v161, w_v162, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A rectified value of the reference at one element. -/
theorem w_v29_at (A : Args) (b : Fin 32) (o : Fin 256) (t : Fin 1024) :
    w_v29 A (ix3 b o t) = max (w_v28 A (ix3 b o t)) 0 := by
  pointwise! [w_call1_cst, w_call1_v0, w_v29, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A rectified value of the reference at one element. -/
theorem w_v59_at (A : Args) (b : Fin 32) (o : Fin 256) (t : Fin 512) :
    w_v59 A (ix3 b o t) = max (w_v58 A (ix3 b o t)) 0 := by
  pointwise! [w_call3_cst, w_call3_v0, w_v59, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A rectified value of the reference at one element. -/
theorem w_v83_at (A : Args) (b : Fin 32) (o : Fin 64) (t : Fin 512) :
    w_v83 A (ix3 b o t) = max (w_v82 A (ix3 b o t)) 0 := by
  pointwise! [w_call5_cst, w_call5_v0, w_v83, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A rectified value of the reference at one element. -/
theorem w_v107_at (A : Args) (b : Fin 32) (o : Fin 64) (t : Fin 512) :
    w_v107 A (ix3 b o t) = max (w_v106 A (ix3 b o t)) 0 := by
  pointwise! [w_call7_cst, w_call7_v0, w_v107, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A rectified value of the reference at one element. -/
theorem w_v118_at (A : Args) (b : Fin 32) (o : Fin 64) (t : Fin 512) :
    w_v118 A (ix3 b o t) = max (w_v117 A (ix3 b o t)) 0 := by
  pointwise! [w_call9_cst, w_call9_v0, w_v118, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A rectified value of the reference at one element. -/
theorem w_v142_at (A : Args) (b : Fin 32) (o : Fin 64) (t : Fin 512) :
    w_v142 A (ix3 b o t) = max (w_v141 A (ix3 b o t)) 0 := by
  pointwise! [w_call11_cst, w_call11_v0, w_v142, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A rectified value of the reference at one element. -/
theorem w_v153_at (A : Args) (b : Fin 32) (o : Fin 64) (t : Fin 512) :
    w_v153 A (ix3 b o t) = max (w_v152 A (ix3 b o t)) 0 := by
  pointwise! [w_call13_cst, w_call13_v0, w_v153, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A padded value of the reference at one element. -/
theorem w_v0_at (A : Args) (b : Fin 32) (o : Fin 64) (t : Fin 2050) :
    w_v0 A (ix3 b o t) = if h : 1 ≤ (t : ℕ) ∧ (t : ℕ) - 1 < 2048 then A.a0 (ix3 b o ⟨(t : ℕ) - 1, h.2⟩) else 0 := by
  pointwise [w_call0_v0, w_v0, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]
  simp only [pad_word]

/-- A padded value of the reference at one element. -/
theorem w_v30_at (A : Args) (b : Fin 32) (o : Fin 256) (t : Fin 1026) :
    w_v30 A (ix3 b o t) = if h : 1 ≤ (t : ℕ) ∧ (t : ℕ) - 1 < 1024 then w_v29 A (ix3 b o ⟨(t : ℕ) - 1, h.2⟩) else 0 := by
  pointwise [w_call2_v0, w_v30, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]
  simp only [pad_word]

/-- A padded value of the reference at one element. -/
theorem w_v60_at (A : Args) (b : Fin 32) (o : Fin 256) (t : Fin 514) :
    w_v60 A (ix3 b o t) = if h : 1 ≤ (t : ℕ) ∧ (t : ℕ) - 1 < 512 then w_v59 A (ix3 b o ⟨(t : ℕ) - 1, h.2⟩) else 0 := by
  pointwise [w_call4_v0, w_v60, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]
  simp only [pad_word]

/-- A padded value of the reference at one element. -/
theorem w_v84_at (A : Args) (b : Fin 32) (o : Fin 64) (t : Fin 514) :
    w_v84 A (ix3 b o t) = if h : 1 ≤ (t : ℕ) ∧ (t : ℕ) - 1 < 512 then w_v83 A (ix3 b o ⟨(t : ℕ) - 1, h.2⟩) else 0 := by
  pointwise [w_call6_v0, w_v84, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]
  simp only [pad_word]

/-- A padded value of the reference at one element. -/
theorem w_v119_at (A : Args) (b : Fin 32) (o : Fin 64) (t : Fin 514) :
    w_v119 A (ix3 b o t) = if h : 1 ≤ (t : ℕ) ∧ (t : ℕ) - 1 < 512 then w_v118 A (ix3 b o ⟨(t : ℕ) - 1, h.2⟩) else 0 := by
  pointwise [w_call10_v0, w_v119, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]
  simp only [pad_word]

/-- A value padded by nothing is the value. -/
theorem w_v108_at (A : Args) (b : Fin 32) (o : Fin 64) (t : Fin 512) :
    w_v108 A (ix3 b o t) = w_v107 A (ix3 b o t) := by
  pointwise! [w_call8_v0, w_v108, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A value padded by nothing is the value. -/
theorem w_v143_at (A : Args) (b : Fin 32) (o : Fin 64) (t : Fin 512) :
    w_v143 A (ix3 b o t) = w_v142 A (ix3 b o t) := by
  pointwise! [w_call12_v0, w_v143, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A value padded by nothing is the value. -/
theorem w_v154_at (A : Args) (b : Fin 32) (o : Fin 64) (t : Fin 512) :
    w_v154 A (ix3 b o t) = w_v153 A (ix3 b o t) := by
  pointwise! [w_call14_v0, w_v154, w_arg0, w_arg1, w_arg2, w_arg3, w_arg4, w_arg5, w_arg6, w_arg7, w_arg8, w_arg9, w_arg10, w_arg11, w_arg12, w_arg13, w_arg14, w_arg15, w_arg16, w_arg17, w_c, w_cst, w_c_0, w_cst_1, w_c_2, w_cst_3, w_c_4, w_cst_5, w_c_6, w_cst_7, w_c_8, w_cst_9, w_c_10, w_cst_11, w_c_12, w_cst_13, w_cst_14, w_cst_15, w_cst_16, w_cst_17, w_cst_18, w_cst_19, w_cst_20, w_cst_21, w_cst_22, w_cst_23, w_cst_24, w_cst_25]

/-- A residual sum of the reference at one element. -/
theorem w_v117_at (A : Args) (b : Fin 32) (o : Fin 64) (t : Fin 512) :
    w_v117 A (ix3 b o t) = w_v82 A (ix3 b o t) + w_v116 A (ix3 b o t) := by
  pointwise! [w_v117]

/-- A residual sum of the reference at one element. -/
theorem w_v152_at (A : Args) (b : Fin 32) (o : Fin 64) (t : Fin 512) :
    w_v152 A (ix3 b o t) = w_v117 A (ix3 b o t) + w_v151 A (ix3 b o t) := by
  pointwise! [w_v152]

/-- The encoded points of the reference at one element. -/
theorem w_v163_at (A : Args) (b : Fin 32) (t : Fin 512) (o : Fin 64) :
    w_v163 A (ix3 b t o) = w_v162 A (ix3 b o t) := by
  pointwise! [w_v163]

end Cert.ReferenceIdeal.Body
-- ==== Proof.Fed.lean ====
module

public import proofs.«01_k».proof.Proof.KTriple
public import proofs.«01_k».proof.Proof.RConv
public import Idealize.ShloMosaic.Lib.Pointwise

@[expose] public section

namespace Cert.KernelIdeal.Body

open Cert.KernelIdeal Cert.KernelIdeal.Gen Idealize.ShloMosaic Idealize.SL Idealize.SL.Sem

/-- A point's blocks are the reference's arguments: the padded input rows of batch `b`, the weights tap by tap, the
    biases, and the code book. -/
structure Fed (A : Cert.ReferenceIdeal.Body.Args) (b : Fin 32) (X : Blk Ideal) : Prop where
  xe : ∀ (p : Fin 512) (k : Fin 4) (q : Fin 64), X.x0 (ix3 0 p ⟨k.val * 64 + q.val, by omega⟩)
    = Cert.ReferenceIdeal.Body.w_v0 A (ix3 b q ⟨4 * p.val + 0 + k.val, by omega⟩)
  xo : ∀ (p : Fin 512) (k : Fin 4) (q : Fin 64), X.x1 (ix3 0 p ⟨k.val * 64 + q.val, by omega⟩)
    = Cert.ReferenceIdeal.Body.w_v0 A (ix3 b q ⟨4 * p.val + 2 + k.val, by omega⟩)
  w2 : ∀ (k : Fin 4) (q : Fin 64) (o : Fin 256), X.x2 (ix2 ⟨k.val * 64 + q.val, by omega⟩ o) = A.a1 (ix3 o q k)
  w3 : ∀ (k : Fin 4) (q : Fin 256) (o : Fin 256), X.x3 (ix2 ⟨k.val * 256 + q.val, by omega⟩ o) = A.a3 (ix3 o q k)
  w4 : ∀ (k : Fin 3) (q : Fin 256) (o : Fin 64), X.x4 (ix2 ⟨k.val * 256 + q.val, by omega⟩ o) = A.a5 (ix3 o q k)
  w5 : ∀ (k : Fin 3) (q : Fin 64) (o : Fin 64), X.x5 (ix2 ⟨k.val * 64 + q.val, by omega⟩ o) = A.a7 (ix3 o q k)
  w7 : ∀ (k : Fin 3) (q : Fin 64) (o : Fin 64), X.x7 (ix2 ⟨k.val * 64 + q.val, by omega⟩ o) = A.a11 (ix3 o q k)
  w6 : ∀ (q o : Fin 64), X.x6 (ix2 q o) = A.a9 (ix3 o q 0)
  w8 : ∀ (q o : Fin 64), X.x8 (ix2 q o) = A.a13 (ix3 o q 0)
  w9 : ∀ (q o : Fin 64), X.x9 (ix2 q o) = A.a15 (ix3 o q 0)
  et : ∀ (q : Fin 64) (o : Fin 1024), X.x10 (ix2 q o) = A.a17 (ix2 o q)
  emb : ∀ (o : Fin 1024) (q : Fin 64), X.x11 (ix2 o q) = A.a17 (ix2 o q)
  b12 : ∀ o : Fin 256, X.x12 (ix2 0 o) = A.a2 (ix1 o)
  b13 : ∀ o : Fin 256, X.x13 (ix2 0 o) = A.a4 (ix1 o)
  b14 : ∀ o : Fin 64, X.x14 (ix2 0 o) = A.a6 (ix1 o)
  b15 : ∀ o : Fin 64, X.x15 (ix2 0 o) = A.a8 (ix1 o)
  b16 : ∀ o : Fin 64, X.x16 (ix2 0 o) = A.a10 (ix1 o)
  b17 : ∀ o : Fin 64, X.x17 (ix2 0 o) = A.a12 (ix1 o)
  b18 : ∀ o : Fin 64, X.x18 (ix2 0 o) = A.a14 (ix1 o)
  b19 : ∀ o : Fin 64, X.x19 (ix2 0 o) = A.a16 (ix1 o)

end Cert.KernelIdeal.Body
-- ==== Proof.Feed.lean ====
module

public import proofs.«01_k».proof.Proof.KRun
public import proofs.«01_k».proof.Proof.Fed
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Body

open Cert.KernelIdeal Cert.KernelIdeal.Gen Idealize.ShloMosaic Idealize.ShloMosaic.TcCoe Idealize.SL Idealize.SL.Sem

variable (m : (ℓ : Loc nD τ sig) → Buf (Elt Ideal) ℓ)

/-- The kernel's argument arrays as the reference's. -/
def kArgs (c : Dev nD) : Cert.ReferenceIdeal.Body.Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)

/-- The block coordinates of the windows at every point. -/
theorem idxs : ∀ t : Fin cfg0.N, win0_0.index t = ![t.val, 0, 0] ∧ win0_1.index t = ![t.val, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] :=
  (by decide +kernel : ∀ t : Fin grid0.N, _)

/-- Window 2 reads its whole array at every point. -/
theorem blk_2 (c : Dev nD) (t : Fin cfg0.N) (p : Fin 256) (o : Fin 256) :
    (blkAt m c t).x2 (ix2 p o) = (V m c main_v7 : FVec Ideal S256x256 .f32) (ix2 p o) := by
  show V m c main_v7 _ = V m c main_v7 _
  blk_ext [idxs t]

/-- Window 3 reads its whole array at every point. -/
theorem blk_3 (c : Dev nD) (t : Fin cfg0.N) (p : Fin 1024) (o : Fin 256) :
    (blkAt m c t).x3 (ix2 p o) = (V m c main_v9 : FVec Ideal S1024x256 .f32) (ix2 p o) := by
  show V m c main_v9 _ = V m c main_v9 _
  blk_ext [idxs t]

/-- Window 4 reads its whole array at every point. -/
theorem blk_4 (c : Dev nD) (t : Fin cfg0.N) (p : Fin 768) (o : Fin 64) :
    (blkAt m c t).x4 (ix2 p o) = (V m c main_v11 : FVec Ideal S768x64 .f32) (ix2 p o) := by
  show V m c main_v11 _ = V m c main_v11 _
  blk_ext [idxs t]

/-- Window 5 reads its whole array at every point. -/
theorem blk_5 (c : Dev nD) (t : Fin cfg0.N) (p : Fin 192) (o : Fin 64) :
    (blkAt m c t).x5 (ix2 p o) = (V m c main_v13 : FVec Ideal S192x64 .f32) (ix2 p o) := by
  show V m c main_v13 _ = V m c main_v13 _
  blk_ext [idxs t]

/-- Window 6 reads its whole array at every point. -/
theorem blk_6 (c : Dev nD) (t : Fin cfg0.N) (p : Fin 64) (o : Fin 64) :
    (blkAt m c t).x6 (ix2 p o) = (V m c main_v17 : FVec Ideal S64x64 .f32) (ix2 p o) := by
  show V m c main_v17 _ = V m c main_v17 _
  blk_ext [idxs t]

/-- Window 7 reads its whole array at every point. -/
theorem blk_7 (c : Dev nD) (t : Fin cfg0.N) (p : Fin 192) (o : Fin 64) :
    (blkAt m c t).x7 (ix2 p o) = (V m c main_v15 : FVec Ideal S192x64 .f32) (ix2 p o) := by
  show V m c main_v15 _ = V m c main_v15 _
  blk_ext [idxs t]

/-- Window 8 reads its whole array at every point. -/
theorem blk_8 (c : Dev nD) (t : Fin cfg0.N) (p : Fin 64) (o : Fin 64) :
    (blkAt m c t).x8 (ix2 p o) = (V m c main_v19 : FVec Ideal S64x64 .f32) (ix2 p o) := by
  show V m c main_v19 _ = V m c main_v19 _
  blk_ext [idxs t]

/-- Window 9 reads its whole array at every point. -/
theorem blk_9 (c : Dev nD) (t : Fin cfg0.N) (p : Fin 64) (o : Fin 64) :
    (blkAt m c t).x9 (ix2 p o) = (V m c main_v21 : FVec Ideal S64x64 .f32) (ix2 p o) := by
  show V m c main_v21 _ = V m c main_v21 _
  blk_ext [idxs t]

/-- Window 10 reads its whole array at every point. -/
theorem blk_10 (c : Dev nD) (t : Fin cfg0.N) (p : Fin 64) (o : Fin 1024) :
    (blkAt m c t).x10 (ix2 p o) = (V m c main_v22 : FVec Ideal S64x1024 .f32) (ix2 p o) := by
  show V m c main_v22 _ = V m c main_v22 _
  blk_ext [idxs t]

/-- Window 11 reads its whole array at every point. -/
theorem blk_11 (c : Dev nD) (t : Fin cfg0.N) (p : Fin 1024) (o : Fin 64) :
    (blkAt m c t).x11 (ix2 p o) = (V m c main_arg17 : FVec Ideal S1024x64 .f32) (ix2 p o) := by
  show V m c main_arg17 _ = V m c main_arg17 _
  blk_ext [idxs t]

/-- Window 12 reads its whole array at every point. -/
theorem blk_12 (c : Dev nD) (t : Fin cfg0.N) (p : Fin 1) (o : Fin 256) :
    (blkAt m c t).x12 (ix2 p o) = (V m c main_v23 : FVec Ideal S1x256 .f32) (ix2 p o) := by
  show V m c main_v23 _ = V m c main_v23 _
  blk_ext [idxs t]

/-- Window 13 reads its whole array at every point. -/
theorem blk_13 (c : Dev nD) (t : Fin cfg0.N) (p : Fin 1) (o : Fin 256) :
    (blkAt m c t).x13 (ix2 p o) = (V m c main_v24 : FVec Ideal S1x256 .f32) (ix2 p o) := by
  show V m c main_v24 _ = V m c main_v24 _
  blk_ext [idxs t]

/-- Window 14 reads its whole array at every point. -/
theorem blk_14 (c : Dev nD) (t : Fin cfg0.N) (p : Fin 1) (o : Fin 64) :
    (blkAt m c t).x14 (ix2 p o) = (V m c main_v25 : FVec Ideal S1x64 .f32) (ix2 p o) := by
  show V m c main_v25 _ = V m c main_v25 _
  blk_ext [idxs t]

/-- Window 15 reads its whole array at every point. -/
theorem blk_15 (c : Dev nD) (t : Fin cfg0.N) (p : Fin 1) (o : Fin 64) :
    (blkAt m c t).x15 (ix2 p o) = (V m c main_v26 : FVec Ideal S1x64 .f32) (ix2 p o) := by
  show V m c main_v26 _ = V m c main_v26 _
  blk_ext [idxs t]

/-- Window 16 reads its whole array at every point. -/
theorem blk_16 (c : Dev nD) (t : Fin cfg0.N) (p : Fin 1) (o : Fin 64) :
    (blkAt m c t).x16 (ix2 p o) = (V m c main_v27 : FVec Ideal S1x64 .f32) (ix2 p o) := by
  show V m c main_v27 _ = V m c main_v27 _
  blk_ext [idxs t]

/-- Window 17 reads its whole array at every point. -/
theorem blk_17 (c : Dev nD) (t : Fin cfg0.N) (p : Fin 1) (o : Fin 64) :
    (blkAt m c t).x17 (ix2 p o) = (V m c main_v28 : FVec Ideal S1x64 .f32) (ix2 p o) := by
  show V m c main_v28 _ = V m c main_v28 _
  blk_ext [idxs t]

/-- Window 18 reads its whole array at every point. -/
theorem blk_18 (c : Dev nD) (t : Fin cfg0.N) (p : Fin 1) (o : Fin 64) :
    (blkAt m c t).x18 (ix2 p o) = (V m c main_v29 : FVec Ideal S1x64 .f32) (ix2 p o) := by
  show V m c main_v29 _ = V m c main_v29 _
  blk_ext [idxs t]

/-- Window 19 reads its whole array at every point. -/
theorem blk_19 (c : Dev nD) (t : Fin cfg0.N) (p : Fin 1) (o : Fin 64) :
    (blkAt m c t).x19 (ix2 p o) = (V m c main_v30 : FVec Ideal S1x64 .f32) (ix2 p o) := by
  show V m c main_v30 _ = V m c main_v30 _
  blk_ext [idxs t]

/-- Window 0 reads one batch at every point. -/
theorem blk_0 (c : Dev nD) (t : Fin cfg0.N) (p : Fin 512) (o : Fin 256) :
    (blkAt m c t).x0 (ix3 0 p o) = (V m c main_v3 : FVec Ideal S32x512x256 .f32) (ix3 t p o) := by
  show V m c main_v3 _ = V m c main_v3 _
  blk_ext [idxs t]

/-- Window 1 reads one batch at every point. -/
theorem blk_1 (c : Dev nD) (t : Fin cfg0.N) (p : Fin 512) (o : Fin 256) :
    (blkAt m c t).x1 (ix3 0 p o) = (V m c main_v5 : FVec Ideal S32x512x256 .f32) (ix3 t p o) := by
  show V m c main_v5 _ = V m c main_v5 _
  blk_ext [idxs t]

/-- A convolution's weights as the kernel's matrix. -/
theorem val_v7 (c : Dev nD) (k : Fin 4) (q : Fin 64) (o : Fin 256) :
    (V m c main_v7 : FVec Ideal S256x256 .f32) (ix2 ⟨k.val * 64 + q.val, by omega⟩ o) = (kArgs m c).a1 (ix3 o q k) := by
  simp only [V, V0, List.flatten_cons, List.flatten_nil, List.append_nil, List.cons_append, List.nil_append]
  entry_read
  pointwise [kArgs]

/-- A convolution's weights as the kernel's matrix. -/
theorem val_v9 (c : Dev nD) (k : Fin 4) (q : Fin 256) (o : Fin 256) :
    (V m c main_v9 : FVec Ideal S1024x256 .f32) (ix2 ⟨k.val * 256 + q.val, by omega⟩ o) = (kArgs m c).a3 (ix3 o q k) := by
  simp only [V, V0, List.flatten_cons, List.flatten_nil, List.append_nil, List.cons_append, List.nil_append]
  entry_read
  pointwise [kArgs]

/-- A convolution's weights as the kernel's matrix. -/
theorem val_v11 (c : Dev nD) (k : Fin 3) (q : Fin 256) (o : Fin 64) :
    (V m c main_v11 : FVec Ideal S768x64 .f32) (ix2 ⟨k.val * 256 + q.val, by omega⟩ o) = (kArgs m c).a5 (ix3 o q k) := by
  simp only [V, V0, List.flatten_cons, List.flatten_nil, List.append_nil, List.cons_append, List.nil_append]
  entry_read
  pointwise [kArgs]

/-- A convolution's weights as the kernel's matrix. -/
theorem val_v13 (c : Dev nD) (k : Fin 3) (q : Fin 64) (o : Fin 64) :
    (V m c main_v13 : FVec Ideal S192x64 .f32) (ix2 ⟨k.val * 64 + q.val, by omega⟩ o) = (kArgs m c).a7 (ix3 o q k) := by
  simp only [V, V0, List.flatten_cons, List.flatten_nil, List.append_nil, List.cons_append, List.nil_append]
  entry_read
  pointwise [kArgs]

/-- A convolution's weights as the kernel's matrix. -/
theorem val_v15 (c : Dev nD) (k : Fin 3) (q : Fin 64) (o : Fin 64) :
    (V m c main_v15 : FVec Ideal S192x64 .f32) (ix2 ⟨k.val * 64 + q.val, by omega⟩ o) = (kArgs m c).a11 (ix3 o q k) := by
  simp only [V, V0, List.flatten_cons, List.flatten_nil, List.append_nil, List.cons_append, List.nil_append]
  entry_read
  pointwise [kArgs]

/-- A pointwise convolution's weights as the kernel's matrix. -/
theorem val_v17 (c : Dev nD) (q : Fin 64) (o : Fin 64) :
    (V m c main_v17 : FVec Ideal S64x64 .f32) (ix2 q o) = (kArgs m c).a9 (ix3 o q 0) := by
  simp only [V, V0, List.flatten_cons, List.flatten_nil, List.append_nil, List.cons_append, List.nil_append]
  entry_read
  pointwise! [kArgs]

/-- A pointwise convolution's weights as the kernel's matrix. -/
theorem val_v19 (c : Dev nD) (q : Fin 64) (o : Fin 64) :
    (V m c main_v19 : FVec Ideal S64x64 .f32) (ix2 q o) = (kArgs m c).a13 (ix3 o q 0) := by
  simp only [V, V0, List.flatten_cons, List.flatten_nil, List.append_nil, List.cons_append, List.nil_append]
  entry_read
  pointwise! [kArgs]

/-- A pointwise convolution's weights as the kernel's matrix. -/
theorem val_v21 (c : Dev nD) (q : Fin 64) (o : Fin 64) :
    (V m c main_v21 : FVec Ideal S64x64 .f32) (ix2 q o) = (kArgs m c).a15 (ix3 o q 0) := by
  simp only [V, V0, List.flatten_cons, List.flatten_nil, List.append_nil, List.cons_append, List.nil_append]
  entry_read
  pointwise! [kArgs]

/-- The transposed code book. -/
theorem val_v22 (c : Dev nD) (q : Fin 64) (o : Fin 1024) :
    (V m c main_v22 : FVec Ideal S64x1024 .f32) (ix2 q o) = (kArgs m c).a17 (ix2 o q) := by
  simp only [V, V0, List.flatten_cons, List.flatten_nil, List.append_nil, List.cons_append, List.nil_append]
  entry_read
  pointwise! [kArgs]

/-- A bias as a row. -/
theorem val_v23 (c : Dev nD) (o : Fin 256) :
    (V m c main_v23 : FVec Ideal S1x256 .f32) (ix2 0 o) = (kArgs m c).a2 (ix1 o) := by
  simp only [V, V0, List.flatten_cons, List.flatten_nil, List.append_nil, List.cons_append, List.nil_append]
  entry_read
  pointwise! [kArgs]

/-- A bias as a row. -/
theorem val_v24 (c : Dev nD) (o : Fin 256) :
    (V m c main_v24 : FVec Ideal S1x256 .f32) (ix2 0 o) = (kArgs m c).a4 (ix1 o) := by
  simp only [V, V0, List.flatten_cons, List.flatten_nil, List.append_nil, List.cons_append, List.nil_append]
  entry_read
  pointwise! [kArgs]

/-- A bias as a row. -/
theorem val_v25 (c : Dev nD) (o : Fin 64) :
    (V m c main_v25 : FVec Ideal S1x64 .f32) (ix2 0 o) = (kArgs m c).a6 (ix1 o) := by
  simp only [V, V0, List.flatten_cons, List.flatten_nil, List.append_nil, List.cons_append, List.nil_append]
  entry_read
  pointwise! [kArgs]

/-- A bias as a row. -/
theorem val_v26 (c : Dev nD) (o : Fin 64) :
    (V m c main_v26 : FVec Ideal S1x64 .f32) (ix2 0 o) = (kArgs m c).a8 (ix1 o) := by
  simp only [V, V0, List.flatten_cons, List.flatten_nil, List.append_nil, List.cons_append, List.nil_append]
  entry_read
  pointwise! [kArgs]

/-- A bias as a row. -/
theorem val_v27 (c : Dev nD) (o : Fin 64) :
    (V m c main_v27 : FVec Ideal S1x64 .f32) (ix2 0 o) = (kArgs m c).a10 (ix1 o) := by
  simp only [V, V0, List.flatten_cons, List.flatten_nil, List.append_nil, List.cons_append, List.nil_append]
  entry_read
  pointwise! [kArgs]

/-- A bias as a row. -/
theorem val_v28 (c : Dev nD) (o : Fin 64) :
    (V m c main_v28 : FVec Ideal S1x64 .f32) (ix2 0 o) = (kArgs m c).a12 (ix1 o) := by
  simp only [V, V0, List.flatten_cons, List.flatten_nil, List.append_nil, List.cons_append, List.nil_append]
  entry_read
  pointwise! [kArgs]

/-- A bias as a row. -/
theorem val_v29 (c : Dev nD) (o : Fin 64) :
    (V m c main_v29 : FVec Ideal S1x64 .f32) (ix2 0 o) = (kArgs m c).a14 (ix1 o) := by
  simp only [V, V0, List.flatten_cons, List.flatten_nil, List.append_nil, List.cons_append, List.nil_append]
  entry_read
  pointwise! [kArgs]

/-- A bias as a row. -/
theorem val_v30 (c : Dev nD) (o : Fin 64) :
    (V m c main_v30 : FVec Ideal S1x64 .f32) (ix2 0 o) = (kArgs m c).a16 (ix1 o) := by
  simp only [V, V0, List.flatten_cons, List.flatten_nil, List.append_nil, List.cons_append, List.nil_append]
  entry_read
  pointwise! [kArgs]

/-- The padded, transposed input. -/
theorem val_v1 (c : Dev nD) (b : Fin 32) (r : Fin 2050) (q : Fin 64) :
    (V m c main_v1 : FVec Ideal S32x2050x64 .f32) (ix3 b r q) = Cert.ReferenceIdeal.Body.w_v0 (kArgs m c) (ix3 b q r) := by
  rw [Cert.ReferenceIdeal.Body.w_v0_at]
  simp only [V, V0, List.flatten_cons, List.flatten_nil, List.append_nil, List.cons_append, List.nil_append]
  entry_read
  simp -implicitDefEqProofs only [StableHlo.TRef.toBuf, StableHlo.TRef.ofBuf, cast_cast, cast_eq]
  pointwise [kArgs]
  simp only [Cert.ReferenceIdeal.Body.pad_word]
  try rfl

/-- Consecutive rows taken together, at one element. -/
theorem rows_v3 (x : FVec Ideal S32x2050x64 .f32) (b : Fin 32) (p : Fin 512) (k : Fin 4) (q : Fin 64) :
    shapeCast S32x512x256 (extractStridedSlice S32x2048x64 ![0, 0, 0] x slices_S32x2050x64_S32x2048x64_0_0_0)
      shapeCasts_S32x2048x64_S32x512x256 (ix3 b p ⟨k.val * 64 + q.val, by omega⟩)
      = x (ix3 b ⟨4 * p.val + 0 + k.val, by omega⟩ q) := by
  pointwise
  exact congrArg x (congrArg (fun r => ix3 b r q) (Fin.ext (by dsimp only; omega)))

/-- The rows the window holds, as slices of the padded input. -/
theorem ops_v3 (c : Dev nD) : V m c main_v3 = shapeCast S32x512x256 (extractStridedSlice S32x2048x64 ![0, 0, 0]
      (V m c main_v1 : FVec Ideal S32x2050x64 .f32) slices_S32x2050x64_S32x2048x64_0_0_0) shapeCasts_S32x2048x64_S32x512x256 := by
  simp only [V, V0, List.flatten_cons, List.flatten_nil, List.append_nil, List.cons_append, List.nil_append]
  entry_read
  try rfl

/-- The rows of the padded input. -/
theorem val_v3 (c : Dev nD) (b : Fin 32) (p : Fin 512) (k : Fin 4) (q : Fin 64) :
    (V m c main_v3 : FVec Ideal S32x512x256 .f32) (ix3 b p ⟨k.val * 64 + q.val, by omega⟩)
      = Cert.ReferenceIdeal.Body.w_v0 (kArgs m c) (ix3 b q ⟨4 * p.val + 0 + k.val, by omega⟩) :=
  (congrFun (ops_v3 m c) _).trans ((rows_v3 _ b p k q).trans (val_v1 m c b _ q))

/-- Consecutive rows taken together, at one element. -/
theorem rows_v5 (x : FVec Ideal S32x2050x64 .f32) (b : Fin 32) (p : Fin 512) (k : Fin 4) (q : Fin 64) :
    shapeCast S32x512x256 (extractStridedSlice S32x2048x64 ![0, 2, 0] x slices_S32x2050x64_S32x2048x64_0_2_0)
      shapeCasts_S32x2048x64_S32x512x256 (ix3 b p ⟨k.val * 64 + q.val, by omega⟩)
      = x (ix3 b ⟨4 * p.val + 2 + k.val, by omega⟩ q) := by
  pointwise
  exact congrArg x (congrArg (fun r => ix3 b r q) (Fin.ext (by dsimp only; omega)))

/-- The rows the window holds, as slices of the padded input. -/
theorem ops_v5 (c : Dev nD) : V m c main_v5 = shapeCast S32x512x256 (extractStridedSlice S32x2048x64 ![0, 2, 0]
      (V m c main_v1 : FVec Ideal S32x2050x64 .f32) slices_S32x2050x64_S32x2048x64_0_2_0) shapeCasts_S32x2048x64_S32x512x256 := by
  simp only [V, V0, List.flatten_cons, List.flatten_nil, List.append_nil, List.cons_append, List.nil_append]
  entry_read
  try rfl

/-- The rows of the padded input. -/
theorem val_v5 (c : Dev nD) (b : Fin 32) (p : Fin 512) (k : Fin 4) (q : Fin 64) :
    (V m c main_v5 : FVec Ideal S32x512x256 .f32) (ix3 b p ⟨k.val * 64 + q.val, by omega⟩)
      = Cert.ReferenceIdeal.Body.w_v0 (kArgs m c) (ix3 b q ⟨4 * p.val + 2 + k.val, by omega⟩) :=
  (congrFun (ops_v5 m c) _).trans ((rows_v5 _ b p k q).trans (val_v1 m c b _ q))

/-- Every point is fed its batch of the arguments. -/
theorem fed (c : Dev nD) (t : Fin cfg0.N) : Fed (kArgs m c) t (blkAt m c t) :=
  ⟨fun p k q => (blk_0 m c t p _).trans (val_v3 m c t p k q),
    fun p k q => (blk_1 m c t p _).trans (val_v5 m c t p k q),
    fun k q o => (blk_2 m c t _ o).trans (val_v7 m c k q o),
    fun k q o => (blk_3 m c t _ o).trans (val_v9 m c k q o),
    fun k q o => (blk_4 m c t _ o).trans (val_v11 m c k q o),
    fun k q o => (blk_5 m c t _ o).trans (val_v13 m c k q o),
    fun k q o => (blk_7 m c t _ o).trans (val_v15 m c k q o),
    fun q o => (blk_6 m c t q o).trans (val_v17 m c q o),
    fun q o => (blk_8 m c t q o).trans (val_v19 m c q o),
    fun q o => (blk_9 m c t q o).trans (val_v21 m c q o),
    fun q o => (blk_10 m c t q o).trans (val_v22 m c q o),
    fun o q => (blk_11 m c t o q).trans (by rw [V_main_arg17]; rfl),
    fun o => (blk_12 m c t 0 o).trans (val_v23 m c o),
    fun o => (blk_13 m c t 0 o).trans (val_v24 m c o),
    fun o => (blk_14 m c t 0 o).trans (val_v25 m c o),
    fun o => (blk_15 m c t 0 o).trans (val_v26 m c o),
    fun o => (blk_16 m c t 0 o).trans (val_v27 m c o),
    fun o => (blk_17 m c t 0 o).trans (val_v28 m c o),
    fun o => (blk_18 m c t 0 o).trans (val_v29 m c o),
    fun o => (blk_19 m c t 0 o).trans (val_v30 m c o)⟩

end Cert.KernelIdeal.Body
-- ==== Proof.RTail.lean ====
module

public import proofs.«01_k».proof.Proof.RVals
public import Idealize.ShloMosaic.Lib.Pointwise

@[expose] public section

set_option maxRecDepth 16384

noncomputable section

namespace Cert.ReferenceIdeal.Body

open Idealize.ShloMosaic Idealize.SL.Sem Cert.ReferenceIdeal.Facts₀

/-- The rows of all batches in one list. -/
theorem w_v164_at (A : Args) (b : Fin 32) (t : Fin 512) (o : Fin 64) :
    w_v164 A (ix2 ⟨b.val * 512 + t.val, by omega⟩ o) = w_v163 A (ix3 b t o) := by
  pointwise! [w_v164]

/-- A row's sum of squares. -/
theorem w_v166_at (A : Args) (r : Fin 16384) :
    w_v166 A (ix1 r) = ∑ x : Fin 64, w_v164 A (ix2 r x) * w_v164 A (ix2 r x) := by
  pointwise! [w_v166, w_v165, w_cst_14]

/-- A code's sum of squares. -/
theorem w_v169_at (A : Args) (n : Fin 1024) :
    w_v169 A (ix1 n) = ∑ x : Fin 64, A.a17 (ix2 n x) * A.a17 (ix2 n x) := by
  pointwise! [w_v169, w_v168, w_cst_15, w_arg17]

/-- The sums of squares, added. -/
theorem w_v173_at (A : Args) (r : Fin 16384) (n : Fin 1024) :
    w_v173 A (ix2 r n) = w_v166 A (ix1 r) + w_v169 A (ix1 n) := by
  pointwise! [w_v173, w_v171, w_v172, w_v167, w_v170]

/-- The inner products. -/
theorem w_v175_at (A : Args) (r : Fin 16384) (n : Fin 1024) :
    w_v175 A (ix2 r n) = ∑ x : Fin 64, w_v164 A (ix2 r x) * A.a17 (ix2 n x) := by
  pointwise! [w_v175, w_v174, w_arg17]

/-- A difference read at a place. -/
theorem sub_at (x y : FVec Ideal S16384x1024 .f32) (j : S16384x1024.Idx) : subf x y j = x j - y j := rfl

/-- A product read at a place. -/
theorem mul_at (x y : FVec Ideal S16384x1024 .f32) (j : S16384x1024.Idx) : mulf x y j = x j * y j := rfl

/-- The factor two at every place. -/
theorem w_v176_at (A : Args) (r : Fin 16384) (n : Fin 1024) : w_v176 A (ix2 r n) = Ideal.ofBits .f32 0x40000000#32 := rfl

/-- The distances as one expression. -/
theorem w_v178_eq (A : Args) : w_v178 A = subf (w_v173 A) (w_v177 A) := rfl

/-- The doubled products as one expression. -/
theorem w_v177_eq (A : Args) : w_v177 A = mulf (w_v176 A) (w_v175 A) := rfl

/-- The distances. -/
theorem w_v178_at (A : Args) (r : Fin 16384) (n : Fin 1024) :
    w_v178 A (ix2 r n) = w_v173 A (ix2 r n) - Ideal.ofBits .f32 0x40000000#32 * w_v175 A (ix2 r n) := by
  rw [w_v178_eq, sub_at, w_v177_eq, mul_at, w_v176_at]

/-- Words of the rows, spread over the codes. -/
theorem spread_at (w : IVec S16384 32) (r : Fin 16384) (n : Fin 1024) :
    broadcastInDim S16384x1024 ![0, 1] bcast_S16384x1_S16384x1024_0_1 (broadcastInDim S16384x1 ![0] bcast_S16384_S16384x1_0 w) (ix2 r n) = w (ix1 r) := by
  pointwise! []

/-- The index of a row under every code. -/
theorem call16_v2_at (A : Args) (r : Fin 16384) (n : Fin 1024) : w_call16_v2 A (ix2 r n) = w_v179 A (ix1 r) :=
  spread_at (w_v179 A) r n

/-- The codes' numbers under every row. -/
theorem call16_v3_at (A : Args) (r : Fin 16384) (n : Fin 1024) : w_call16_v3 A (ix2 r n) = BitVec.ofNat 32 (n : ℕ) := by
  pointwise! [w_call16_v3, w_call16_v1]

/-- A comparison turned into a number, read at a place. -/
theorem onehot_at (x y : IVec S16384x1024 32) (j : S16384x1024.Idx) :
    (uitofp .f32 (cmpi .eq x y) : FVec Ideal S16384x1024 .f32) j = FloatOps.uitofp FTy.f32 (IntOp.cmpi CmpIPredicate.eq (x j) (y j)) := rfl

/-- The one-hot rows as one expression. -/
theorem w_v180_eq (A : Args) : w_v180 A = uitofp .f32 (cmpi .eq (w_call16_v2 A) (w_call16_v3 A)) := rfl

/-- The one-hot rows. -/
theorem w_v180_at (A : Args) (r : Fin 16384) (n : Fin 1024) :
    w_v180 A (ix2 r n) = FloatOps.uitofp FTy.f32 (IntOp.cmpi CmpIPredicate.eq (w_v179 A (ix1 r)) (BitVec.ofNat 32 (n : ℕ))) := by
  rw [w_v180_eq, onehot_at, call16_v2_at, call16_v3_at]

/-- The selected codes. -/
theorem w_v181_at (A : Args) (r : Fin 16384) (o : Fin 64) :
    w_v181 A (ix2 r o) = ∑ n : Fin 1024, w_v180 A (ix2 r n) * A.a17 (ix2 n o) := by
  pointwise! [w_v181, w_arg17]

/-- The selected codes by batch. -/
theorem w_v182_at (A : Args) (b : Fin 32) (t : Fin 512) (o : Fin 64) :
    w_v182 A (ix3 b t o) = w_v181 A (ix2 ⟨b.val * 512 + t.val, by omega⟩ o) := by
  pointwise! [w_v182]

/-- The straight-through rows. -/
theorem w_v194_at (A : Args) (j : S32x512x64.Idx) : w_v194 A j = w_v163 A j + (w_v182 A j - w_v163 A j) := rfl

/-- The sum of squared differences. -/
theorem w_v185_at (A : Args) : w_v185 A ix0
    = ∑ b : Fin 32, ∑ t : Fin 512, ∑ o : Fin 64, (w_v182 A (ix3 b t o) - w_v163 A (ix3 b t o)) * (w_v182 A (ix3 b t o) - w_v163 A (ix3 b t o)) := by
  pointwise! [w_v185, w_v184, w_v183, w_cst_17]

/-- The loss. -/
theorem w_v192_at (A : Args) : w_v192 A ix0 = Ideal.div (w_v185 A ix0) (Ideal.ofBits .f32 0x49800000#32)
    + Ideal.ofBits .f32 0x3E800000#32 * Ideal.div (w_v185 A ix0) (Ideal.ofBits .f32 0x49800000#32) := by
  have e : w_v189 A = w_v185 A := rfl
  pointwise! [w_v192, w_v191, w_v190, w_v186, w_cst_18, w_cst_20, w_cst_21, e]

/-- How often each code is selected. -/
theorem w_v195_at (A : Args) (n : Fin 1024) : w_v195 A (ix1 n) = ∑ r : Fin 16384, w_v180 A (ix2 r n) := by
  pointwise! [w_v195, w_cst_22]

/-- The perplexity. -/
theorem w_v204_at (A : Args) : w_v204 A ix0 = Ideal.exp (-∑ n : Fin 1024,
    Ideal.div (w_v195 A (ix1 n)) (Ideal.ofBits .f32 0x46800000#32)
      * Ideal.log (Ideal.div (w_v195 A (ix1 n)) (Ideal.ofBits .f32 0x46800000#32) + Ideal.ofBits .f32 0x2EDBE6FF#32)) := by
  pointwise! [w_v204, w_v203, w_v202, w_v201, w_v200, w_v199, w_v198, w_v197, w_v196, w_cst_23, w_cst_24, w_cst_25]

end Cert.ReferenceIdeal.Body
-- ==== Proof.RNum.lean ====
module

public import proofs.«01_k».proof.Proof.RConv
public import proofs.«01_k».proof.Proof.RTail

@[expose] public section

set_option maxRecDepth 16384

noncomputable section

namespace Cert.ReferenceIdeal.Body

open Idealize.ShloMosaic Idealize.SL.Sem Cert.ReferenceIdeal.Facts₀

/-- The value is a real number. -/
def Num (x : EReal) : Prop := ∃ r : ℝ, x = (r : EReal)

theorem Num.zero : Num 0 := ⟨0, by simp⟩
theorem Num.add {x y : EReal} (hx : Num x) (hy : Num y) : Num (x + y) := by
  obtain ⟨a, rfl⟩ := hx; obtain ⟨b, rfl⟩ := hy; exact ⟨a + b, (EReal.coe_add a b).symm⟩
theorem Num.sub {x y : EReal} (hx : Num x) (hy : Num y) : Num (x - y) := by
  obtain ⟨a, rfl⟩ := hx; obtain ⟨b, rfl⟩ := hy; exact ⟨a - b, (EReal.coe_sub a b).symm⟩
theorem Num.mul {x y : EReal} (hx : Num x) (hy : Num y) : Num (x * y) := by
  obtain ⟨a, rfl⟩ := hx; obtain ⟨b, rfl⟩ := hy; exact ⟨a * b, (EReal.coe_mul a b).symm⟩
theorem Num.max {x y : EReal} (hx : Num x) (hy : Num y) : Num (max x y) := by
  rcases max_choice x y with h | h <;> rw [h] <;> assumption
theorem Num.sum {ι : Type} (s : Finset ι) {f : ι → EReal} (h : ∀ i, Num (f i)) : Num (∑ i ∈ s, f i) := by
  classical
  induction s using Finset.induction_on with
  | empty => simpa using Num.zero
  | insert a s ha ih => rw [Finset.sum_insert ha]; exact (h a).add ih

/-- Every argument of the reference holds real numbers only. -/
structure NumArgs (A : Args) : Prop where
  a0 : ∀ j, Num (A.a0 j)
  a1 : ∀ j, Num (A.a1 j)
  a2 : ∀ j, Num (A.a2 j)
  a3 : ∀ j, Num (A.a3 j)
  a4 : ∀ j, Num (A.a4 j)
  a5 : ∀ j, Num (A.a5 j)
  a6 : ∀ j, Num (A.a6 j)
  a7 : ∀ j, Num (A.a7 j)
  a8 : ∀ j, Num (A.a8 j)
  a9 : ∀ j, Num (A.a9 j)
  a10 : ∀ j, Num (A.a10 j)
  a11 : ∀ j, Num (A.a11 j)
  a12 : ∀ j, Num (A.a12 j)
  a13 : ∀ j, Num (A.a13 j)
  a14 : ∀ j, Num (A.a14 j)
  a15 : ∀ j, Num (A.a15 j)
  a16 : ∀ j, Num (A.a16 j)
  a17 : ∀ j, Num (A.a17 j)

section
variable {A : Args} (h : NumArgs A)
include h

/-- The reference's value `main_v0` is real. -/
theorem num_v0 (b : Fin 32) (o : Fin 64) (t : Fin 2050) : Num (w_v0 A (ix3 b o t)) := by
  rw [w_v0_at]
  split
  · exact h.a0 _
  · exact Num.zero

/-- The reference's value `main_v28` is real. -/
theorem num_v28 (b : Fin 32) (o : Fin 256) (t : Fin 1024) : Num (w_v28 A (ix3 b o t)) := by
  rw [w_v28_at]
  exact ((((Num.sum _ fun _ => (h.a1 _).mul (num_v0 h _ _ _)).add (Num.sum _ fun _ => (h.a1 _).mul (num_v0 h _ _ _))).add (Num.sum _ fun _ => (h.a1 _).mul (num_v0 h _ _ _))).add (Num.sum _ fun _ => (h.a1 _).mul (num_v0 h _ _ _))).add (h.a2 _)

/-- The reference's value `main_v29` is real. -/
theorem num_v29 (b : Fin 32) (o : Fin 256) (t : Fin 1024) : Num (w_v29 A (ix3 b o t)) := by
  rw [w_v29_at]
  exact (num_v28 h _ _ _).max Num.zero

/-- The reference's value `main_v30` is real. -/
theorem num_v30 (b : Fin 32) (o : Fin 256) (t : Fin 1026) : Num (w_v30 A (ix3 b o t)) := by
  rw [w_v30_at]
  split
  · exact num_v29 h _ _ _
  · exact Num.zero

/-- The reference's value `main_v58` is real. -/
theorem num_v58 (b : Fin 32) (o : Fin 256) (t : Fin 512) : Num (w_v58 A (ix3 b o t)) := by
  rw [w_v58_at]
  exact ((((Num.sum _ fun _ => (h.a3 _).mul (num_v30 h _ _ _)).add (Num.sum _ fun _ => (h.a3 _).mul (num_v30 h _ _ _))).add (Num.sum _ fun _ => (h.a3 _).mul (num_v30 h _ _ _))).add (Num.sum _ fun _ => (h.a3 _).mul (num_v30 h _ _ _))).add (h.a4 _)

/-- The reference's value `main_v59` is real. -/
theorem num_v59 (b : Fin 32) (o : Fin 256) (t : Fin 512) : Num (w_v59 A (ix3 b o t)) := by
  rw [w_v59_at]
  exact (num_v58 h _ _ _).max Num.zero

/-- The reference's value `main_v60` is real. -/
theorem num_v60 (b : Fin 32) (o : Fin 256) (t : Fin 514) : Num (w_v60 A (ix3 b o t)) := by
  rw [w_v60_at]
  split
  · exact num_v59 h _ _ _
  · exact Num.zero

/-- The reference's value `main_v82` is real. -/
theorem num_v82 (b : Fin 32) (o : Fin 64) (t : Fin 512) : Num (w_v82 A (ix3 b o t)) := by
  rw [w_v82_at]
  exact (((Num.sum _ fun _ => (h.a5 _).mul (num_v60 h _ _ _)).add (Num.sum _ fun _ => (h.a5 _).mul (num_v60 h _ _ _))).add (Num.sum _ fun _ => (h.a5 _).mul (num_v60 h _ _ _))).add (h.a6 _)

/-- The reference's value `main_v83` is real. -/
theorem num_v83 (b : Fin 32) (o : Fin 64) (t : Fin 512) : Num (w_v83 A (ix3 b o t)) := by
  rw [w_v83_at]
  exact (num_v82 h _ _ _).max Num.zero

/-- The reference's value `main_v84` is real. -/
theorem num_v84 (b : Fin 32) (o : Fin 64) (t : Fin 514) : Num (w_v84 A (ix3 b o t)) := by
  rw [w_v84_at]
  split
  · exact num_v83 h _ _ _
  · exact Num.zero

/-- The reference's value `main_v106` is real. -/
theorem num_v106 (b : Fin 32) (o : Fin 64) (t : Fin 512) : Num (w_v106 A (ix3 b o t)) := by
  rw [w_v106_at]
  exact (((Num.sum _ fun _ => (h.a7 _).mul (num_v84 h _ _ _)).add (Num.sum _ fun _ => (h.a7 _).mul (num_v84 h _ _ _))).add (Num.sum _ fun _ => (h.a7 _).mul (num_v84 h _ _ _))).add (h.a8 _)

/-- The reference's value `main_v107` is real. -/
theorem num_v107 (b : Fin 32) (o : Fin 64) (t : Fin 512) : Num (w_v107 A (ix3 b o t)) := by
  rw [w_v107_at]
  exact (num_v106 h _ _ _).max Num.zero

/-- The reference's value `main_v108` is real. -/
theorem num_v108 (b : Fin 32) (o : Fin 64) (t : Fin 512) : Num (w_v108 A (ix3 b o t)) := by
  rw [w_v108_at]
  exact num_v107 h _ _ _

/-- The reference's value `main_v116` is real. -/
theorem num_v116 (b : Fin 32) (o : Fin 64) (t : Fin 512) : Num (w_v116 A (ix3 b o t)) := by
  rw [w_v116_at]
  exact (Num.sum _ fun _ => (h.a9 _).mul (num_v108 h _ _ _)).add (h.a10 _)

/-- The reference's value `main_v117` is real. -/
theorem num_v117 (b : Fin 32) (o : Fin 64) (t : Fin 512) : Num (w_v117 A (ix3 b o t)) := by
  rw [w_v117_at]
  exact (num_v82 h _ _ _).add (num_v116 h _ _ _)

/-- The reference's value `main_v118` is real. -/
theorem num_v118 (b : Fin 32) (o : Fin 64) (t : Fin 512) : Num (w_v118 A (ix3 b o t)) := by
  rw [w_v118_at]
  exact (num_v117 h _ _ _).max Num.zero

/-- The reference's value `main_v119` is real. -/
theorem num_v119 (b : Fin 32) (o : Fin 64) (t : Fin 514) : Num (w_v119 A (ix3 b o t)) := by
  rw [w_v119_at]
  split
  · exact num_v118 h _ _ _
  · exact Num.zero

/-- The reference's value `main_v141` is real. -/
theorem num_v141 (b : Fin 32) (o : Fin 64) (t : Fin 512) : Num (w_v141 A (ix3 b o t)) := by
  rw [w_v141_at]
  exact (((Num.sum _ fun _ => (h.a11 _).mul (num_v119 h _ _ _)).add (Num.sum _ fun _ => (h.a11 _).mul (num_v119 h _ _ _))).add (Num.sum _ fun _ => (h.a11 _).mul (num_v119 h _ _ _))).add (h.a12 _)

/-- The reference's value `main_v142` is real. -/
theorem num_v142 (b : Fin 32) (o : Fin 64) (t : Fin 512) : Num (w_v142 A (ix3 b o t)) := by
  rw [w_v142_at]
  exact (num_v141 h _ _ _).max Num.zero

/-- The reference's value `main_v143` is real. -/
theorem num_v143 (b : Fin 32) (o : Fin 64) (t : Fin 512) : Num (w_v143 A (ix3 b o t)) := by
  rw [w_v143_at]
  exact num_v142 h _ _ _

/-- The reference's value `main_v151` is real. -/
theorem num_v151 (b : Fin 32) (o : Fin 64) (t : Fin 512) : Num (w_v151 A (ix3 b o t)) := by
  rw [w_v151_at]
  exact (Num.sum _ fun _ => (h.a13 _).mul (num_v143 h _ _ _)).add (h.a14 _)

/-- The reference's value `main_v152` is real. -/
theorem num_v152 (b : Fin 32) (o : Fin 64) (t : Fin 512) : Num (w_v152 A (ix3 b o t)) := by
  rw [w_v152_at]
  exact (num_v117 h _ _ _).add (num_v151 h _ _ _)

/-- The reference's value `main_v153` is real. -/
theorem num_v153 (b : Fin 32) (o : Fin 64) (t : Fin 512) : Num (w_v153 A (ix3 b o t)) := by
  rw [w_v153_at]
  exact (num_v152 h _ _ _).max Num.zero

/-- The reference's value `main_v154` is real. -/
theorem num_v154 (b : Fin 32) (o : Fin 64) (t : Fin 512) : Num (w_v154 A (ix3 b o t)) := by
  rw [w_v154_at]
  exact num_v153 h _ _ _

/-- The reference's value `main_v162` is real. -/
theorem num_v162 (b : Fin 32) (o : Fin 64) (t : Fin 512) : Num (w_v162 A (ix3 b o t)) := by
  rw [w_v162_at]
  exact (Num.sum _ fun _ => (h.a15 _).mul (num_v154 h _ _ _)).add (h.a16 _)

/-- The rows before quantisation are real. -/
theorem num_v163 (b : Fin 32) (t : Fin 512) (o : Fin 64) : Num (w_v163 A (ix3 b t o)) := by
  rw [w_v163_at]; exact num_v162 h _ _ _
end

end Cert.ReferenceIdeal.Body
-- ==== Proof.Fin.lean ====
module

public import proofs.«01_k».proof.Pre_finite
public import proofs.«01_k».proof.Proof.RNum
public import Idealize.ShloMosaic.Lib.ReduceAll
public import Idealize.ShloMosaic.Lib.Decide

@[expose] public section

set_option maxRecDepth 16384

noncomputable section

namespace Cert.Pre_finite

open Idealize.ShloMosaic
open Cert.ReferenceIdeal.Body (Num)

/-- The shape relations the precondition takes. -/
theorem facts : Facts where
  bcast_S_S32x64x2048 := by decide
  reducesTo_S32x64x2048_S_d0_1_2 := by decide
  h_S_ := by decide
  bcast_S_S256x64x4 := by decide
  reducesTo_S256x64x4_S_d0_1_2 := by decide
  bcast_S_S256 := by decide
  reducesTo_S256_S_d0 := by decide
  bcast_S_S256x256x4 := by decide
  reducesTo_S256x256x4_S_d0_1_2 := by decide
  bcast_S_S64x256x3 := by decide
  reducesTo_S64x256x3_S_d0_1_2 := by decide
  bcast_S_S64 := by decide
  reducesTo_S64_S_d0 := by decide
  bcast_S_S64x64x3 := by decide
  reducesTo_S64x64x3_S_d0_1_2 := by decide
  bcast_S_S64x64x1 := by decide
  reducesTo_S64x64x1_S_d0_1_2 := by decide
  bcast_S_S1024x64 := by decide
  reducesTo_S1024x64_S_d0_1 := by decide

variable [Facts]
open Facts

/-- A shape of no axes has one index. -/
theorem one_idx (i j : S_.Idx) : i = j := funext fun a => a.elim0

/-- A word of one bit and another that are 1 together are each 1. -/
theorem and_bit (a b : BitVec 1) (h : IntOp.andi a b = 1#1) : a = 1#1 ∧ b = 1#1 := by
  revert a b; decide

/-- An absolute value below positive infinity belongs to a real number. -/
theorem num_of_lt (x : EReal) (h : FloatOps.cmpf (F := Ideal) (φ := .f32) .olt (FloatOps.hostAbsf (F := Ideal) (φ := .f32) x) (Ideal.ofBits FTy.f32 0x7F800000#32) = 1#1) : Num x := by
  have e : Ideal.ofBits FTy.f32 0x7F800000#32 = (⊤ : EReal) := by simp [Ideal.ofBits, Ideal.ieee]
  rw [e] at h
  have h' : max x (-x) < (⊤ : EReal) := by
    by_contra hc
    have : Ideal.cmp .olt (max x (-x)) ⊤ = 1#1 := h
    rw [Ideal.cmp_olt, decide_eq_false hc] at this
    revert this; decide
  induction x with
  | bot => exact absurd h' (by simp)
  | top => exact absurd h' (by simp)
  | coe r => exact ⟨r, rfl⟩

/-- A conjunct of the precondition makes an array real. -/
theorem conj {S : Shape} {axes : List (Fin S.rank)} (hb : S_.BroadcastsInDim S (![] : Fin 0 → Fin S.rank)) (hr : S.ReducesTo axes S_) (hu : 0 < S_.numel)
    (x : FVec Ideal S .f32) (j : S_.Idx)
    (h : Host.reduce IntOp.andi (cmpf .olt (Host.absf x) (broadcastInDim S ![] hb (constant S_ .f32 0x7F800000#32 : FVec Ideal S_ .f32))) (constantI S_ 1 1#1) hr hu j = 1#1)
    (i : S.Idx) : Num (x i) :=
  haveI : Subsingleton S_.Idx := ⟨one_idx⟩
  num_of_lt (x i) (Host.reduce_andi_all _ _ hr hu j h i)

/-- The conjunct of one array. -/
def bit {S : Shape} {axes : List (Fin S.rank)} (hb : S_.BroadcastsInDim S (![] : Fin 0 → Fin S.rank)) (hr : S.ReducesTo axes S_) (hu : 0 < S_.numel)
    (x : FVec Ideal S .f32) : IVec S_ 1 :=
  Host.reduce IntOp.andi (cmpf .olt (Host.absf x) (broadcastInDim S ![] hb (constant S_ .f32 0x7F800000#32 : FVec Ideal S_ .f32))) (constantI S_ 1 1#1) hr hu

/-- The precondition is the conjunction over the arrays. -/
theorem fn_eq (x0 : FVec Ideal S32x64x2048 .f32) (x1 : FVec Ideal S256x64x4 .f32) (x2 : FVec Ideal S256 .f32) (x3 : FVec Ideal S256x256x4 .f32) (x4 : FVec Ideal S256 .f32) (x5 : FVec Ideal S64x256x3 .f32) (x6 : FVec Ideal S64 .f32) (x7 : FVec Ideal S64x64x3 .f32) (x8 : FVec Ideal S64 .f32) (x9 : FVec Ideal S64x64x1 .f32) (x10 : FVec Ideal S64 .f32) (x11 : FVec Ideal S64x64x3 .f32) (x12 : FVec Ideal S64 .f32) (x13 : FVec Ideal S64x64x1 .f32) (x14 : FVec Ideal S64 .f32) (x15 : FVec Ideal S64x64x1 .f32) (x16 : FVec Ideal S64 .f32) (x17 : FVec Ideal S1024x64 .f32) : fn (F := Ideal) x0 x1 x2 x3 x4 x5 x6 x7 x8 x9 x10 x11 x12 x13 x14 x15 x16 x17
    = andi (andi (andi (andi (andi (andi (andi (andi (andi (andi (andi (andi (andi (andi (andi (andi (andi (andi (constantI S_ 1 1#1) (bit bcast_S_S32x64x2048 reducesTo_S32x64x2048_S_d0_1_2 h_S_ x0)) (bit bcast_S_S256x64x4 reducesTo_S256x64x4_S_d0_1_2 h_S_ x1)) (bit bcast_S_S256 reducesTo_S256_S_d0 h_S_ x2)) (bit bcast_S_S256x256x4 reducesTo_S256x256x4_S_d0_1_2 h_S_ x3)) (bit bcast_S_S256 reducesTo_S256_S_d0 h_S_ x4)) (bit bcast_S_S64x256x3 reducesTo_S64x256x3_S_d0_1_2 h_S_ x5)) (bit bcast_S_S64 reducesTo_S64_S_d0 h_S_ x6)) (bit bcast_S_S64x64x3 reducesTo_S64x64x3_S_d0_1_2 h_S_ x7)) (bit bcast_S_S64 reducesTo_S64_S_d0 h_S_ x8)) (bit bcast_S_S64x64x1 reducesTo_S64x64x1_S_d0_1_2 h_S_ x9)) (bit bcast_S_S64 reducesTo_S64_S_d0 h_S_ x10)) (bit bcast_S_S64x64x3 reducesTo_S64x64x3_S_d0_1_2 h_S_ x11)) (bit bcast_S_S64 reducesTo_S64_S_d0 h_S_ x12)) (bit bcast_S_S64x64x1 reducesTo_S64x64x1_S_d0_1_2 h_S_ x13)) (bit bcast_S_S64 reducesTo_S64_S_d0 h_S_ x14)) (bit bcast_S_S64x64x1 reducesTo_S64x64x1_S_d0_1_2 h_S_ x15)) (bit bcast_S_S64 reducesTo_S64_S_d0 h_S_ x16)) (bit bcast_S_S1024x64 reducesTo_S1024x64_S_d0_1 h_S_ x17) := rfl

/-- The precondition makes every array real. -/
theorem all_num (x0 : FVec Ideal S32x64x2048 .f32) (x1 : FVec Ideal S256x64x4 .f32) (x2 : FVec Ideal S256 .f32) (x3 : FVec Ideal S256x256x4 .f32) (x4 : FVec Ideal S256 .f32) (x5 : FVec Ideal S64x256x3 .f32) (x6 : FVec Ideal S64 .f32) (x7 : FVec Ideal S64x64x3 .f32) (x8 : FVec Ideal S64 .f32) (x9 : FVec Ideal S64x64x1 .f32) (x10 : FVec Ideal S64 .f32) (x11 : FVec Ideal S64x64x3 .f32) (x12 : FVec Ideal S64 .f32) (x13 : FVec Ideal S64x64x1 .f32) (x14 : FVec Ideal S64 .f32) (x15 : FVec Ideal S64x64x1 .f32) (x16 : FVec Ideal S64 .f32) (x17 : FVec Ideal S1024x64 .f32) (h : ∀ j, fn (F := Ideal) x0 x1 x2 x3 x4 x5 x6 x7 x8 x9 x10 x11 x12 x13 x14 x15 x16 x17 j = 1#1) :
    (∀ i, Num (x0 i))
    ∧ (∀ i, Num (x1 i))
    ∧ (∀ i, Num (x2 i))
    ∧ (∀ i, Num (x3 i))
    ∧ (∀ i, Num (x4 i))
    ∧ (∀ i, Num (x5 i))
    ∧ (∀ i, Num (x6 i))
    ∧ (∀ i, Num (x7 i))
    ∧ (∀ i, Num (x8 i))
    ∧ (∀ i, Num (x9 i))
    ∧ (∀ i, Num (x10 i))
    ∧ (∀ i, Num (x11 i))
    ∧ (∀ i, Num (x12 i))
    ∧ (∀ i, Num (x13 i))
    ∧ (∀ i, Num (x14 i))
    ∧ (∀ i, Num (x15 i))
    ∧ (∀ i, Num (x16 i))
    ∧ (∀ i, Num (x17 i)) := by
  have h0 := h ix0
  rw [fn_eq] at h0
  obtain ⟨h0, g17⟩ := and_bit _ _ h0
  obtain ⟨h0, g16⟩ := and_bit _ _ h0
  obtain ⟨h0, g15⟩ := and_bit _ _ h0
  obtain ⟨h0, g14⟩ := and_bit _ _ h0
  obtain ⟨h0, g13⟩ := and_bit _ _ h0
  obtain ⟨h0, g12⟩ := and_bit _ _ h0
  obtain ⟨h0, g11⟩ := and_bit _ _ h0
  obtain ⟨h0, g10⟩ := and_bit _ _ h0
  obtain ⟨h0, g9⟩ := and_bit _ _ h0
  obtain ⟨h0, g8⟩ := and_bit _ _ h0
  obtain ⟨h0, g7⟩ := and_bit _ _ h0
  obtain ⟨h0, g6⟩ := and_bit _ _ h0
  obtain ⟨h0, g5⟩ := and_bit _ _ h0
  obtain ⟨h0, g4⟩ := and_bit _ _ h0
  obtain ⟨h0, g3⟩ := and_bit _ _ h0
  obtain ⟨h0, g2⟩ := and_bit _ _ h0
  obtain ⟨h0, g1⟩ := and_bit _ _ h0
  obtain ⟨h0, g0⟩ := and_bit _ _ h0
  exact ⟨conj _ _ _ x0 _ g0, conj _ _ _ x1 _ g1, conj _ _ _ x2 _ g2, conj _ _ _ x3 _ g3, conj _ _ _ x4 _ g4, conj _ _ _ x5 _ g5, conj _ _ _ x6 _ g6, conj _ _ _ x7 _ g7, conj _ _ _ x8 _ g8, conj _ _ _ x9 _ g9, conj _ _ _ x10 _ g10, conj _ _ _ x11 _ g11, conj _ _ _ x12 _ g12, conj _ _ _ x13 _ g13, conj _ _ _ x14 _ g14, conj _ _ _ x15 _ g15, conj _ _ _ x16 _ g16, conj _ _ _ x17 _ g17⟩

end Cert.Pre_finite
-- ==== Proof.PreNum.lean ====
module

public import proofs.«01_k».proof.Defs
public import proofs.«01_k».proof.Proof.Feed
public import proofs.«01_k».proof.Proof.Fin

@[expose] public section

set_option maxRecDepth 16384

noncomputable section

namespace Cert.KernelIdeal.Body

open Cert.KernelIdeal Cert.KernelIdeal.Gen Idealize.ShloMosaic Idealize.ShloMosaic.TcCoe Idealize.SL Idealize.SL.Sem
open Cert.ReferenceIdeal.Body (NumArgs)

/-- Where the precondition holds, every argument element is a real number. -/
theorem numArgs (m : (ℓ : Loc nD τ sig) → Buf (Elt Ideal) ℓ)
    (h : Cert.Pre_KernelIdeal_finite (hPre_finite := Cert.Pre_finite.facts) m) (c : Dev nD) : NumArgs (kArgs m c) := by
  have e := @Cert.Pre_finite.all_num Cert.Pre_finite.facts _ _ _ _ _ _ _ _ _ _ _ _ _ _ _ _ _ _ (fun j => congrFun (h c) j)
  obtain ⟨h0, h1, h2, h3, h4, h5, h6, h7, h8, h9, h10, h11, h12, h13, h14, h15, h16, h17⟩ := e
  exact ⟨h0, h1, h2, h3, h4, h5, h6, h7, h8, h9, h10, h11, h12, h13, h14, h15, h16, h17⟩

end Cert.KernelIdeal.Body
-- ==== Proof.KPay.lean ====
module

public import proofs.«01_k».proof.Proof.Gen.KernelIdeal.Skeleton
public import Idealize.ShloMosaic.Lib.Pointwise

@[expose] public section

set_option maxRecDepth 16384

noncomputable section

namespace Cert.KernelIdeal.Body

open Idealize.ShloMosaic Idealize.SL.Sem Cert.KernelIdeal.Gen

/-- The rows of `a` moved down by one, the first row zero. -/
def shd {C : ℕ} (a : Fin 512 → Fin C → EReal) (t : Fin 512) (x : Fin C) : EReal :=
  if h : (t : ℕ) < 1 then 0 else a ⟨(t : ℕ) - 1, by omega⟩ x
/-- The rows of `a` moved up by one, the last row zero. -/
def shu {C : ℕ} (a : Fin 512 → Fin C → EReal) (t : Fin 512) (x : Fin C) : EReal :=
  if h : (t : ℕ) < 511 then a ⟨1 + (t : ℕ), by omega⟩ x else 0

section
variable (v0 : Vec Ideal S256x256 .f32) (v2 v11 : Vec Ideal S1x512x256 .f32) (v5 v14 : Vec Ideal S1x256 .f32)
  (v20 : Vec Ideal S1024x256 .f32) (t : Fin 512) (o : Fin 256)

/-- The first convolution's rows at one element. -/
theorem pay6_at : k0_pay6 v0 v2 v5 (ix2 t o) = max (∑ x : Fin 256, v2 (ix3 0 t x) * v0 (ix2 x o) + v5 (ix2 0 o)) 0 := by
  pointwise! [k0_pay6, k0_pay5]

/-- The second convolution's first three products at one element. -/
theorem pay8_at : k0_pay8 v0 v2 v5 v11 v14 v20 (ix2 t o)
    = ∑ x : Fin 256, shd (fun t x => k0_pay6 v0 v11 v14 (ix2 t x)) t x * v20 (ix2 ⟨(x : ℕ), by omega⟩ o)
      + ∑ x : Fin 256, k0_pay6 v0 v2 v5 (ix2 t x) * v20 (ix2 ⟨256 + (x : ℕ), by omega⟩ o)
      + ∑ x : Fin 256, k0_pay6 v0 v11 v14 (ix2 t x) * v20 (ix2 ⟨512 + (x : ℕ), by omega⟩ o) := by
  pointwise! [k0_pay8, k0_pay5, k0_pay6, k0_pay7, shd]

/-- The even rows moved up at one element. -/
theorem pay9_at : k0_pay9 v0 v2 v5 (ix2 t o) = shu (fun t x => k0_pay6 v0 v2 v5 (ix2 t x)) t o := by
  pointwise! [k0_pay9, shu]

/-- The second convolution's weights are the loaded block. -/
theorem pay7_at (q : Fin 1024) : k0_pay7 v20 (ix2 q o) = v20 (ix2 q o) := by
  pointwise! [k0_pay7]
end

section
variable (v21 : FVec Ideal S1024x256 .f32) (v32 : FVec Ideal S512x256 .f32) (v35 : FVec Ideal S512x256 .f32) (v39 : Vec Ideal S1x256 .f32)
  (v45 : Vec Ideal S768x64 .f32) (v61 : Vec Ideal S1x64 .f32) (v67 : Vec Ideal S192x64 .f32) (t : Fin 512) (o : Fin 64)

/-- The second convolution rectified. -/
def mid (t : Fin 512) (x : Fin 256) : EReal :=
  max (v32 (ix2 t x) + ∑ y : Fin 256, v35 (ix2 t y) * v21 (ix2 ⟨768 + (y : ℕ), by omega⟩ x) + v39 (ix2 0 x)) 0

/-- The third convolution at one element. -/
theorem pay10_at : k0_pay10 v21 v32 v35 v39 v45 v61 (ix2 t o)
    = ∑ x : Fin 256, shd (mid v21 v32 v35 v39) t x * v45 (ix2 ⟨(x : ℕ), by omega⟩ o)
      + ∑ x : Fin 256, mid v21 v32 v35 v39 t x * v45 (ix2 ⟨256 + (x : ℕ), by omega⟩ o)
      + ∑ x : Fin 256, shu (mid v21 v32 v35 v39) t x * v45 (ix2 ⟨512 + (x : ℕ), by omega⟩ o) + v61 (ix2 0 o) := by
  pointwise! [k0_pay10, mid, shd, shu]

/-- Its rectification. -/
theorem pay11_at : k0_pay11 v21 v32 v35 v39 v45 v61 (ix2 t o) = max (k0_pay10 v21 v32 v35 v39 v45 v61 (ix2 t o)) 0 := by
  pointwise! [k0_pay11]

/-- The first residual layer's weights are the loaded block. -/
theorem pay12_at (q : Fin 192) : k0_pay12 v67 (ix2 q o) = v67 (ix2 q o) := by
  pointwise! [k0_pay12]

/-- The first two products of the first residual layer. -/
theorem pay13_at : k0_pay13 v21 v32 v35 v39 v45 v61 v67 (ix2 t o)
    = ∑ x : Fin 64, shd (fun t x => k0_pay11 v21 v32 v35 v39 v45 v61 (ix2 t x)) t x * v67 (ix2 ⟨(x : ℕ), by omega⟩ o)
      + ∑ x : Fin 64, k0_pay11 v21 v32 v35 v39 v45 v61 (ix2 t x) * v67 (ix2 ⟨64 + (x : ℕ), by omega⟩ o) := by
  pointwise! [k0_pay13, k0_pay12, shd]
end

section
variable (v64 v66 : FVec Ideal S512x64 .f32) (v68 : FVec Ideal S192x64 .f32) (v76 : FVec Ideal S512x64 .f32) (v83 : Vec Ideal S1x64 .f32)
  (v89 : Vec Ideal S64x64 .f32) (v92 : Vec Ideal S1x64 .f32) (v99 : Vec Ideal S192x64 .f32) (t : Fin 512) (o : Fin 64)

/-- The first residual layer's hidden rows. -/
def hid (t : Fin 512) (x : Fin 64) : EReal :=
  max (v76 (ix2 t x) + ∑ y : Fin 64, shu (fun t x => v66 (ix2 t x)) t y * v68 (ix2 ⟨128 + (y : ℕ), by omega⟩ x) + v83 (ix2 0 x)) 0

/-- The residual stream after the first layer. -/
theorem pay14_at : k0_pay14 v64 v66 v68 v76 v83 v89 v92 (ix2 t o)
    = v64 (ix2 t o) + (∑ x : Fin 64, hid v66 v68 v76 v83 t x * v89 (ix2 x o) + v92 (ix2 0 o)) := by
  pointwise! [k0_pay14, hid, shu]

/-- The second residual layer's three products. -/
theorem pay15_at : k0_pay15 v64 v66 v68 v76 v83 v89 v92 v99 (ix2 t o)
    = ∑ x : Fin 64, shd (fun t x => max (k0_pay14 v64 v66 v68 v76 v83 v89 v92 (ix2 t x)) 0) t x * v99 (ix2 ⟨(x : ℕ), by omega⟩ o)
      + ∑ x : Fin 64, max (k0_pay14 v64 v66 v68 v76 v83 v89 v92 (ix2 t x)) 0 * v99 (ix2 ⟨64 + (x : ℕ), by omega⟩ o)
      + ∑ x : Fin 64, shu (fun t x => max (k0_pay14 v64 v66 v68 v76 v83 v89 v92 (ix2 t x)) 0) t x * v99 (ix2 ⟨128 + (x : ℕ), by omega⟩ o) := by
  pointwise! [k0_pay15, shd, shu]
end

section
variable (v96 v114 : FVec Ideal S512x64 .f32) (v116 : FVec Ideal S1x64 .f32) (v121 : Vec Ideal S64x64 .f32) (v124 : Vec Ideal S1x64 .f32)
  (v131 : Vec Ideal S64x64 .f32) (v134 : Vec Ideal S1x64 .f32) (v141 : Vec Ideal S64x1024 .f32) (t : Fin 512) (o : Fin 64) (n : Fin 1024)

/-- The second layer's bias is the loaded block. -/
theorem pay16_at (v : Vec Ideal S1x64 .f32) : k0_pay16 v (ix2 0 o) = v (ix2 0 o) := by
  pointwise! [k0_pay16]

/-- The rows before quantisation. -/
theorem pay17_at : k0_pay17 v96 v114 v116 v121 v124 v131 v134 (ix2 t o)
    = ∑ x : Fin 64, max (v96 (ix2 t x) + (∑ y : Fin 64, max (v114 (ix2 t y) + v116 (ix2 0 y)) 0 * v121 (ix2 y x) + v124 (ix2 0 x))) 0
        * v131 (ix2 x o) + v134 (ix2 0 o) := by
  pointwise! [k0_pay17]

/-- The same rows as they are stored. -/
theorem pay18_at : k0_pay18 v96 v114 v116 v121 v124 v131 v134 (ix3 0 t o) = k0_pay17 v96 v114 v116 v121 v124 v131 v134 (ix2 t o) := by
  pointwise! [k0_pay18]

/-- The sums of squares. -/
theorem pay20_at : k0_pay20 v96 v114 v116 v121 v124 v131 v134 v141 (ix2 t n)
    = ∑ x : Fin 64, k0_pay17 v96 v114 v116 v121 v124 v131 v134 (ix2 t x) * k0_pay17 v96 v114 v116 v121 v124 v131 v134 (ix2 t x)
      + ∑ x : Fin 64, v141 (ix2 x n) * v141 (ix2 x n) := by
  pointwise! [k0_pay20, k0_pay19]

/-- Twice the inner products. -/
theorem pay21_at : k0_pay21 v96 v114 v116 v121 v124 v131 v134 v141 (ix2 t n)
    = Ideal.ofBits .f32 0x40000000#32 * ∑ x : Fin 64, k0_pay17 v96 v114 v116 v121 v124 v131 v134 (ix2 t x) * v141 (ix2 x n) := by
  pointwise! [k0_pay21, k0_pay19]
end

section
variable (sq ip : FVec Ideal S512x1024 .f32) (t : Fin 512) (n : Fin 1024)

/-- The distances at one element. -/
theorem pay22_at : k0_pay22 sq ip (ix2 t n) = sq (ix2 t n) - ip (ix2 t n) := by
  pointwise! [k0_pay22]

/-- A row's least distance. -/
theorem pay23_at : k0_pay23 sq ip (ix2 t 0)
    = Finset.fold min (Ideal.ofBits FTy.f32 0x7F800000#32) (fun x : Fin 1024 => sq (ix2 t x) - ip (ix2 t x)) Finset.univ := by
  pointwise! [k0_pay23, k0_pay22]

/-- The least index of a row whose distance is the least. -/
theorem pay24_at : k0_pay24 sq ip (ix2 t 0)
    = Finset.fold IntOp.minsi 2147483647#32 (fun x : Fin 1024 =>
        if k0_pay22 sq ip (ix2 t x) = k0_pay23 sq ip (ix2 t 0) then BitVec.ofNat 32 (x : ℕ) else 1024#32) Finset.univ := by
  pointwise! [k0_pay24]

/-- The stored indices. -/
theorem pay25_at : k0_pay25 sq ip (ix3 0 t 0) = k0_pay24 sq ip (ix2 t 0) := by
  pointwise! [k0_pay25]

/-- The one-hot rows at one element. -/
theorem pay26_at : k0_pay26 sq ip (ix2 t n)
    = FloatOps.sitofp FTy.f32 (BitVec.setWidth 32 (IntOp.cmpi CmpIPredicate.eq (BitVec.ofNat 32 (n : ℕ)) (k0_pay24 sq ip (ix2 t 0)))) := by
  pointwise! [k0_pay26]

/-- The stored one-hot rows. -/
theorem pay27_at : k0_pay27 sq ip (ix3 0 t n) = k0_pay26 sq ip (ix2 t n) := by
  pointwise! [k0_pay27]

/-- The selected codes. -/
theorem pay28_at (v : Vec Ideal S1024x64 .f32) (o : Fin 64) :
    k0_pay28 sq ip v (ix3 0 t o) = ∑ x : Fin 1024, k0_pay26 sq ip (ix2 t x) * v (ix2 x o) := by
  pointwise! [k0_pay28]

/-- The block's counts. -/
theorem pay29_at : k0_pay29 sq ip (ix2 0 n) = ∑ x : Fin 512, k0_pay26 sq ip (ix2 x n) := by
  pointwise! [k0_pay29]

/-- The running histogram. -/
theorem pay1_at (a : BitVec 32) (d : Vec Ideal S1x1024 .f32) (h : FVec Ideal S1x1024 .f32) : k0_pay1 a h d (ix2 0 n)
    = Scalar.select (Scalar.cmpi CmpIPredicate.eq a 0#32) (h (ix2 0 n)) (d (ix2 0 n) + h (ix2 0 n)) := by
  pointwise! [k0_pay1]

/-- The stored histogram. -/
theorem pay2_at (a : BitVec 32) (d : Vec Ideal S1x1024 .f32) (h : FVec Ideal S1x1024 .f32) : k0_pay2 a h d (ix2 0 n)
    = k0_pay1 a h d (ix2 0 n) := by
  pointwise! [k0_pay2]

/-- The loss cell. -/
theorem pay3_at (a : BitVec 32) (d : FVec Ideal S1x1 .f32) : k0_pay3 a d (ix2 0 0)
    = Scalar.select (Scalar.cmpi CmpIPredicate.eq a 31#32)
      (Ideal.div (Ideal.ofBits FTy.f32 1067450368#32 * d (ix2 0 0)) (Ideal.ofBits FTy.f32 1233125376#32)) (d (ix2 0 0)) := by
  pointwise! [k0_pay3]
end

end Cert.KernelIdeal.Body
-- ==== Proof.KConv.lean ====
module

public import proofs.«01_k».proof.Proof.KPay
public import proofs.«01_k».proof.Proof.Fed
public import Idealize.ShloMosaic.Lib.Pointwise

@[expose] public section

set_option maxRecDepth 16384

noncomputable section

namespace Cert.KernelIdeal.Body

open Idealize.ShloMosaic Idealize.SL.Sem Cert.KernelIdeal.Gen
open Cert.ReferenceIdeal.Body (Args w_v0 w_v28 w_v29 w_v30 w_v58 w_v59 w_v60 w_v82 w_v83 w_v84 w_v106 w_v107 w_v108 w_v116 w_v117 w_v118 w_v119
  w_v141 w_v142 w_v143 w_v151 w_v152 w_v153 w_v154 w_v162 w_v163 w_v0_at w_v28_at w_v29_at w_v30_at w_v58_at w_v59_at w_v60_at w_v82_at w_v83_at
  w_v84_at w_v106_at w_v107_at w_v108_at w_v116_at w_v117_at w_v118_at w_v119_at w_v141_at w_v142_at w_v143_at w_v151_at w_v152_at w_v153_at
  w_v154_at w_v162_at w_v163_at)

variable {A : Args} {b : Fin 32} {X : Blk Ideal}

/-- Tap 0 of these weights. -/
theorem Fed.w2_0 (hF : Fed A b X) (q : Fin 64) (o : Fin 256) : X.x2 (ix2 ⟨(q : ℕ), by omega⟩ o) = A.a1 (ix3 o q 0) := by
  rw [← hF.w2 0 q o]
  exact congrArg X.x2 (congrArg (fun r => ix2 r o) (Fin.ext (by simp)))

/-- Tap 1 of these weights. -/
theorem Fed.w2_1 (hF : Fed A b X) (q : Fin 64) (o : Fin 256) : X.x2 (ix2 ⟨64 + (q : ℕ), by omega⟩ o) = A.a1 (ix3 o q 1) := by
  rw [← hF.w2 1 q o]
  exact congrArg X.x2 (congrArg (fun r => ix2 r o) (Fin.ext (by simp)))

/-- Tap 2 of these weights. -/
theorem Fed.w2_2 (hF : Fed A b X) (q : Fin 64) (o : Fin 256) : X.x2 (ix2 ⟨128 + (q : ℕ), by omega⟩ o) = A.a1 (ix3 o q 2) := by
  rw [← hF.w2 2 q o]
  exact congrArg X.x2 (congrArg (fun r => ix2 r o) (Fin.ext (by simp)))

/-- Tap 3 of these weights. -/
theorem Fed.w2_3 (hF : Fed A b X) (q : Fin 64) (o : Fin 256) : X.x2 (ix2 ⟨192 + (q : ℕ), by omega⟩ o) = A.a1 (ix3 o q 3) := by
  rw [← hF.w2 3 q o]
  exact congrArg X.x2 (congrArg (fun r => ix2 r o) (Fin.ext (by simp)))

/-- Tap 0 of these weights. -/
theorem Fed.w3_0 (hF : Fed A b X) (q : Fin 256) (o : Fin 256) : X.x3 (ix2 ⟨(q : ℕ), by omega⟩ o) = A.a3 (ix3 o q 0) := by
  rw [← hF.w3 0 q o]
  exact congrArg X.x3 (congrArg (fun r => ix2 r o) (Fin.ext (by simp)))

/-- Tap 1 of these weights. -/
theorem Fed.w3_1 (hF : Fed A b X) (q : Fin 256) (o : Fin 256) : X.x3 (ix2 ⟨256 + (q : ℕ), by omega⟩ o) = A.a3 (ix3 o q 1) := by
  rw [← hF.w3 1 q o]
  exact congrArg X.x3 (congrArg (fun r => ix2 r o) (Fin.ext (by simp)))

/-- Tap 2 of these weights. -/
theorem Fed.w3_2 (hF : Fed A b X) (q : Fin 256) (o : Fin 256) : X.x3 (ix2 ⟨512 + (q : ℕ), by omega⟩ o) = A.a3 (ix3 o q 2) := by
  rw [← hF.w3 2 q o]
  exact congrArg X.x3 (congrArg (fun r => ix2 r o) (Fin.ext (by simp)))

/-- Tap 3 of these weights. -/
theorem Fed.w3_3 (hF : Fed A b X) (q : Fin 256) (o : Fin 256) : X.x3 (ix2 ⟨768 + (q : ℕ), by omega⟩ o) = A.a3 (ix3 o q 3) := by
  rw [← hF.w3 3 q o]
  exact congrArg X.x3 (congrArg (fun r => ix2 r o) (Fin.ext (by simp)))

/-- Tap 0 of these weights. -/
theorem Fed.w4_0 (hF : Fed A b X) (q : Fin 256) (o : Fin 64) : X.x4 (ix2 ⟨(q : ℕ), by omega⟩ o) = A.a5 (ix3 o q 0) := by
  rw [← hF.w4 0 q o]
  exact congrArg X.x4 (congrArg (fun r => ix2 r o) (Fin.ext (by simp)))

/-- Tap 1 of these weights. -/
theorem Fed.w4_1 (hF : Fed A b X) (q : Fin 256) (o : Fin 64) : X.x4 (ix2 ⟨256 + (q : ℕ), by omega⟩ o) = A.a5 (ix3 o q 1) := by
  rw [← hF.w4 1 q o]
  exact congrArg X.x4 (congrArg (fun r => ix2 r o) (Fin.ext (by simp)))

/-- Tap 2 of these weights. -/
theorem Fed.w4_2 (hF : Fed A b X) (q : Fin 256) (o : Fin 64) : X.x4 (ix2 ⟨512 + (q : ℕ), by omega⟩ o) = A.a5 (ix3 o q 2) := by
  rw [← hF.w4 2 q o]
  exact congrArg X.x4 (congrArg (fun r => ix2 r o) (Fin.ext (by simp)))

/-- Tap 0 of these weights. -/
theorem Fed.w5_0 (hF : Fed A b X) (q : Fin 64) (o : Fin 64) : X.x5 (ix2 ⟨(q : ℕ), by omega⟩ o) = A.a7 (ix3 o q 0) := by
  rw [← hF.w5 0 q o]
  exact congrArg X.x5 (congrArg (fun r => ix2 r o) (Fin.ext (by simp)))

/-- Tap 1 of these weights. -/
theorem Fed.w5_1 (hF : Fed A b X) (q : Fin 64) (o : Fin 64) : X.x5 (ix2 ⟨64 + (q : ℕ), by omega⟩ o) = A.a7 (ix3 o q 1) := by
  rw [← hF.w5 1 q o]
  exact congrArg X.x5 (congrArg (fun r => ix2 r o) (Fin.ext (by simp)))

/-- Tap 2 of these weights. -/
theorem Fed.w5_2 (hF : Fed A b X) (q : Fin 64) (o : Fin 64) : X.x5 (ix2 ⟨128 + (q : ℕ), by omega⟩ o) = A.a7 (ix3 o q 2) := by
  rw [← hF.w5 2 q o]
  exact congrArg X.x5 (congrArg (fun r => ix2 r o) (Fin.ext (by simp)))

/-- Tap 0 of these weights. -/
theorem Fed.w7_0 (hF : Fed A b X) (q : Fin 64) (o : Fin 64) : X.x7 (ix2 ⟨(q : ℕ), by omega⟩ o) = A.a11 (ix3 o q 0) := by
  rw [← hF.w7 0 q o]
  exact congrArg X.x7 (congrArg (fun r => ix2 r o) (Fin.ext (by simp)))

/-- Tap 1 of these weights. -/
theorem Fed.w7_1 (hF : Fed A b X) (q : Fin 64) (o : Fin 64) : X.x7 (ix2 ⟨64 + (q : ℕ), by omega⟩ o) = A.a11 (ix3 o q 1) := by
  rw [← hF.w7 1 q o]
  exact congrArg X.x7 (congrArg (fun r => ix2 r o) (Fin.ext (by simp)))

/-- Tap 2 of these weights. -/
theorem Fed.w7_2 (hF : Fed A b X) (q : Fin 64) (o : Fin 64) : X.x7 (ix2 ⟨128 + (q : ℕ), by omega⟩ o) = A.a11 (ix3 o q 2) := by
  rw [← hF.w7 2 q o]
  exact congrArg X.x7 (congrArg (fun r => ix2 r o) (Fin.ext (by simp)))

/-- The first convolution's even rows. -/
theorem Fed.y1e (hF : Fed A b X) (t : Fin 512) (o : Fin 256) :
    k0_pay6 X.x2 X.x0 X.x12 (ix2 t o) = w_v29 A (ix3 b o ⟨2 * (t : ℕ), by omega⟩) := by
  have hs : (∑ x : Fin 256, X.x0 (ix3 0 t x) * X.x2 (ix2 x o))
      = ∑ k : Fin 4, ∑ q : Fin 64, X.x0 (ix3 0 t ⟨k.val * 64 + q.val, by omega⟩) * X.x2 (ix2 ⟨k.val * 64 + q.val, by omega⟩ o) :=
    Fin.sum_univ_tiles 4 64 rfl (fun x : Fin 256 => X.x0 (ix3 0 t x) * X.x2 (ix2 x o))
  have hk : ∀ k : Fin 4, ∀ r : Fin 2050, r.val = 4 * t.val + 0 + k.val →
      (∑ q : Fin 64, X.x0 (ix3 0 t ⟨k.val * 64 + q.val, by omega⟩) * X.x2 (ix2 ⟨k.val * 64 + q.val, by omega⟩ o))
        = ∑ q : Fin 64, A.a1 (ix3 o q k) * w_v0 A (ix3 b q r) := by
    intro k r hr
    refine Finset.sum_congr rfl fun q _ => ?_
    rw [hF.xe t k q, hF.w2 k q o, mul_comm]
    exact congrArg (A.a1 (ix3 o q k) * ·) (congrArg (w_v0 A) (congrArg (ix3 b q) (Fin.ext hr.symm)))
  rw [pay6_at, w_v29_at, w_v28_at, hF.b12 o, hs, Fin.sum_univ_four,
    hk 0 ⟨2 * (2 * (t : ℕ)), by omega⟩ (by simp; omega), hk 1 ⟨1 + 2 * (2 * (t : ℕ)), by omega⟩ (by simp; omega),
    hk 2 ⟨2 + 2 * (2 * (t : ℕ)), by omega⟩ (by simp; omega), hk 3 ⟨3 + 2 * (2 * (t : ℕ)), by omega⟩ (by simp; omega)]

/-- The first convolution's odd rows. -/
theorem Fed.y1o (hF : Fed A b X) (t : Fin 512) (o : Fin 256) :
    k0_pay6 X.x2 X.x1 X.x12 (ix2 t o) = w_v29 A (ix3 b o ⟨1 + 2 * (t : ℕ), by omega⟩) := by
  have hs : (∑ x : Fin 256, X.x1 (ix3 0 t x) * X.x2 (ix2 x o))
      = ∑ k : Fin 4, ∑ q : Fin 64, X.x1 (ix3 0 t ⟨k.val * 64 + q.val, by omega⟩) * X.x2 (ix2 ⟨k.val * 64 + q.val, by omega⟩ o) :=
    Fin.sum_univ_tiles 4 64 rfl (fun x : Fin 256 => X.x1 (ix3 0 t x) * X.x2 (ix2 x o))
  have hk : ∀ k : Fin 4, ∀ r : Fin 2050, r.val = 4 * t.val + 2 + k.val →
      (∑ q : Fin 64, X.x1 (ix3 0 t ⟨k.val * 64 + q.val, by omega⟩) * X.x2 (ix2 ⟨k.val * 64 + q.val, by omega⟩ o))
        = ∑ q : Fin 64, A.a1 (ix3 o q k) * w_v0 A (ix3 b q r) := by
    intro k r hr
    refine Finset.sum_congr rfl fun q _ => ?_
    rw [hF.xo t k q, hF.w2 k q o, mul_comm]
    exact congrArg (A.a1 (ix3 o q k) * ·) (congrArg (w_v0 A) (congrArg (ix3 b q) (Fin.ext hr.symm)))
  rw [pay6_at, w_v29_at, w_v28_at, hF.b12 o, hs, Fin.sum_univ_four,
    hk 0 ⟨2 * (1 + 2 * (t : ℕ)), by omega⟩ (by simp; omega), hk 1 ⟨1 + 2 * (1 + 2 * (t : ℕ)), by omega⟩ (by simp; omega),
    hk 2 ⟨2 + 2 * (1 + 2 * (t : ℕ)), by omega⟩ (by simp; omega), hk 3 ⟨3 + 2 * (1 + 2 * (t : ℕ)), by omega⟩ (by simp; omega)]

end Cert.KernelIdeal.Body
-- ==== Proof.KLayers.lean ====
module

public import proofs.«01_k».proof.Proof.KConv
public import Idealize.ShloMosaic.Lib.Pointwise

@[expose] public section

set_option maxRecDepth 16384

noncomputable section

namespace Cert.KernelIdeal.Body

open Idealize.ShloMosaic Idealize.SL.Sem Cert.KernelIdeal.Gen
open Cert.ReferenceIdeal.Body (Args w_v0 w_v28 w_v29 w_v30 w_v58 w_v59 w_v60 w_v82 w_v83 w_v84 w_v106 w_v107 w_v108 w_v116 w_v117 w_v118 w_v119
  w_v141 w_v142 w_v143 w_v151 w_v152 w_v153 w_v154 w_v162 w_v163 w_v0_at w_v28_at w_v29_at w_v30_at w_v58_at w_v59_at w_v60_at w_v82_at w_v83_at
  w_v84_at w_v106_at w_v107_at w_v108_at w_v116_at w_v117_at w_v118_at w_v119_at w_v141_at w_v142_at w_v143_at w_v151_at w_v152_at w_v153_at
  w_v154_at w_v162_at w_v163_at)

variable {A : Args} {b : Fin 32} {X : Blk Ideal}

/-- The padded first layer, tap by tap. -/
theorem tap2_0 (A : Args) (b : Fin 32) (x : Fin 256) (t : Fin 512) : w_v30 A (ix3 b x ⟨2 * (t : ℕ), by omega⟩)
    = shd (fun t x => w_v29 A (ix3 b x ⟨1 + 2 * (t : ℕ), by omega⟩)) t x := by
  rw [w_v30_at]
  unfold shd
  by_cases h : (t : ℕ) < 1
  · rw [dif_pos h, dif_neg (by dsimp only; omega)]
  · rw [dif_neg h, dif_pos (by dsimp only; omega)]
    exact congrArg (w_v29 A) (congrArg (ix3 b x) (Fin.ext (by dsimp only; omega)))
/-- The padded first layer, tap by tap. -/
theorem tap2_1 (A : Args) (b : Fin 32) (x : Fin 256) (t : Fin 512) : w_v30 A (ix3 b x ⟨1 + 2 * (t : ℕ), by omega⟩)
    = w_v29 A (ix3 b x ⟨2 * (t : ℕ), by omega⟩) := by
  rw [w_v30_at, dif_pos (by dsimp only; omega)]
  exact congrArg (w_v29 A) (congrArg (ix3 b x) (Fin.ext (by dsimp only; omega)))
/-- The padded first layer, tap by tap. -/
theorem tap2_2 (A : Args) (b : Fin 32) (x : Fin 256) (t : Fin 512) : w_v30 A (ix3 b x ⟨2 + 2 * (t : ℕ), by omega⟩)
    = w_v29 A (ix3 b x ⟨1 + 2 * (t : ℕ), by omega⟩) := by
  rw [w_v30_at, dif_pos (by dsimp only; omega)]
  exact congrArg (w_v29 A) (congrArg (ix3 b x) (Fin.ext (by dsimp only; omega)))
/-- The padded first layer, tap by tap. -/
theorem tap2_3 (A : Args) (b : Fin 32) (x : Fin 256) (t : Fin 512) : w_v30 A (ix3 b x ⟨3 + 2 * (t : ℕ), by omega⟩)
    = shu (fun t x => w_v29 A (ix3 b x ⟨2 * (t : ℕ), by omega⟩)) t x := by
  rw [w_v30_at]
  unfold shu
  by_cases h : (t : ℕ) < 511
  · rw [dif_pos h, dif_pos (by dsimp only; omega)]
    exact congrArg (w_v29 A) (congrArg (ix3 b x) (Fin.ext (by dsimp only; omega)))
  · rw [dif_neg h, dif_neg (by dsimp only; omega)]

/-- A padded layer, tap by tap. -/
theorem w_v60_0 (A : Args) (b : Fin 32) (x : Fin 256) (t : Fin 512) : w_v60 A (ix3 b x ⟨(t : ℕ), by omega⟩)
    = shd (fun t x => w_v59 A (ix3 b x t)) t x := by
  rw [w_v60_at]
  unfold shd
  by_cases h : (t : ℕ) < 1
  · rw [dif_pos h, dif_neg (by dsimp only; omega)]
  · rw [dif_neg h, dif_pos (by dsimp only; omega)]
/-- A padded layer, tap by tap. -/
theorem w_v60_1 (A : Args) (b : Fin 32) (x : Fin 256) (t : Fin 512) : w_v60 A (ix3 b x ⟨1 + (t : ℕ), by omega⟩)
    = w_v59 A (ix3 b x t) := by
  rw [w_v60_at, dif_pos (by dsimp only; omega)]
  exact congrArg (w_v59 A) (congrArg (ix3 b x) (Fin.ext (by dsimp only; omega)))
/-- A padded layer, tap by tap. -/
theorem w_v60_2 (A : Args) (b : Fin 32) (x : Fin 256) (t : Fin 512) : w_v60 A (ix3 b x ⟨2 + (t : ℕ), by omega⟩)
    = shu (fun t x => w_v59 A (ix3 b x t)) t x := by
  rw [w_v60_at]
  unfold shu
  by_cases h : (t : ℕ) < 511
  · rw [dif_pos h, dif_pos (by dsimp only; omega)]
    exact congrArg (w_v59 A) (congrArg (ix3 b x) (Fin.ext (by dsimp only; omega)))
  · rw [dif_neg h, dif_neg (by dsimp only; omega)]

/-- A padded layer, tap by tap. -/
theorem w_v84_0 (A : Args) (b : Fin 32) (x : Fin 64) (t : Fin 512) : w_v84 A (ix3 b x ⟨(t : ℕ), by omega⟩)
    = shd (fun t x => w_v83 A (ix3 b x t)) t x := by
  rw [w_v84_at]
  unfold shd
  by_cases h : (t : ℕ) < 1
  · rw [dif_pos h, dif_neg (by dsimp only; omega)]
  · rw [dif_neg h, dif_pos (by dsimp only; omega)]
/-- A padded layer, tap by tap. -/
theorem w_v84_1 (A : Args) (b : Fin 32) (x : Fin 64) (t : Fin 512) : w_v84 A (ix3 b x ⟨1 + (t : ℕ), by omega⟩)
    = w_v83 A (ix3 b x t) := by
  rw [w_v84_at, dif_pos (by dsimp only; omega)]
  exact congrArg (w_v83 A) (congrArg (ix3 b x) (Fin.ext (by dsimp only; omega)))
/-- A padded layer, tap by tap. -/
theorem w_v84_2 (A : Args) (b : Fin 32) (x : Fin 64) (t : Fin 512) : w_v84 A (ix3 b x ⟨2 + (t : ℕ), by omega⟩)
    = shu (fun t x => w_v83 A (ix3 b x t)) t x := by
  rw [w_v84_at]
  unfold shu
  by_cases h : (t : ℕ) < 511
  · rw [dif_pos h, dif_pos (by dsimp only; omega)]
    exact congrArg (w_v83 A) (congrArg (ix3 b x) (Fin.ext (by dsimp only; omega)))
  · rw [dif_neg h, dif_neg (by dsimp only; omega)]

/-- A padded layer, tap by tap. -/
theorem w_v119_0 (A : Args) (b : Fin 32) (x : Fin 64) (t : Fin 512) : w_v119 A (ix3 b x ⟨(t : ℕ), by omega⟩)
    = shd (fun t x => w_v118 A (ix3 b x t)) t x := by
  rw [w_v119_at]
  unfold shd
  by_cases h : (t : ℕ) < 1
  · rw [dif_pos h, dif_neg (by dsimp only; omega)]
  · rw [dif_neg h, dif_pos (by dsimp only; omega)]
/-- A padded layer, tap by tap. -/
theorem w_v119_1 (A : Args) (b : Fin 32) (x : Fin 64) (t : Fin 512) : w_v119 A (ix3 b x ⟨1 + (t : ℕ), by omega⟩)
    = w_v118 A (ix3 b x t) := by
  rw [w_v119_at, dif_pos (by dsimp only; omega)]
  exact congrArg (w_v118 A) (congrArg (ix3 b x) (Fin.ext (by dsimp only; omega)))
/-- A padded layer, tap by tap. -/
theorem w_v119_2 (A : Args) (b : Fin 32) (x : Fin 64) (t : Fin 512) : w_v119 A (ix3 b x ⟨2 + (t : ℕ), by omega⟩)
    = shu (fun t x => w_v118 A (ix3 b x t)) t x := by
  rw [w_v119_at]
  unfold shu
  by_cases h : (t : ℕ) < 511
  · rw [dif_pos h, dif_pos (by dsimp only; omega)]
    exact congrArg (w_v118 A) (congrArg (ix3 b x) (Fin.ext (by dsimp only; omega)))
  · rw [dif_neg h, dif_neg (by dsimp only; omega)]

/-- The second convolution rectified, on the point's blocks. -/
theorem Fed.mid (hF : Fed A b X) (t : Fin 512) (o : Fin 256) : mid X.w2 X.y2ab X.y1s X.x13 t o = w_v59 A (ix3 b o t) := by
  rw [w_v59_at, w_v58_at]
  simp only [mul_comm (A.a3 _), tap2_0, tap2_1, tap2_2, tap2_3]
  simp only [Body.mid, Blk.w2, Blk.y2ab, Blk.y1s, pay7_at, pay8_at, pay9_at, hF.y1o, hF.y1e, hF.w3_0, hF.w3_1, hF.w3_2, hF.w3_3, hF.b13]

/-- The same as a function of the row. -/
theorem Fed.mid_fun (hF : Fed A b X) : Body.mid X.w2 X.y2ab X.y1s X.x13 = fun t x => w_v59 A (ix3 b x t) :=
  funext₂ fun t o => hF.mid t o

/-- The third convolution, on the point's blocks. -/
theorem Fed.h0 (hF : Fed A b X) (t : Fin 512) (o : Fin 64) : X.h0 (ix2 t o) = w_v82 A (ix3 b o t) := by
  rw [w_v82_at]
  simp only [mul_comm (A.a5 _), w_v60_0, w_v60_1, w_v60_2]
  simp only [Blk.h0, pay10_at, hF.mid_fun, hF.w4_0, hF.w4_1, hF.w4_2, hF.b14]

/-- Its rectification. -/
theorem Fed.a0 (hF : Fed A b X) (t : Fin 512) (o : Fin 64) : X.a0 (ix2 t o) = w_v83 A (ix3 b o t) := by
  rw [w_v83_at, ← hF.h0]
  exact pay11_at ..

/-- The first residual layer's first two taps. -/
theorem Fed.r0 (hF : Fed A b X) (t : Fin 512) (o : Fin 64) : X.r0 (ix2 t o)
    = ∑ x : Fin 64, shd (fun t x => w_v83 A (ix3 b x t)) t x * A.a7 (ix3 o x 0) + ∑ x : Fin 64, w_v83 A (ix3 b x t) * A.a7 (ix3 o x 1) := by
  have ha : ∀ (t : Fin 512) (o : Fin 64), k0_pay11 X.w2 X.y2ab X.y1s X.x13 X.x4 X.x14 (ix2 t o) = w_v83 A (ix3 b o t) := hF.a0
  simp only [Blk.r0, pay13_at, ha, hF.w5_0, hF.w5_1]

/-- The first residual layer's hidden rows. -/
theorem Fed.hid (hF : Fed A b X) (t : Fin 512) (o : Fin 64) : hid X.a0 X.wr0 X.r0 X.x15 t o = w_v107 A (ix3 b o t) := by
  rw [w_v107_at, w_v106_at]
  simp only [mul_comm (A.a7 _), w_v84_0, w_v84_1, w_v84_2]
  simp only [Body.hid, Blk.wr0, pay12_at, hF.a0, hF.r0, hF.w5_2, hF.b15]

/-- The residual stream after the first layer. -/
theorem Fed.h1 (hF : Fed A b X) (t : Fin 512) (o : Fin 64) : X.h1 (ix2 t o) = w_v117 A (ix3 b o t) := by
  rw [w_v117_at, w_v116_at]
  simp only [mul_comm (A.a9 _), w_v108_at]
  simp only [Blk.h1, pay14_at, hF.hid, hF.h0, hF.w6, hF.b16]

/-- The second residual layer's three taps. -/
theorem Fed.r1 (hF : Fed A b X) (t : Fin 512) (o : Fin 64) : X.r1 (ix2 t o) + X.br1 (ix2 0 o) = w_v141 A (ix3 b o t) := by
  have hh : ∀ (t : Fin 512) (o : Fin 64), k0_pay14 X.h0 X.a0 X.wr0 X.r0 X.x15 X.x6 X.x16 (ix2 t o) = w_v117 A (ix3 b o t) := hF.h1
  rw [w_v141_at]
  simp only [mul_comm (A.a11 _), w_v119_0, w_v119_1, w_v119_2, w_v118_at]
  simp only [Blk.r1, Blk.br1, pay15_at, pay16_at, hh, hF.w7_0, hF.w7_1, hF.w7_2, hF.b17]

/-- The rows before quantisation. -/
theorem Fed.z (hF : Fed A b X) (t : Fin 512) (o : Fin 64) :
    k0_pay17 X.h1 X.r1 X.br1 X.x8 X.x18 X.x9 X.x19 (ix2 t o) = w_v162 A (ix3 b o t) := by
  rw [w_v162_at]
  simp only [mul_comm (A.a15 _), w_v154_at, w_v153_at, w_v152_at, w_v151_at, mul_comm (A.a13 _), w_v143_at, w_v142_at]
  simp only [pay17_at, hF.r1, hF.h1, hF.w8, hF.w9, hF.b18, hF.b19]

/-- The stored rows are the reference's. -/
theorem Fed.ze (hF : Fed A b X) (t : Fin 512) (o : Fin 64) : X.ze (ix3 0 t o) = w_v163 A (ix3 b t o) := by
  rw [w_v163_at, ← hF.z]
  exact pay18_at ..

end Cert.KernelIdeal.Body
-- ==== Proof.KSum.lean ====
module

public import proofs.«01_k».proof.Proof.Gen.KernelIdeal.Skeleton
public import Idealize.ShloMosaic.Lib.Pointwise

@[expose] public section

set_option maxRecDepth 16384

noncomputable section

namespace Cert.KernelIdeal.Body

open Idealize.ShloMosaic Idealize.SL.Sem Cert.KernelIdeal.Gen

/-- A sum over a block of one column. -/
theorem red_at (v : FVec Ideal S1x512x1 .f32) (j : S1.Idx) :
    multiReduction .add [1, 2] S1 v 0x00000000#32 reduces_S1x512x1_S1 (.inl rfl) rfl j = ∑ x : Fin 512, v (ix3 0 x 0) := by
  pointwise
  simp only [Fin.sum_univ_one, Finset.univ_unique, Finset.sum_singleton]
  rfl

/-- A column seen as a block of one batch. -/
theorem cast_at (v : FVec Ideal S512x1 .f32) (x : Fin 512) : shapeCast S1x512x1 v shapeCasts_S512x1_S1x512x1 (ix3 0 x 0) = v (ix2 x 0) := by
  pointwise!

/-- The only element of a vector of one. -/
theorem ext_at (v : FVec Ideal S1 .f32) : extractAt ![0, 0, 0] (shapeCast S1x1x1 v shapeCasts_S1_S1x1x1) inpos_S1x1x1_p0_0_0 = v (ix1 0) := by
  pointwise!

/-- The sum of a column, as the kernel forms it. -/
theorem tot_at (v : FVec Ideal S512x1 .f32) :
    extractAt ![0, 0, 0] (shapeCast S1x1x1 (multiReduction .add [1, 2] S1 (shapeCast S1x512x1 v shapeCasts_S512x1_S1x512x1) 0x00000000#32
      reduces_S1x512x1_S1 (.inl rfl) rfl : FVec Ideal S1 .f32) shapeCasts_S1_S1x1x1) inpos_S1x1x1_p0_0_0 = ∑ x : Fin 512, v (ix2 x 0) := by
  rw [ext_at, red_at]
  exact Finset.sum_congr rfl fun x _ => cast_at v x

/-- The running sum as an expression of the column's total. -/
theorem pay30_eq (a : BitVec 32) (d : Vec Ideal S1x1 .f32) (sq ip : FVec Ideal S512x1024 .f32) : k0_pay30 a sq ip d
    = Scalar.select (Scalar.cmpi CmpIPredicate.eq a 0#32)
        (broadcast S1x1 (extractAt ![0, 0, 0] (shapeCast S1x1x1 (multiReduction .add [1, 2] S1 (shapeCast S1x512x1 (k0_pay23 sq ip) shapeCasts_S512x1_S1x512x1) 0x00000000#32
          reduces_S1x512x1_S1 (.inl rfl) rfl : FVec Ideal S1 .f32) shapeCasts_S1_S1x1x1) inpos_S1x1x1_p0_0_0) : FVec Ideal S1x1 .f32)
        (addf (shapeCast S1x1 d shapeCasts_S1x1_S1x1)
          (broadcast S1x1 (extractAt ![0, 0, 0] (shapeCast S1x1x1 (multiReduction .add [1, 2] S1 (shapeCast S1x512x1 (k0_pay23 sq ip) shapeCasts_S512x1_S1x512x1) 0x00000000#32
            reduces_S1x512x1_S1 (.inl rfl) rfl : FVec Ideal S1 .f32) shapeCasts_S1_S1x1x1) inpos_S1x1x1_p0_0_0))) := rfl

/-- A selection of constant cells at one element. -/
theorem sel_at (a : BitVec 32) (d : Vec Ideal S1x1 .f32) (S : EReal) :
    (Scalar.select (Scalar.cmpi CmpIPredicate.eq a 0#32) (broadcast S1x1 S : FVec Ideal S1x1 .f32)
        (addf (shapeCast S1x1 d shapeCasts_S1x1_S1x1) (broadcast S1x1 S : FVec Ideal S1x1 .f32)) : FVec Ideal S1x1 .f32) (ix2 0 0)
      = Scalar.select (Scalar.cmpi CmpIPredicate.eq a 0#32) S (d (ix2 0 0) + S) := by
  pointwise!

/-- The running sum of least distances. -/
theorem pay30_at (a : BitVec 32) (d : Vec Ideal S1x1 .f32) (sq ip : FVec Ideal S512x1024 .f32) : k0_pay30 a sq ip d (ix2 0 0)
    = Scalar.select (Scalar.cmpi CmpIPredicate.eq a 0#32) (∑ x : Fin 512, k0_pay23 sq ip (ix2 x 0))
        (d (ix2 0 0) + ∑ x : Fin 512, k0_pay23 sq ip (ix2 x 0)) := by
  rw [pay30_eq, tot_at]
  exact sel_at a d _

/-- The perplexity cell. -/
theorem pay4_at (a : BitVec 32) (d : Vec Ideal S1x1024 .f32) (h : FVec Ideal S1x1024 .f32) : k0_pay4 a h d (ix2 0 0)
    = Scalar.select (Scalar.cmpi CmpIPredicate.eq a 31#32)
      (Ideal.exp (0 - ∑ x : Fin 1024, Ideal.div (k0_pay1 a h d (ix2 0 x)) (Ideal.ofBits FTy.f32 1182793728#32) *
        Ideal.log (Ideal.div (k0_pay1 a h d (ix2 0 x)) (Ideal.ofBits FTy.f32 1182793728#32) + Ideal.ofBits FTy.f32 786163455#32))) 0 := by
  pointwise [k0_pay4]
  simp only [Fin.sum_univ_one, Finset.univ_unique, Finset.sum_singleton]

end Cert.KernelIdeal.Body
-- ==== Proof.Arg.lean ====
module

public import proofs.«01_k».proof.Proof.RVals
public import Idealize.ShloMosaic.Lib.Pointwise
public import Idealize.ShloMosaic.PureOps.Ideal.Laws

@[expose] public section

set_option maxRecDepth 16384

noncomputable section

namespace Cert.ReferenceIdeal.Body

open Idealize.ShloMosaic Idealize.SL.Sem Cert.ReferenceIdeal.Facts₀

/-- `i` is the word of the first position where `d` is least. -/
def First (d : Fin 1024 → EReal) (i : BitVec 32) : Prop :=
  ∃ n : Fin 1024, i = BitVec.ofNat 32 n ∧ (∀ k, d n ≤ d k) ∧ ∀ k, k < n → d n < d k

/-- There is only one such word. -/
theorem First.unique {d : Fin 1024 → EReal} {i j : BitVec 32} (hi : First d i) (hj : First d j) : i = j := by
  obtain ⟨n, rfl, hn, hn'⟩ := hi
  obtain ⟨k, rfl, hk, hk'⟩ := hj
  rcases lt_trichotomy n k with h | h | h
  · exact absurd (hn k) (not_le.mpr (hk' n h))
  · rw [h]
  · exact absurd (hk n) (not_le.mpr (hn' k h))

/-- A small number's word read as an integer. -/
theorem toInt_small (n : ℕ) (h : n ≤ 1024) : (BitVec.ofNat 32 n).toInt = (n : ℤ) := by
  rw [BitVec.toInt_eq_toNat_of_lt (by simp; omega)]
  simp; omega

/-- The lesser of two words is one of them and below both. -/
theorem minsi_spec (x y : BitVec 32) :
    (IntOp.minsi x y = x ∨ IntOp.minsi x y = y) ∧ (IntOp.minsi x y).toInt ≤ x.toInt ∧ (IntOp.minsi x y).toInt ≤ y.toInt := by
  unfold IntOp.minsi
  by_cases h : x.slt y
  · have := BitVec.slt_iff_toInt_lt.mp h
    rw [if_pos h]; exact ⟨.inl rfl, le_refl _, this.le⟩
  · have : ¬ x.toInt < y.toInt := fun h' => h (BitVec.slt_iff_toInt_lt.mpr h')
    rw [if_neg h]; exact ⟨.inr rfl, not_lt.mp this, le_refl _⟩

/-- The least word of a family is the start or a member, and below all of them. -/
theorem fold_minsi_spec {ι : Type} [DecidableEq ι] (c : BitVec 32) (f : ι → BitVec 32) (s : Finset ι) :
    (Finset.fold IntOp.minsi c f s = c ∨ ∃ x ∈ s, Finset.fold IntOp.minsi c f s = f x)
      ∧ (Finset.fold IntOp.minsi c f s).toInt ≤ c.toInt ∧ ∀ x ∈ s, (Finset.fold IntOp.minsi c f s).toInt ≤ (f x).toInt := by
  induction s using Finset.induction_on with
  | empty => simp
  | insert a s ha ih =>
    rw [Finset.fold_insert ha]
    obtain ⟨h1, h2, h3⟩ := ih
    obtain ⟨g1, g2, g3⟩ := minsi_spec (f a) (Finset.fold IntOp.minsi c f s)
    refine ⟨?_, g3.trans h2, ?_⟩
    · rcases g1 with g | g
      · exact .inr ⟨a, Finset.mem_insert_self .., g⟩
      · rw [g]
        rcases h1 with h | ⟨x, hx, h⟩
        · exact .inl h
        · exact .inr ⟨x, Finset.mem_insert_of_mem hx, h⟩
    · intro x hx
      rcases Finset.mem_insert.mp hx with rfl | hx
      · exact g2
      · exact g3.trans (h3 x hx)

/-- The word of positive infinity. -/
theorem inf_word : Ideal.ofBits FTy.f32 0x7F800000#32 = (⊤ : EReal) := by
  simp [Ideal.ofBits, Ideal.ieee]

/-- The least value of a row, folded from positive infinity, is attained. -/
theorem fold_min_eq (d : Fin 1024 → EReal) :
    ∃ n : Fin 1024, Finset.fold min (⊤ : EReal) d Finset.univ = d n ∧ ∀ k, d n ≤ d k := by
  obtain ⟨n, -, hn⟩ := Finset.exists_min_image Finset.univ d ⟨0, Finset.mem_univ _⟩
  refine ⟨n, le_antisymm ?_ ?_, fun k => hn k (Finset.mem_univ _)⟩
  · exact ((Finset.le_fold_min _).mp le_rfl).2 n (Finset.mem_univ _)
  · exact (Finset.le_fold_min _).mpr ⟨le_top, fun k hk => hn k hk⟩

/-- The least position whose value is the row's least value is the first such position. -/
theorem kernel_first (d : Fin 1024 → EReal) (m : EReal) (hm : m = Finset.fold min (⊤ : EReal) d Finset.univ) :
    First d (Finset.fold IntOp.minsi 2147483647#32
      (fun x : Fin 1024 => if d x = m then BitVec.ofNat 32 (x : ℕ) else 1024#32) Finset.univ) := by
  obtain ⟨n, hn, hle⟩ := fold_min_eq d
  rw [← hm] at hn
  obtain ⟨h1, h2, h3⟩ := fold_minsi_spec 2147483647#32
    (fun x : Fin 1024 => if d x = m then BitVec.ofNat 32 (x : ℕ) else 1024#32) Finset.univ
  have hb := h3 n (Finset.mem_univ _)
  simp only [hn, if_true] at hb
  rw [← hn] at hb
  rw [toInt_small n (by omega)] at hb
  generalize hR : Finset.fold IntOp.minsi 2147483647#32
    (fun x : Fin 1024 => if d x = m then BitVec.ofNat 32 (x : ℕ) else 1024#32) Finset.univ = R at *
  have hn1 : (n : ℕ) < 1024 := n.isLt
  rcases h1 with h | ⟨x, -, h⟩
  · exfalso
    have e : (2147483647#32 : BitVec 32).toInt = 2147483647 := by decide
    rw [h, e] at hb; omega
  · by_cases hx : d x = m
    · rw [if_pos hx] at h
      refine ⟨x, h, fun k => by rw [hx, hn]; exact hle k, fun k hk => ?_⟩
      refine lt_of_le_of_ne (by rw [hx, hn]; exact hle k) fun e => ?_
      have hk3 := h3 k (Finset.mem_univ _)
      rw [if_pos (e.symm.trans hx), h, toInt_small x (by omega), toInt_small k (by omega)] at hk3
      have : (k : ℕ) < x := hk
      omega
    · exfalso
      rw [if_neg hx] at h
      have e : (1024#32 : BitVec 32).toInt = 1024 := by decide
      rw [h, e] at hb; omega

/-- One pair is below another: by value, then by position. -/
def Below (p q : EReal × BitVec 32) : Prop := p.1 < q.1 ∨ (p.1 = q.1 ∧ p.2.toInt ≤ q.2.toInt)

theorem Below.rfl' (p : EReal × BitVec 32) : Below p p := .inr ⟨rfl, le_rfl⟩

theorem Below.trans {p q r : EReal × BitVec 32} (h : Below p q) (h' : Below q r) : Below p r := by
  rcases h with h | ⟨h, g⟩ <;> rcases h' with h' | ⟨h', g'⟩
  · exact .inl (h.trans h')
  · exact .inl (h' ▸ h)
  · exact .inl (h ▸ h')
  · exact .inr ⟨h.trans h', g.trans g'⟩

/-- The reference's step keeps one of two pairs, the lower. -/
theorem step_spec (p q : EReal × BitVec 32) :
    (reducer_argmin_f32_i32 (F := Ideal) p q = p ∨ reducer_argmin_f32_i32 (F := Ideal) p q = q)
      ∧ Below (reducer_argmin_f32_i32 (F := Ideal) p q) p ∧ Below (reducer_argmin_f32_i32 (F := Ideal) p q) q := by
  obtain ⟨a, i⟩ := p
  obtain ⟨b, j⟩ := q
  have hu : reducer_argmin_f32_i32 (F := Ideal) (a, i) (b, j)
      = (if a < b then a else b, if a < b ∨ (a = b ∧ i.toInt < j.toInt) then i else j) := by
    have e1 : FloatOps.cmpf (F := Ideal) (φ := .f32) .olt a b = BitVec.ofBool (decide (a < b)) := rfl
    have e2 : FloatOps.cmpf (F := Ideal) (φ := .f32) .une a a = BitVec.ofBool (decide (a ≠ a)) := rfl
    have e3 : FloatOps.cmpf (F := Ideal) (φ := .f32) .oeq a b = BitVec.ofBool (decide (a = b)) := rfl
    have e4 : IntOp.cmpi .slt i j = BitVec.ofBool (i.slt j) := rfl
    unfold reducer_argmin_f32_i32
    dsimp only
    rw [e1, e2, e3, e4]
    by_cases h1 : a < b <;> by_cases h2 : a = b <;> by_cases h3 : i.toInt < j.toInt <;>
      simp [h1, h2, h3, BitVec.slt_eq_decide, IntOp.ori, IntOp.andi, Scalar.select]
  rw [hu]
  clear hu
  rcases lt_trichotomy a b with h | h | h
  · rw [if_pos h, if_pos (Or.inl h)]
    exact ⟨.inl rfl, .rfl' _, .inl h⟩
  · subst h
    by_cases g : i.toInt < j.toInt
    · rw [if_neg (lt_irrefl _), if_pos (Or.inr ⟨rfl, g⟩)]
      exact ⟨.inl rfl, .rfl' _, .inr ⟨rfl, g.le⟩⟩
    · rw [if_neg (lt_irrefl _), if_neg (by rintro (h | h); exacts [lt_irrefl _ h, g h.2])]
      exact ⟨.inr rfl, .inr ⟨rfl, not_lt.mp g⟩, .rfl' _⟩
  · rw [if_neg (not_lt.mpr h.le), if_neg (by rintro (h' | h'); exacts [lt_asymm h h', h.ne' h'.1])]
    exact ⟨.inr rfl, .inl h, .rfl' _⟩

/-- The reference's fold ends at the start or a member, below all of them. -/
theorem foldl_spec (L : List (EReal × BitVec 32)) (r : EReal × BitVec 32) :
    (L.foldl (reducer_argmin_f32_i32 (F := Ideal)) r = r ∨ L.foldl (reducer_argmin_f32_i32 (F := Ideal)) r ∈ L)
      ∧ Below (L.foldl (reducer_argmin_f32_i32 (F := Ideal)) r) r
      ∧ ∀ q ∈ L, Below (L.foldl (reducer_argmin_f32_i32 (F := Ideal)) r) q := by
  induction L generalizing r with
  | nil => exact ⟨.inl rfl, .rfl' _, by simp⟩
  | cons a L ih =>
    obtain ⟨h1, h2, h3⟩ := ih (reducer_argmin_f32_i32 (F := Ideal) r a)
    obtain ⟨g1, g2, g3⟩ := step_spec r a
    rw [List.foldl_cons]
    refine ⟨?_, h2.trans g2, ?_⟩
    · rcases h1 with h | h
      · rcases g1 with g | g
        · exact .inl (h.trans g)
        · exact .inr (by rw [h, g]; exact List.mem_cons_self)
      · exact .inr (List.mem_cons_of_mem _ h)
    · intro q hq
      rcases List.mem_cons.mp hq with rfl | hq
      · exact h2.trans g3
      · exact h3 q hq

/-- A fold over pairs of values and positions ends at the first position of the least value. -/
theorem foldl_first (L : List (EReal × BitVec 32)) (d : Fin 1024 → EReal)
    (hm : ∀ q, q ∈ L ↔ ∃ n : Fin 1024, q = (d n, BitVec.ofNat 32 (n : ℕ))) (p0 : EReal × BitVec 32) (hp0 : p0 = (⊤, 0#32)) :
    First d (L.foldl (reducer_argmin_f32_i32 (F := Ideal)) p0).2 := by
  obtain ⟨h1, h2, h3⟩ := foldl_spec L p0
  generalize L.foldl (reducer_argmin_f32_i32 (F := Ideal)) p0 = p at *
  have h4 : ∀ n : Fin 1024, Below p (d n, BitVec.ofNat 32 (n : ℕ)) := fun n => h3 _ ((hm _).mpr ⟨n, rfl⟩)
  have key : ∃ n : Fin 1024, p = (d n, BitVec.ofNat 32 (n : ℕ)) := by
    rcases h1 with h | h
    · refine ⟨0, ?_⟩
      rcases h4 0 with g | ⟨g, -⟩
      · rw [h, hp0] at g; exact absurd g not_top_lt
      · rw [h, hp0] at g; rw [h, hp0]; exact Prod.ext g rfl
    · exact (hm p).mp h
  obtain ⟨n, hn⟩ := key
  refine ⟨n, by rw [hn], fun k => ?_, fun k hk => ?_⟩
  · rcases h4 k with g | ⟨g, -⟩
    · rw [hn] at g; exact g.le
    · rw [hn] at g; exact g.le
  · rcases h4 k with g | ⟨-, g⟩
    · rw [hn] at g; exact g
    · exfalso
      rw [hn] at g
      dsimp only at g
      rw [toInt_small n (by omega), toInt_small k (by omega)] at g
      have : (k : ℕ) < n := hk
      omega

end Cert.ReferenceIdeal.Body
-- ==== Proof.ArgR.lean ====
module

public import proofs.«01_k».proof.Proof.Arg

@[expose] public section

set_option maxRecDepth 16384

noncomputable section

namespace Cert.ReferenceIdeal.Body

open Idealize.ShloMosaic Idealize.SL.Sem Cert.ReferenceIdeal.Facts₀

/-- The pairs folded over for one row of a rectangular array. -/
theorem mem_fiber {n0 n1 : ℕ} {t : Shape} (h : (⟨2, ![n0, n1]⟩ : Shape).ReducesTo [1] t) (j : t.Idx) (r : Fin n0)
    (hj : (j ⟨0, h.lt_r2_a1_0⟩).val = r.val)
    (x : (⟨2, ![n0, n1]⟩ : Shape).Idx → EReal) (y : (⟨2, ![n0, n1]⟩ : Shape).Idx → BitVec 32) (q : EReal × BitVec 32) :
    q ∈ Host.argReduceFiber x y h j ↔ ∃ n : Fin n1, q = (x (ix2 r n), y (ix2 r n)) := by
  have hr : ∀ k : Fin n1, ix2 ⟨(j ⟨0, h.lt_r2_a1_0⟩).val, Shape.coordLt (j ⟨0, h.lt_r2_a1_0⟩) h.size_r2_a1_0⟩ k = ix2 r k := fun k => by
    congr 1; exact Fin.ext hj
  unfold Host.argReduceFiber
  rw [List.mem_map]
  constructor
  · rintro ⟨k, hk, rfl⟩
    have hk' := of_decide_eq_true (List.mem_filter.mp hk).2
    obtain ⟨n, hn⟩ := (h.fiber_r2_a1 j _).mp hk'
    exact ⟨n, by rw [← hr n, hn]⟩
  · rintro ⟨n, rfl⟩
    refine ⟨Shape.rowMajor _ (ix2 r n), ?_, ?_⟩
    · rw [List.mem_filter]
      refine ⟨List.mem_finRange _, decide_eq_true ?_⟩
      rw [Equiv.symm_apply_apply]
      exact (h.fiber_r2_a1 j _).mpr ⟨n, hr n⟩
    · rw [Equiv.symm_apply_apply]

/-- The words of the codes' numbers. -/
theorem call15_v0_at (A : Args) (r : Fin 16384) (n : Fin 1024) : w_call15_v0 A (ix2 r n) = BitVec.ofNat 32 (n : ℕ) := rfl

/-- The search's first value is positive infinity. -/
theorem call15_cst_at (A : Args) (j : S_.Idx) : w_call15_cst A j = (⊤ : EReal) :=
  (rfl : w_call15_cst A j = Ideal.ofBits FTy.f32 0x7F800000#32).trans inf_word

/-- The search's first position is zero. -/
theorem call15_c_at (A : Args) (j : S_.Idx) : w_call15_c A j = 0#32 := rfl

/-- The index array as one expression. -/
theorem w_v179_eq : w_v179 = fun (A : Args) (j : S16384.Idx) => (Host.argReduce (reducer_argmin_f32_i32 (F := Ideal)) (w_v178 A) (w_call15_v0 A)
    (w_call15_cst A) (w_call15_c A) reducesTo_S16384x1024_S16384_d1 h_S_ j).2 := by
  delta w_v179
  with_reducible exact Eq.refl _

/-- The reference's index of a row is the first position of its least value. -/
theorem ref_first (A : Args) (r : Fin 16384) : First (fun n => w_v178 A (ix2 r n)) (w_v179 A (ix1 r)) := by
  rw [w_v179_eq]
  beta_reduce
  rw [Ideal.argReduce_eq_reduce2, Host.reduce2_eq_foldl_fiber]
  refine foldl_first _ _ (fun q => ?_) _ (by rw [call15_cst_at, call15_c_at])
  rw [mem_fiber _ _ r rfl]
  simp only [call15_v0_at]

end Cert.ReferenceIdeal.Body
-- ==== Proof.KTail.lean ====
module

public import proofs.«01_k».proof.Proof.KLayers
public import proofs.«01_k».proof.Proof.KSum
public import proofs.«01_k».proof.Proof.ArgR
public import proofs.«01_k».proof.Proof.RTail

@[expose] public section

set_option maxRecDepth 16384

noncomputable section

namespace Cert.ReferenceIdeal.Body

open Idealize.ShloMosaic Idealize.SL.Sem

/-- The number of a batch's row among all rows. -/
def row (b : Fin 32) (t : Fin 512) : Fin 16384 := ⟨b.val * 512 + t.val, by omega⟩

/-- A row's element among all rows. -/
theorem w_v164_row (A : Args) (b : Fin 32) (t : Fin 512) (o : Fin 64) : w_v164 A (ix2 (row b t) o) = w_v162 A (ix3 b o t) :=
  (w_v164_at A b t o).trans (w_v163_at A b t o)

/-- The selected codes by batch, from the rows. -/
theorem w_v182_row (A : Args) (b : Fin 32) (t : Fin 512) (o : Fin 64) :
    w_v182 A (ix3 b t o) = ∑ n : Fin 1024, w_v180 A (ix2 (row b t) n) * A.a17 (ix2 n o) :=
  (w_v182_at A b t o).trans (w_v181_at A (row b t) o)

end Cert.ReferenceIdeal.Body

namespace Cert.KernelIdeal.Body

open Idealize.ShloMosaic Idealize.SL.Sem Cert.KernelIdeal.Gen
open Cert.ReferenceIdeal.Body (Args First kernel_first ref_first inf_word row w_v162 w_v164_row w_v166_at w_v169_at w_v173_at w_v175_at w_v178 w_v178_at
  w_v179 w_v180 w_v180_at w_v182 w_v182_row)

variable {A : Args} {b : Fin 32} {X : Blk Ideal}

/-- The block's distances are the reference's. -/
theorem Fed.d2 (hF : Fed A b X) (t : Fin 512) (n : Fin 1024) : k0_pay22 X.sq X.ip (ix2 t n) = w_v178 A (ix2 (row b t) n) := by
  rw [pay22_at, w_v178_at, w_v173_at, w_v175_at, w_v166_at, w_v169_at]
  simp only [Blk.sq, Blk.ip, pay20_at, pay21_at, hF.z, hF.et, w_v164_row]

/-- A row's least distance in the block. -/
theorem Fed.least (hF : Fed A b X) (t : Fin 512) :
    k0_pay23 X.sq X.ip (ix2 t 0) = Finset.fold min (⊤ : EReal) (fun n : Fin 1024 => w_v178 A (ix2 (row b t) n)) Finset.univ := by
  have hd : (fun n : Fin 1024 => X.sq (ix2 t n) - X.ip (ix2 t n)) = fun n : Fin 1024 => w_v178 A (ix2 (row b t) n) :=
    funext fun n => (pay22_at X.sq X.ip t n).symm.trans (hF.d2 t n)
  rw [pay23_at, inf_word, hd]

/-- The block's index of a row is the reference's. -/
theorem Fed.code (hF : Fed A b X) (t : Fin 512) : k0_pay24 X.sq X.ip (ix2 t 0) = w_v179 A (ix1 (row b t)) := by
  rw [pay24_at]
  have hd : ∀ n : Fin 1024, k0_pay22 X.sq X.ip (ix2 t n) = w_v178 A (ix2 (row b t) n) := hF.d2 t
  simp only [hd]
  exact (kernel_first (fun n : Fin 1024 => w_v178 A (ix2 (row b t) n)) _ (hF.least t)).unique (ref_first A (row b t))

/-- The stored index. -/
theorem Fed.idx (hF : Fed A b X) (t : Fin 512) : X.idx (ix3 0 t 0) = w_v179 A (ix1 (row b t)) :=
  (pay25_at X.sq X.ip t).trans (hF.code t)

/-- One comparison as a number, in the kernel's form and in the reference's. -/
theorem bit_eq (x y : BitVec 32) : (FloatOps.sitofp FTy.f32 (BitVec.setWidth 32 (IntOp.cmpi CmpIPredicate.eq x y)) : Ideal .f32)
    = FloatOps.uitofp FTy.f32 (IntOp.cmpi CmpIPredicate.eq y x) := by
  have e : IntOp.cmpi CmpIPredicate.eq x y = IntOp.cmpi CmpIPredicate.eq y x := by
    simp only [IntOp.cmpi, Bool.beq_comm, beq_eq_decide, eq_comm]
  rw [e]
  have h2 : ∀ w : BitVec 1, (FloatOps.sitofp FTy.f32 (BitVec.setWidth 32 w) : Ideal .f32) = FloatOps.uitofp FTy.f32 w := by
    intro w
    show (((BitVec.setWidth 32 w).toInt : ℝ) : EReal) = ((w.toNat : ℝ) : EReal)
    have : (BitVec.setWidth 32 w).toInt = (w.toNat : ℤ) := by revert w; decide
    rw [this]; simp
  exact h2 _

/-- The block's one-hot rows are the reference's. -/
theorem Fed.hot (hF : Fed A b X) (t : Fin 512) (n : Fin 1024) : k0_pay26 X.sq X.ip (ix2 t n) = w_v180 A (ix2 (row b t) n) := by
  rw [pay26_at, hF.code, bit_eq, w_v180_at]

/-- The stored one-hot rows. -/
theorem Fed.enc (hF : Fed A b X) (t : Fin 512) (n : Fin 1024) : X.enc (ix3 0 t n) = w_v180 A (ix2 (row b t) n) :=
  (pay27_at X.sq X.ip t n).trans (hF.hot t n)

/-- The stored codes. -/
theorem Fed.zq (hF : Fed A b X) (t : Fin 512) (o : Fin 64) : X.zq (ix3 0 t o) = w_v182 A (ix3 b t o) := by
  refine (pay28_at X.sq X.ip t X.x11 o).trans ?_
  rw [w_v182_row]
  exact Finset.sum_congr rfl fun n _ => by rw [hF.hot, hF.emb]

/-- The block's counts. -/
theorem Fed.hv (hF : Fed A b X) (n : Fin 1024) : X.hv (ix2 0 n) = ∑ t : Fin 512, w_v180 A (ix2 (row b t) n) :=
  (pay29_at X.sq X.ip n).trans (Finset.sum_congr rfl fun t _ => hF.hot t n)

end Cert.KernelIdeal.Body
-- ==== Proof.RLoss.lean ====
module

public import proofs.«01_k».proof.Proof.RNum
public import proofs.«01_k».proof.Proof.KTail

@[expose] public section

set_option maxRecDepth 16384

noncomputable section

namespace Cert.ReferenceIdeal.Body

open Idealize.ShloMosaic Idealize.SL.Sem

/-- A one-hot row at one code. -/
theorem w_v180_if (A : Args) (r : Fin 16384) (n k : Fin 1024) (hk : w_v179 A (ix1 r) = BitVec.ofNat 32 (k : ℕ)) :
    w_v180 A (ix2 r n) = if n = k then 1 else 0 := by
  rw [w_v180_at, hk]
  show (((IntOp.cmpi CmpIPredicate.eq (BitVec.ofNat 32 (k : ℕ)) (BitVec.ofNat 32 (n : ℕ))).toNat : ℝ) : EReal) = _
  by_cases e : n = k
  · subst e
    rw [if_pos rfl]
    simp [IntOp.cmpi]
  · have hne : ¬ BitVec.ofNat 32 (k : ℕ) = BitVec.ofNat 32 (n : ℕ) := fun h => by
      have h' := congrArg BitVec.toInt h
      rw [toInt_small k (by omega), toInt_small n (by omega)] at h'
      exact e (Fin.ext (by omega))
    rw [if_neg e]
    simp [IntOp.cmpi, beq_eq_false_iff_ne.mpr hne]

/-- A selected row is the code of the row's index. -/
theorem pick (A : Args) (b : Fin 32) (t : Fin 512) (o : Fin 64) (k : Fin 1024)
    (hk : w_v179 A (ix1 (row b t)) = BitVec.ofNat 32 (k : ℕ)) : w_v182 A (ix3 b t o) = A.a17 (ix2 k o) := by
  rw [w_v182_row]
  simp only [w_v180_if A _ _ k hk, ite_mul, one_mul, zero_mul, Finset.sum_ite_eq', Finset.mem_univ, if_true]

/-- The sum of real numbers among the extended ones. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The word of two. -/
theorem two_word : Ideal.ofBits FTy.f32 0x40000000#32 = ((2 : ℝ) : EReal) := by
  simp [Ideal.ofBits, Ideal.ieee]
  rw [← EReal.coe_mul]
  norm_num

/-- The squared distance, expanded. -/
theorem sq_expand (z e : Fin 64 → ℝ) :
    (∑ x, ((z x : ℝ) : EReal) * (z x : ℝ) + ∑ x, ((e x : ℝ) : EReal) * (e x : ℝ)) - ((2 : ℝ) : EReal) * ∑ x, ((z x : ℝ) : EReal) * (e x : ℝ)
      = ∑ x, (((e x : ℝ) : EReal) - (z x : ℝ)) * (((e x : ℝ) : EReal) - (z x : ℝ)) := by
  simp only [← EReal.coe_mul, ← EReal.coe_sub, coe_sum, ← EReal.coe_add]
  congr 1
  rw [Finset.mul_sum, ← Finset.sum_add_distrib, ← Finset.sum_sub_distrib]
  exact Finset.sum_congr rfl fun x _ => by ring

section
variable {A : Args} (h : NumArgs A)
include h

/-- The selected rows are real. -/
theorem num_v182 (b : Fin 32) (t : Fin 512) (o : Fin 64) : Num (w_v182 A (ix3 b t o)) := by
  obtain ⟨k, hk, -⟩ := ref_first A (row b t)
  rw [pick A b t o k hk]
  exact h.a17 _

/-- The straight-through rows are the selected codes. -/
theorem through (b : Fin 32) (t : Fin 512) (o : Fin 64) : w_v194 A (ix3 b t o) = w_v182 A (ix3 b t o) := by
  rw [w_v194_at]
  obtain ⟨z, hz⟩ := num_v163 h b t o
  obtain ⟨q, hq⟩ := num_v182 h b t o
  rw [hz, hq, ← EReal.coe_sub, ← EReal.coe_add, add_sub_cancel]

/-- The distances are squared distances. -/
theorem dist (b : Fin 32) (t : Fin 512) (k : Fin 1024) : w_v178 A (ix2 (row b t) k)
    = ∑ x : Fin 64, (A.a17 (ix2 k x) - w_v163 A (ix3 b t x)) * (A.a17 (ix2 k x) - w_v163 A (ix3 b t x)) := by
  rw [w_v178_at, w_v173_at, w_v175_at, w_v166_at, w_v169_at, two_word]
  have hz : ∀ x : Fin 64, ∃ r : ℝ, w_v162 A (ix3 b x t) = (r : EReal) := fun x => num_v162 h b x t
  have he : ∀ x : Fin 64, ∃ r : ℝ, A.a17 (ix2 k x) = (r : EReal) := fun x => h.a17 _
  choose z hz using hz
  choose e he using he
  simp only [w_v164_row, w_v163_at, hz, he]
  exact sq_expand z e

/-- A row's least distance is its squared distance from the selected code. -/
theorem least_eq (b : Fin 32) (t : Fin 512) :
    Finset.fold min (⊤ : EReal) (fun n : Fin 1024 => w_v178 A (ix2 (row b t) n)) Finset.univ
      = ∑ o : Fin 64, (w_v182 A (ix3 b t o) - w_v163 A (ix3 b t o)) * (w_v182 A (ix3 b t o) - w_v163 A (ix3 b t o)) := by
  obtain ⟨n, hn, hle⟩ := fold_min_eq (fun n : Fin 1024 => w_v178 A (ix2 (row b t) n))
  obtain ⟨k, hk, hkle, -⟩ := ref_first A (row b t)
  rw [hn, le_antisymm (hle k) (hkle n), dist h b t k]
  exact Finset.sum_congr rfl fun o _ => by rw [pick A b t o k hk]

/-- The sum of squared differences is real. -/
theorem num_v185 : Num (w_v185 A ix0) := by
  rw [w_v185_at]
  exact Num.sum _ fun b => Num.sum _ fun t => Num.sum _ fun o =>
    ((num_v182 h b t o).sub (num_v163 h b t o)).mul ((num_v182 h b t o).sub (num_v163 h b t o))

end

/-- The word of five quarters. -/
theorem five_quarters_word : Ideal.ofBits FTy.f32 1067450368#32 = ((5 / 4 : ℝ) : EReal) := by
  simp [Ideal.ofBits, Ideal.ieee]
  rw [← EReal.coe_mul]
  norm_num

/-- The word of a quarter. -/
theorem quarter_word : Ideal.ofBits FTy.f32 0x3E800000#32 = ((1 / 4 : ℝ) : EReal) := by
  simp [Ideal.ofBits, Ideal.ieee]
  rw [← EReal.coe_mul]
  norm_num

/-- The word of the number of elements. -/
theorem elements_word : Ideal.ofBits FTy.f32 1233125376#32 = ((1048576 : ℝ) : EReal) := by
  simp [Ideal.ofBits, Ideal.ieee]
  rw [← EReal.coe_mul]
  norm_num

/-- The quotient of real numbers. -/
theorem div_real (x y : ℝ) (hy : y ≠ 0) : Ideal.div (x : EReal) (y : EReal) = ((x / y : ℝ) : EReal) := by
  have : (y : EReal) ≠ 0 := by exact_mod_cast hy
  rw [Ideal.div, if_neg this, div_eq_mul_inv, EReal.coe_mul, EReal.coe_inv]

/-- Five quarters of a mean is the mean and a quarter of it. -/
theorem mean_eq {S : EReal} (hS : Num S) :
    Ideal.div (Ideal.ofBits FTy.f32 1067450368#32 * S) (Ideal.ofBits FTy.f32 1233125376#32)
      = Ideal.div S (Ideal.ofBits FTy.f32 0x49800000#32)
        + Ideal.ofBits FTy.f32 0x3E800000#32 * Ideal.div S (Ideal.ofBits FTy.f32 0x49800000#32) := by
  obtain ⟨s, rfl⟩ := hS
  have e : Ideal.ofBits FTy.f32 0x49800000#32 = ((1048576 : ℝ) : EReal) := elements_word
  rw [e, five_quarters_word, quarter_word, ← EReal.coe_mul, div_real _ _ (by norm_num), div_real _ _ (by norm_num),
    ← EReal.coe_mul, ← EReal.coe_add]
  congr 1
  ring

end Cert.ReferenceIdeal.Body
-- ==== Proof.KAcc.lean ====
module

public import proofs.«01_k».proof.Proof.KRun
public import proofs.«01_k».proof.Proof.KSum
public import proofs.«01_k».proof.Proof.KPay

@[expose] public section

set_option maxRecDepth 16384

noncomputable section

namespace Cert.KernelIdeal.Body

open Cert.KernelIdeal Cert.KernelIdeal.Gen Idealize.ShloMosaic Idealize.ShloMosaic.TcCoe Idealize.SL Idealize.SL.Sem

variable (m : (ℓ : Loc nD τ sig) → Buf (Elt Ideal) ℓ) (c : Dev nD)

/-- A point's word is its number. -/
theorem word_eq (t : Fin cfg0.N) : word t = BitVec.ofNat 32 t.val := by
  have ht : t.val < 32 := Nat.lt_of_lt_of_eq t.isLt N_0
  have e0 : (grid0.coords t 0).val = t.val / 1 % 32 := Pipeline.Grid.coords_val t 0 (by decide) rfl
  rw [word, e0]
  congr 1
  omega

/-- The comparison of a small number's word with another. -/
theorem word_cmp (n k : ℕ) (hn : n < 32) (hk : k < 32) :
    Scalar.cmpi CmpIPredicate.eq (BitVec.ofNat 32 n) (BitVec.ofNat 32 k) = if n = k then 1#1 else 0#1 := by
  have h : ∀ n k : Fin 32, Scalar.cmpi CmpIPredicate.eq (BitVec.ofNat 32 n.val) (BitVec.ofNat 32 k.val) = if n.val = k.val then 1#1 else 0#1 := by decide +kernel
  exact h ⟨n, hn⟩ ⟨k, hk⟩

/-- A choice on a true bit. -/
theorem sel_one (x y : EReal) : Scalar.select (1#1) x y = x := rfl

/-- A choice on a false bit. -/
theorem sel_zero (x y : EReal) : Scalar.select (0#1) x y = y := rfl

/-- One point's counts, by its number. -/
def cnt (q : Fin 1024) (k : ℕ) : EReal := if h : k < cfg0.N then (blkAt m c ⟨k, h⟩).hv (ix2 0 q) else 0

/-- One point's sum of least distances, by its number. -/
def lst (k : ℕ) : EReal := if h : k < cfg0.N then ∑ x : Fin 512, k0_pay23 (blkAt m c ⟨k, h⟩).sq (blkAt m c ⟨k, h⟩).ip (ix2 x 0) else 0

/-- One point's step of the histogram. -/
theorem step_hist (t : Fin cfg0.N) (d : Vec Ideal S1x1024 .f32) (q : Fin 1024) : k0_pay1 (word t) (blkAt m c t).hv d (ix2 0 q)
    = if t.val = 0 then cnt m c q t.val else d (ix2 0 q) + cnt m c q t.val := by
  have ht : t.val < 32 := Nat.lt_of_lt_of_eq t.isLt N_0
  rw [pay1_at, word_eq, word_cmp t.val 0 ht (by omega), cnt, dif_pos t.isLt]
  by_cases h : t.val = 0
  · rw [if_pos h, if_pos h]; exact sel_one _ _
  · rw [if_neg h, if_neg h]; exact sel_zero _ _

/-- The histogram after a point is the sum of the counts so far. -/
theorem histAt_at (q : Fin 1024) (n : ℕ) (hn : n < cfg0.N) : histAt m c n hn (ix2 0 q) = ∑ k ∈ Finset.range (n + 1), cnt m c q k := by
  induction n with
  | zero =>
    rw [Finset.sum_range_one]
    refine (pay2_at q (word ⟨0, hn⟩) _ (blkAt m c ⟨0, hn⟩).hv).trans ?_
    rw [step_hist]; exact if_pos rfl
  | succ n ih =>
    rw [Finset.sum_range_succ, ← ih (Nat.lt_of_succ_lt hn)]
    refine (pay2_at q (word ⟨n + 1, hn⟩) _ (blkAt m c ⟨n + 1, hn⟩).hv).trans ?_
    rw [step_hist]; exact if_neg (Nat.succ_ne_zero n)

/-- The histogram the last point forms, before it is stored. -/
theorem lastHist_at (q : Fin 1024) (hn : 31 < cfg0.N) :
    k0_pay1 (word ⟨31, hn⟩) (blkAt m c ⟨31, hn⟩).hv (histAt m c 30 (Nat.lt_of_succ_lt hn)) (ix2 0 q) = ∑ k ∈ Finset.range 32, cnt m c q k := by
  rw [step_hist, histAt_at, Finset.sum_range_succ _ 31]
  exact if_neg (show ¬ (31 = 0) by omega)

/-- The perplexity cell at the end. -/
theorem perpAt_last (hn : 31 < cfg0.N) : perpAt m c 31 hn (ix2 0 0)
    = Ideal.exp (0 - ∑ q : Fin 1024, Ideal.div (∑ k ∈ Finset.range 32, cnt m c q k) (Ideal.ofBits FTy.f32 1182793728#32) *
        Ideal.log (Ideal.div (∑ k ∈ Finset.range 32, cnt m c q k) (Ideal.ofBits FTy.f32 1182793728#32) + Ideal.ofBits FTy.f32 786163455#32)) := by
  refine (pay4_at (word ⟨31, hn⟩) (histAt m c 30 (Nat.lt_of_succ_lt hn)) (blkAt m c ⟨31, hn⟩).hv).trans ?_
  simp only [lastHist_at]
  rw [word_eq, word_cmp 31 31 (by omega) (by omega)]
  rfl

/-- One point's running sum of least distances. -/
theorem step_loss (t : Fin cfg0.N) (d : Vec Ideal S1x1 .f32) : k0_pay30 (word t) (blkAt m c t).sq (blkAt m c t).ip d (ix2 0 0)
    = if t.val = 0 then lst m c t.val else d (ix2 0 0) + lst m c t.val := by
  have ht : t.val < 32 := Nat.lt_of_lt_of_eq t.isLt N_0
  rw [pay30_at, word_eq, word_cmp t.val 0 ht (by omega), lst, dif_pos t.isLt]
  by_cases h : t.val = 0
  · rw [if_pos h, if_pos h]; exact sel_one _ _
  · rw [if_neg h, if_neg h]; exact sel_zero _ _

/-- What a point leaves in the loss cell. -/
theorem loss_at (t : Fin cfg0.N) (d : Vec Ideal S1x1 .f32) (T : EReal)
    (hT : (if t.val = 0 then lst m c t.val else d (ix2 0 0) + lst m c t.val) = T) : (blkAt m c t).loss (word t) d (ix2 0 0)
    = if t.val = 31 then Ideal.div (Ideal.ofBits FTy.f32 1067450368#32 * T) (Ideal.ofBits FTy.f32 1233125376#32) else T := by
  have ht : t.val < 32 := Nat.lt_of_lt_of_eq t.isLt N_0
  refine (pay3_at (word t) _).trans ?_
  rw [step_loss, hT, word_eq, word_cmp t.val 31 ht (by omega)]
  by_cases h : t.val = 31
  · rw [if_pos h, if_pos h]; exact sel_one _ _
  · rw [if_neg h, if_neg h]; exact sel_zero _ _

/-- The loss cell before the last point is the sum so far. -/
theorem lossAt_at (n : ℕ) (hn : n < cfg0.N) (h31 : n < 31) : lossAt m c n hn (ix2 0 0) = ∑ k ∈ Finset.range (n + 1), lst m c k := by
  induction n with
  | zero =>
    rw [Finset.sum_range_one]
    refine (loss_at m c ⟨0, hn⟩ _ (lst m c 0) (if_pos rfl)).trans ?_
    exact if_neg (show ¬ (0 = 31) by omega)
  | succ n ih =>
    rw [Finset.sum_range_succ, ← ih (Nat.lt_of_succ_lt hn) (by omega)]
    refine (loss_at m c ⟨n + 1, hn⟩ _ _ (if_neg (Nat.succ_ne_zero n))).trans ?_
    exact if_neg (by omega : ¬ (n + 1 = 31))

/-- The loss cell at the end. -/
theorem lossAt_last (hn : 31 < cfg0.N) : lossAt m c 31 hn (ix2 0 0)
    = Ideal.div (Ideal.ofBits FTy.f32 1067450368#32 * ∑ k ∈ Finset.range 32, lst m c k) (Ideal.ofBits FTy.f32 1233125376#32) := by
  rw [Finset.sum_range_succ _ 31, ← lossAt_at m c 30 (Nat.lt_of_succ_lt hn) (by omega)]
  refine (loss_at m c ⟨31, hn⟩ _ _ (if_neg (show ¬ (31 = 0) by omega))).trans ?_
  exact if_pos rfl

end Cert.KernelIdeal.Body
-- ==== Proof.KOut.lean ====
module

public import proofs.«01_k».proof.Proof.Feed
public import proofs.«01_k».proof.Proof.RLoss
public import proofs.«01_k».proof.Proof.KAcc
public import Idealize.ShloMosaic.Lib.Pipeline.ValueKit
public import Idealize.ShloMosaic.Lib.Claim

@[expose] public section

set_option maxRecDepth 16384

noncomputable section

namespace Cert.KernelIdeal.Body

open Cert.KernelIdeal Cert.KernelIdeal.Gen Idealize.ShloMosaic Idealize.ShloMosaic.TcCoe Idealize.SL Idealize.SL.Sem
open Cert.ReferenceIdeal.Body (Args row w_v163 w_v179 w_v180 w_v182 w_v192 w_v194 w_v195 w_v204 NumArgs through least_eq mean_eq num_v185 w_v185 w_v185_at w_v192_at
  w_v195_at w_v204_at)

variable (m : (ℓ : Loc nD τ sig) → Buf (Elt Ideal) ℓ)

/-- Where each written window's blocks lie. -/
theorem outs : ∀ t : Fin cfg0.N, win0_20.index t = ![t.val, 0, 0] ∧ win0_21.index t = ![t.val, 0, 0] ∧ win0_22.index t = ![t.val, 0, 0] ∧ win0_23.index t = ![t.val, 0, 0] :=
  (by decide +kernel : ∀ t : Fin grid0.N, _)

/-- Where window 20 places a row. -/
theorem emb_20 (t : Fin cfg0.N) (p : Fin 512) (o : Fin 64) : (win0_20.blk t).view.emb (ix3 0 p o) = ix3 (⟨t.val, t.isLt⟩ : Fin 32) p o := by
  blk_ext [outs t]

/-- Where window 21 places a row. -/
theorem emb_21 (t : Fin cfg0.N) (p : Fin 512) (o : Fin 64) : (win0_21.blk t).view.emb (ix3 0 p o) = ix3 (⟨t.val, t.isLt⟩ : Fin 32) p o := by
  blk_ext [outs t]

/-- Where window 22 places a row. -/
theorem emb_22 (t : Fin cfg0.N) (p : Fin 512) (o : Fin 1024) : (win0_22.blk t).view.emb (ix3 0 p o) = ix3 (⟨t.val, t.isLt⟩ : Fin 32) p o := by
  blk_ext [outs t]

/-- Where window 23 places a row. -/
theorem emb_23 (t : Fin cfg0.N) (p : Fin 512) : (win0_23.blk t).view.emb (ix3 0 p 0) = ix3 (⟨t.val, t.isLt⟩ : Fin 32) p (0 : Fin 1) := by
  blk_ext [outs t]

/-- The same for a block of one-hot rows. -/
theorem idx_1024 (y : S1x512x1024.Idx) : ∃ (p : Fin 512) (o : Fin 1024), y = ix3 0 p o := ⟨y 1, y 2, by
  funext a; apply Fin.ext
  match a with
  | ⟨0, _⟩ => exact Nat.lt_one_iff.mp (y 0).isLt
  | ⟨1, _⟩ => rfl
  | ⟨2, _⟩ => rfl⟩

/-- The same for a block of indices. -/
theorem idx_1 (y : S1x512x1.Idx) : ∃ p : Fin 512, y = ix3 0 p 0 := ⟨y 1, by
  funext a; apply Fin.ext
  match a with
  | ⟨0, _⟩ => exact Nat.lt_one_iff.mp (y 0).isLt
  | ⟨1, _⟩ => rfl
  | ⟨2, _⟩ => exact Nat.lt_one_iff.mp (y 2).isLt⟩

/-- Every index of a block has the first coordinate zero. -/
theorem idx_64 (y : S1x512x64.Idx) : ∃ (p : Fin 512) (o : Fin 64), y = ix3 0 p o := ⟨y 1, y 2, by
  funext a; apply Fin.ext
  match a with
  | ⟨0, _⟩ => exact Nat.lt_one_iff.mp (y 0).isLt
  | ⟨1, _⟩ => rfl
  | ⟨2, _⟩ => rfl⟩

/-- The array of rows before quantisation after the run. -/
theorem arr_20 (c : Dev nD) : (dats m 0 c).arrAt 20 cfg0.N = (w_v163 (kArgs m c) : FVec Ideal S32x512x64 .f32) := by
  refine (dats m 0 c).arrAt_eq_of_covers 20 _ (by decide +kernel) fun t hf y => ?_
  blk_simp
  rw [after_20]
  obtain ⟨p, o, hy⟩ := idx_64 y
  rw [hy]
  refine ((fed m c t).ze p o).trans ?_
  exact congrArg (w_v163 (kArgs m c)) (emb_20 t p o).symm

/-- The array of selected codes after the run. -/
theorem arr_21 (c : Dev nD) (h : NumArgs (kArgs m c)) : (dats m 0 c).arrAt 21 cfg0.N = (w_v194 (kArgs m c) : FVec Ideal S32x512x64 .f32) := by
  refine (dats m 0 c).arrAt_eq_of_covers 21 _ (by decide +kernel) fun t hf y => ?_
  blk_simp
  rw [after_21]
  obtain ⟨p, o, hy⟩ := idx_64 y
  rw [hy]
  refine ((fed m c t).zq p o).trans ?_
  refine (through h _ p o).symm.trans ?_
  exact congrArg (w_v194 (kArgs m c)) (emb_21 t p o).symm

/-- The one-hot rows by batch. -/
def encG (A : Args) : FVec Ideal S32x512x1024 .f32 := fun i => w_v180 A (ix2 (row (i 0) (i 1)) (i 2))

/-- The one-hot rows by batch, at one element. -/
theorem encG_at (A : Args) (b : Fin 32) (p : Fin 512) (o : Fin 1024) : encG A (ix3 b p o) = w_v180 A (ix2 (row b p) o) := by
  simp only [encG, ix3_0, ix3_1, ix3_2]

/-- The array of one-hot rows after the run. -/
theorem arr_22 (c : Dev nD) : (dats m 0 c).arrAt 22 cfg0.N = encG (kArgs m c) := by
  refine (dats m 0 c).arrAt_eq_of_covers 22 _ (by decide +kernel) fun t hf y => ?_
  blk_simp
  rw [after_22]
  obtain ⟨p, o, hy⟩ := idx_1024 y
  rw [hy]
  refine ((fed m c t).enc p o).trans ?_
  refine (encG_at (kArgs m c) ⟨t.val, t.isLt⟩ p o).symm.trans ?_
  exact congrArg (encG (kArgs m c)) (emb_22 t p o).symm

/-- The indices by batch. -/
def idxG (A : Args) : IVec S32x512x1 32 := fun i => w_v179 A (ix1 (row (i 0) (i 1)))

/-- The indices by batch, at one element. -/
theorem idxG_at (A : Args) (b : Fin 32) (p : Fin 512) : idxG A (ix3 b p 0) = w_v179 A (ix1 (row b p)) := by
  simp only [idxG, ix3_0, ix3_1]

/-- The array of indices after the run. -/
theorem arr_23 (c : Dev nD) : (dats m 0 c).arrAt 23 cfg0.N = idxG (kArgs m c) := by
  refine (dats m 0 c).arrAt_eq_of_covers 23 _ (by decide +kernel) fun t hf y => ?_
  blk_simp
  rw [after_23]
  obtain ⟨p, hy⟩ := idx_1 y
  rw [hy]
  refine ((fed m c t).idx p).trans ?_
  refine (idxG_at (kArgs m c) ⟨t.val, t.isLt⟩ p).symm.trans ?_
  exact congrArg (idxG (kArgs m c)) (emb_23 t p).symm

/-- The last point. -/
def tL : Fin cfg0.N := ⟨31, lt_of_lt_of_eq (by decide) N_0.symm⟩

/-- The sums of the points' least distances are the sum of squared differences. -/
theorem sum_lst (c : Dev nD) (h : NumArgs (kArgs m c)) : ∑ k ∈ Finset.range 32, lst m c k = w_v185 (kArgs m c) ix0 := by
  rw [w_v185_at, Finset.sum_range]
  refine Finset.sum_congr rfl fun b _ => ?_
  have hb : (b : ℕ) < cfg0.N := lt_of_lt_of_eq b.isLt N_0.symm
  rw [lst, dif_pos hb]
  exact Finset.sum_congr rfl fun t _ => ((fed m c ⟨b, hb⟩).least t).trans (least_eq h b t)

/-- The sums of the points' counts are the counts of all rows. -/
theorem sum_cnt (c : Dev nD) (q : Fin 1024) : ∑ k ∈ Finset.range 32, cnt m c q k = w_v195 (kArgs m c) (ix1 q) := by
  rw [w_v195_at, Finset.sum_range]
  refine Eq.trans ?_ (Fin.sum_univ_tiles 32 512 (by decide) fun r : Fin 16384 => w_v180 (kArgs m c) (ix2 r q)).symm
  refine Finset.sum_congr rfl fun b _ => ?_
  have hb : (b : ℕ) < cfg0.N := lt_of_lt_of_eq b.isLt N_0.symm
  rw [cnt, dif_pos hb]
  exact (fed m c ⟨b, hb⟩).hv q

/-- The loss at the end. -/
theorem loss_end (c : Dev nD) (h : NumArgs (kArgs m c)) (n : ℕ) (hn : n < cfg0.N) (e : n = 31) : lossAt m c n hn (ix2 0 0) = w_v192 (kArgs m c) ix0 := by
  subst e
  rw [lossAt_last, sum_lst m c h, mean_eq (num_v185 h), w_v192_at]

/-- The perplexity at the end. -/
theorem perp_end (c : Dev nD) (hn : 31 < cfg0.N) : perpAt m c 31 hn (ix2 0 0) = w_v204 (kArgs m c) ix0 := by
  rw [perpAt_last, w_v204_at, zero_sub]
  simp only [sum_cnt]

/-- The only index of a cell. -/
theorem cell_idx (j : S1x1.Idx) : j = ix2 0 0 := by
  funext a; apply Fin.ext
  match a with
  | ⟨0, _⟩ => exact Nat.lt_one_iff.mp (j 0).isLt
  | ⟨1, _⟩ => exact Nat.lt_one_iff.mp (j 1).isLt

/-- The loss at the end, at any index of the cell. -/
theorem loss_cell (c : Dev nD) (h : NumArgs (kArgs m c)) (n : ℕ) (hn : n < cfg0.N) (e : n = 31) (j : S1x1.Idx) :
    lossAt m c n hn j = w_v192 (kArgs m c) ix0 := by
  rw [cell_idx j]
  exact loss_end m c h n hn e

/-- A cell whose contents after the last point are given is the array after the run. -/
theorem arr_24_of (c : Dev nD) (L : FVec Ideal S1x1 .f32) (hL : (dats m 0 c).after 24 tL = L) : (dats m 0 c).arrAt 24 cfg0.N = L := by
  refine (dats m 0 c).arrAt_eq_of_after_last 24 tL (by decide +kernel) _ fun j => ?_
  refine Eq.trans ?_ (congrFun hL j)
  exact (cast_eq _ _).trans (congrArg ((dats m 0 c).after 24 tL) (funext fun a => Fin.ext rfl))

/-- The loss after the last point. -/
theorem after_24_last (c : Dev nD) (h : NumArgs (kArgs m c)) (t : Fin cfg0.N) (e : t.val = 31) :
    (dats m 0 c).after 24 t = (fun _ => w_v192 (kArgs m c) ix0 : FVec Ideal S1x1 .f32) :=
  (after_24 m c t).trans (funext fun j => loss_cell m c h t.val t.isLt e j)

/-- The loss cell after the run. -/
theorem arr_24 (c : Dev nD) (h : NumArgs (kArgs m c)) : (dats m 0 c).arrAt 24 cfg0.N = (fun _ => w_v192 (kArgs m c) ix0 : FVec Ideal S1x1 .f32) :=
  arr_24_of m c _ (after_24_last m c h tL rfl)

/-- The perplexity cell after the run. -/
theorem arr_25 (c : Dev nD) : (dats m 0 c).arrAt 25 cfg0.N = (fun _ => w_v204 (kArgs m c) ix0 : FVec Ideal S1x1 .f32) := by
  refine (dats m 0 c).arrAt_eq_of_after_last 25 tL (by decide +kernel) _ fun j => ?_
  blk_simp
  rw [after_25]
  refine (congrArg (perpAt m c tL.val tL.isLt) (cell_idx j)).trans ?_
  exact perp_end m c tL.isLt

end Cert.KernelIdeal.Body
-- ==== Proof.KVal.lean ====
module

public import proofs.«01_k».proof.Proof.KOut
public import proofs.«01_k».proof.Proof.KRun

@[expose] public section

set_option maxRecDepth 16384

noncomputable section

namespace Cert.KernelIdeal.Body

open Cert.KernelIdeal Cert.KernelIdeal.Gen Idealize.ShloMosaic Idealize.ShloMosaic.TcCoe Idealize.SL Idealize.SL.Sem
open Cert.ReferenceIdeal.Body (Args row w_v163 w_v179 w_v180 w_v192 w_v194 w_v204 NumArgs)

variable (m : (ℓ : Loc nD τ sig) → Buf (Elt Ideal) ℓ)

/-- A reshape that joins batch and position, at a row. -/
theorem join_1024 (X : FVec Ideal S32x512x1024 .f32) (h : S32x512x1024.ShapeCasts S16384x1024) (b : Fin 32) (t : Fin 512) (q : Fin 1024) :
    shapeCast S16384x1024 X h (ix2 ⟨b.val * 512 + t.val, by omega⟩ q) = X (ix3 b t q) := by
  pointwise!

/-- The same where each row has one element. -/
theorem join_1 (X : IVec S32x512x1 32) (h : S32x512x1.ShapeCasts S16384) (b : Fin 32) (t : Fin 512) :
    shapeCast S16384 X h (ix1 ⟨b.val * 512 + t.val, by omega⟩) = X (ix3 b t 0) := by
  pointwise!

/-- Every row is a batch and a position. -/
theorem row_split (r : Fin 16384) : ∃ (b : Fin 32) (t : Fin 512), r = row b t :=
  ⟨⟨r.val / 512, by omega⟩, ⟨r.val % 512, Nat.mod_lt _ (by decide)⟩, Fin.ext (by simp only [row]; omega)⟩

/-- Reshaping the one-hot rows by batch gives the one-hot rows. -/
theorem enc_cast (A : Args) (h : S32x512x1024.ShapeCasts S16384x1024) : shapeCast S16384x1024 (encG A) h = w_v180 A := by
  funext i
  obtain ⟨r, q, rfl⟩ : ∃ (r : Fin 16384) (q : Fin 1024), i = ix2 r q := ⟨i 0, i 1, eq_ix2 i⟩
  obtain ⟨b, t, rfl⟩ := row_split r
  exact (join_1024 (encG A) h b t q).trans (encG_at A b t q)

/-- Reshaping the indices by batch gives the indices. -/
theorem idx_cast (A : Args) (h : S32x512x1.ShapeCasts S16384) : shapeCast S16384 (idxG A) h = w_v179 A := by
  funext i
  obtain ⟨r, rfl⟩ : ∃ (r : Fin 16384), i = ix1 r := ⟨i 0, eq_ix1 i⟩
  obtain ⟨b, t, rfl⟩ := row_split r
  exact (join_1 (idxG A) h b t).trans (idxG_at A b t)

/-- Reshaping a cell of one value gives the value. -/
theorem cell_cast (x : S_.Idx → EReal) (h : S1x1.ShapeCasts S_) : shapeCast S_ (fun _ => x ix0 : FVec Ideal S1x1 .f32) h = (x : FVec Ideal S_ .f32) := by
  funext i
  have e : i = ix0 := funext fun a => a.elim0
  rw [e]
  rfl

/-- What the lines after the region leave in `main_v32`. -/
theorem tail_v32 (V : Valuation τ sig (Elt Ideal)) :
    StableHlo.after (hostOps1 : List (HloOp τ sig (Elt Ideal))) V (Proc.devRef .tc main_v32) = shapeCast S_ (V (Proc.devRef .tc main_v31_4)) shapeCasts_S1x1_S_ := by
  after_results
  rfl

/-- What the lines after the region leave in `main_v33`. -/
theorem tail_v33 (V : Valuation τ sig (Elt Ideal)) :
    StableHlo.after (hostOps1 : List (HloOp τ sig (Elt Ideal))) V (Proc.devRef .tc main_v33) = shapeCast S_ (V (Proc.devRef .tc main_v31_5)) shapeCasts_S1x1_S_ := by
  after_results
  rfl

/-- What the lines after the region leave in `main_v34`. -/
theorem tail_v34 (V : Valuation τ sig (Elt Ideal)) :
    StableHlo.after (hostOps1 : List (HloOp τ sig (Elt Ideal))) V (Proc.devRef .tc main_v34) = shapeCast S16384 (V (Proc.devRef .tc main_v31_3)) shapeCasts_S32x512x1_S16384 := by
  after_results
  rfl

/-- What the lines after the region leave in `main_v35`. -/
theorem tail_v35 (V : Valuation τ sig (Elt Ideal)) :
    StableHlo.after (hostOps1 : List (HloOp τ sig (Elt Ideal))) V (Proc.devRef .tc main_v35) = shapeCast S16384x1024 (V (Proc.devRef .tc main_v31_2)) shapeCasts_S32x512x1024_S16384x1024 := by
  after_results
  rfl

/-- `main_v32` after the run is the reshape of window 24's array. -/
theorem end_v32 (c : Dev nD) :
    Pipeline.afterTail₀ cfgs (dats m) 0 (V0 m) [hostOps1] c main_v32 = shapeCast S_ ((dats m 0 c).arrAt 24 cfg0.N) shapeCasts_S1x1_S_ := by
  unfold Pipeline.afterTail₀
  simp only [List.flatten_cons, List.flatten_nil, List.append_nil]
  refine (tail_v32 _).trans ?_
  exact congrArg (fun X => shapeCast S_ X shapeCasts_S1x1_S_)
    (Pipeline.withArrays_arr spec0 winFacts0.arr_inj c (V0 m c) (fun w => (dats m 0 c).arrAt w cfg0.N) 24)

/-- `main_v33` after the run is the reshape of window 25's array. -/
theorem end_v33 (c : Dev nD) :
    Pipeline.afterTail₀ cfgs (dats m) 0 (V0 m) [hostOps1] c main_v33 = shapeCast S_ ((dats m 0 c).arrAt 25 cfg0.N) shapeCasts_S1x1_S_ := by
  unfold Pipeline.afterTail₀
  simp only [List.flatten_cons, List.flatten_nil, List.append_nil]
  refine (tail_v33 _).trans ?_
  exact congrArg (fun X => shapeCast S_ X shapeCasts_S1x1_S_)
    (Pipeline.withArrays_arr spec0 winFacts0.arr_inj c (V0 m c) (fun w => (dats m 0 c).arrAt w cfg0.N) 25)

/-- `main_v34` after the run is the reshape of window 23's array. -/
theorem end_v34 (c : Dev nD) :
    Pipeline.afterTail₀ cfgs (dats m) 0 (V0 m) [hostOps1] c main_v34 = shapeCast S16384 ((dats m 0 c).arrAt 23 cfg0.N) shapeCasts_S32x512x1_S16384 := by
  unfold Pipeline.afterTail₀
  simp only [List.flatten_cons, List.flatten_nil, List.append_nil]
  refine (tail_v34 _).trans ?_
  exact congrArg (fun X => shapeCast S16384 X shapeCasts_S32x512x1_S16384)
    (Pipeline.withArrays_arr spec0 winFacts0.arr_inj c (V0 m c) (fun w => (dats m 0 c).arrAt w cfg0.N) 23)

/-- `main_v35` after the run is the reshape of window 22's array. -/
theorem end_v35 (c : Dev nD) :
    Pipeline.afterTail₀ cfgs (dats m) 0 (V0 m) [hostOps1] c main_v35 = shapeCast S16384x1024 ((dats m 0 c).arrAt 22 cfg0.N) shapeCasts_S32x512x1024_S16384x1024 := by
  unfold Pipeline.afterTail₀
  simp only [List.flatten_cons, List.flatten_nil, List.append_nil]
  refine (tail_v35 _).trans ?_
  exact congrArg (fun X => shapeCast S16384x1024 X shapeCasts_S32x512x1024_S16384x1024)
    (Pipeline.withArrays_arr spec0 winFacts0.arr_inj c (V0 m c) (fun w => (dats m 0 c).arrAt w cfg0.N) 22)

/-- The result `loss` after the run. -/
theorem res_loss (c : Dev nD) (h : NumArgs (kArgs m c)) (r : PUnit × MemSt nD τ sig (Elt Ideal))
    (hr : Pipeline.FramePost cfgs (dats m) 0 (Pipeline.afterTail₀ cfgs (dats m) 0 (V0 m) [hostOps1]) r) :
    r.2.mem ((c.tc : Thread nD τ).loc main_v32) = w_v192 (kArgs m c) :=
  ((hr c).2 main_v32 (Pipeline.mem_restRefs_of main_v32 (by decide) (by decide))).trans ((end_v32 m c).trans ((congrArg (fun X => shapeCast S_ X shapeCasts_S1x1_S_) (arr_24 m c h)).trans (cell_cast (w_v192 (kArgs m c)) _)))

/-- The result `quantised` after the run. -/
theorem res_quantised (c : Dev nD) (h : NumArgs (kArgs m c)) (r : PUnit × MemSt nD τ sig (Elt Ideal))
    (hr : Pipeline.FramePost cfgs (dats m) 0 (Pipeline.afterTail₀ cfgs (dats m) 0 (V0 m) [hostOps1]) r) :
    r.2.mem ((c.tc : Thread nD τ).loc main_v31_1) = w_v194 (kArgs m c) :=
  ((hr c).1 21).trans (arr_21 m c h)

/-- The result `perplexity` after the run. -/
theorem res_perplexity (c : Dev nD) (r : PUnit × MemSt nD τ sig (Elt Ideal))
    (hr : Pipeline.FramePost cfgs (dats m) 0 (Pipeline.afterTail₀ cfgs (dats m) 0 (V0 m) [hostOps1]) r) :
    r.2.mem ((c.tc : Thread nD τ).loc main_v33) = w_v204 (kArgs m c) :=
  ((hr c).2 main_v33 (Pipeline.mem_restRefs_of main_v33 (by decide) (by decide))).trans ((end_v33 m c).trans ((congrArg (fun X => shapeCast S_ X shapeCasts_S1x1_S_) (arr_25 m c)).trans (cell_cast (w_v204 (kArgs m c)) _)))

/-- The result `continuous` after the run. -/
theorem res_continuous (c : Dev nD) (r : PUnit × MemSt nD τ sig (Elt Ideal))
    (hr : Pipeline.FramePost cfgs (dats m) 0 (Pipeline.afterTail₀ cfgs (dats m) 0 (V0 m) [hostOps1]) r) :
    r.2.mem ((c.tc : Thread nD τ).loc main_v31_0) = w_v163 (kArgs m c) :=
  ((hr c).1 20).trans (arr_20 m c)

/-- The result `encodings` after the run. -/
theorem res_encodings (c : Dev nD) (r : PUnit × MemSt nD τ sig (Elt Ideal))
    (hr : Pipeline.FramePost cfgs (dats m) 0 (Pipeline.afterTail₀ cfgs (dats m) 0 (V0 m) [hostOps1]) r) :
    r.2.mem ((c.tc : Thread nD τ).loc main_v35) = w_v180 (kArgs m c) :=
  ((hr c).2 main_v35 (Pipeline.mem_restRefs_of main_v35 (by decide) (by decide))).trans ((end_v35 m c).trans ((congrArg (fun X => shapeCast S16384x1024 X shapeCasts_S32x512x1024_S16384x1024) (arr_22 m c)).trans (enc_cast (kArgs m c) _)))

/-- The result `indices` after the run. -/
theorem res_indices (c : Dev nD) (r : PUnit × MemSt nD τ sig (Elt Ideal))
    (hr : Pipeline.FramePost cfgs (dats m) 0 (Pipeline.afterTail₀ cfgs (dats m) 0 (V0 m) [hostOps1]) r) :
    r.2.mem ((c.tc : Thread nD τ).loc main_v34) = w_v179 (kArgs m c) :=
  ((hr c).2 main_v34 (Pipeline.mem_restRefs_of main_v34 (by decide) (by decide))).trans ((end_v34 m c).trans ((congrArg (fun X => shapeCast S16384 X shapeCasts_S32x512x1_S16384) (arr_23 m c)).trans (idx_cast (kArgs m c) _)))

/-- The run ends with the six results at the reference's values of the argument arrays. -/
theorem results (ρ : Dev nD → PrngReg) (h : ∀ c, NumArgs (kArgs m c)) : θ_run defs (onTc (τ := τ) main) ⟨m, fun _ => 0, ρ⟩ (fun r => ∀ c : Dev nD,
      r.2.mem ((c.tc : Thread nD τ).loc main_v32) = w_v192 (kArgs m c)
      ∧ r.2.mem ((c.tc : Thread nD τ).loc main_v31_1) = w_v194 (kArgs m c)
      ∧ r.2.mem ((c.tc : Thread nD τ).loc main_v33) = w_v204 (kArgs m c)
      ∧ r.2.mem ((c.tc : Thread nD τ).loc main_v31_0) = w_v163 (kArgs m c)
      ∧ r.2.mem ((c.tc : Thread nD τ).loc main_v35) = w_v180 (kArgs m c)
      ∧ r.2.mem ((c.tc : Thread nD τ).loc main_v34) = w_v179 (kArgs m c)) :=
  (θ_run defs _ _).mono (fun r hr c => ⟨res_loss m c (h c) r hr, res_quantised m c (h c) r hr, res_perplexity m c r hr, res_continuous m c r hr, res_encodings m c r hr, res_indices m c r hr⟩) (run_main m ρ)

end Cert.KernelIdeal.Body
-- ==== Proof.RAt.lean ====
module

public import proofs.«01_k».proof.Proof.RRun
public import proofs.«01_k».proof.Proof.RVals

@[expose] public section

set_option maxRecDepth 65536

noncomputable section

namespace Cert.ReferenceIdeal.Body

open Idealize.ShloMosaic Idealize.SL.Sem Idealize.ShloMosaic.StableHlo Cert.ReferenceIdeal.Facts₀

variable (V : Valuation τ sig (Elt Ideal))

/-- The argument arrays in a valuation. -/
def argsOf : Args where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  a15 := V (Proc.devRef .tc main_arg15)
  a16 := V (Proc.devRef .tc main_arg16)
  a17 := V (Proc.devRef .tc main_arg17)

/-- `main_arg0` at the end of the line. -/
theorem e_arg0 : after opsR V (Proc.devRef .tc main_arg0) = w_arg0 (argsOf V) := after_arg V (by decide +kernel)
/-- `main_arg1` at the end of the line. -/
theorem e_arg1 : after opsR V (Proc.devRef .tc main_arg1) = w_arg1 (argsOf V) := after_arg V (by decide +kernel)
/-- `main_arg2` at the end of the line. -/
theorem e_arg2 : after opsR V (Proc.devRef .tc main_arg2) = w_arg2 (argsOf V) := after_arg V (by decide +kernel)
/-- `main_arg3` at the end of the line. -/
theorem e_arg3 : after opsR V (Proc.devRef .tc main_arg3) = w_arg3 (argsOf V) := after_arg V (by decide +kernel)
/-- `main_arg4` at the end of the line. -/
theorem e_arg4 : after opsR V (Proc.devRef .tc main_arg4) = w_arg4 (argsOf V) := after_arg V (by decide +kernel)
/-- `main_arg5` at the end of the line. -/
theorem e_arg5 : after opsR V (Proc.devRef .tc main_arg5) = w_arg5 (argsOf V) := after_arg V (by decide +kernel)
/-- `main_arg6` at the end of the line. -/
theorem e_arg6 : after opsR V (Proc.devRef .tc main_arg6) = w_arg6 (argsOf V) := after_arg V (by decide +kernel)
/-- `main_arg7` at the end of the line. -/
theorem e_arg7 : after opsR V (Proc.devRef .tc main_arg7) = w_arg7 (argsOf V) := after_arg V (by decide +kernel)
/-- `main_arg8` at the end of the line. -/
theorem e_arg8 : after opsR V (Proc.devRef .tc main_arg8) = w_arg8 (argsOf V) := after_arg V (by decide +kernel)
/-- `main_arg9` at the end of the line. -/
theorem e_arg9 : after opsR V (Proc.devRef .tc main_arg9) = w_arg9 (argsOf V) := after_arg V (by decide +kernel)
/-- `main_arg10` at the end of the line. -/
theorem e_arg10 : after opsR V (Proc.devRef .tc main_arg10) = w_arg10 (argsOf V) := after_arg V (by decide +kernel)
/-- `main_arg11` at the end of the line. -/
theorem e_arg11 : after opsR V (Proc.devRef .tc main_arg11) = w_arg11 (argsOf V) := after_arg V (by decide +kernel)
/-- `main_arg12` at the end of the line. -/
theorem e_arg12 : after opsR V (Proc.devRef .tc main_arg12) = w_arg12 (argsOf V) := after_arg V (by decide +kernel)
/-- `main_arg13` at the end of the line. -/
theorem e_arg13 : after opsR V (Proc.devRef .tc main_arg13) = w_arg13 (argsOf V) := after_arg V (by decide +kernel)
/-- `main_arg14` at the end of the line. -/
theorem e_arg14 : after opsR V (Proc.devRef .tc main_arg14) = w_arg14 (argsOf V) := after_arg V (by decide +kernel)
/-- `main_arg15` at the end of the line. -/
theorem e_arg15 : after opsR V (Proc.devRef .tc main_arg15) = w_arg15 (argsOf V) := after_arg V (by decide +kernel)
/-- `main_arg16` at the end of the line. -/
theorem e_arg16 : after opsR V (Proc.devRef .tc main_arg16) = w_arg16 (argsOf V) := after_arg V (by decide +kernel)
/-- `main_arg17` at the end of the line. -/
theorem e_arg17 : after opsR V (Proc.devRef .tc main_arg17) = w_arg17 (argsOf V) := after_arg V (by decide +kernel)
/-- `main_c` at the end of the line. -/
theorem e_c : after opsR V (Proc.devRef .tc main_c) = w_c (argsOf V) := by
  have h := nullary_at wrR_eq V 0 (y := main_c) rfl (by decide +kernel)
  exact h
/-- `main_call0_v0` at the end of the line. -/
theorem e_call0_v0 : after opsR V (Proc.devRef .tc main_call0_v0) = w_call0_v0 (argsOf V) := by
  have h := unary_at wrR_eq V 1 (x := main_c) (y := main_call0_v0) rfl (by decide +kernel) (by decide +kernel) (e_c V)
  exact h
/-- `main_v0` at the end of the line. -/
theorem e_v0 : after opsR V (Proc.devRef .tc main_v0) = w_v0 (argsOf V) := by
  have h := binary_at wrR_eq V 2 (a := main_arg0) (b := main_call0_v0) (y := main_v0) rfl (by decide +kernel) (by decide +kernel) (by decide +kernel) (e_arg0 V) (e_call0_v0 V)
  exact h
/-- `main_v1` at the end of the line. -/
theorem e_v1 : after opsR V (Proc.devRef .tc main_v1) = w_v1 (argsOf V) := by
  have h := unary_at wrR_eq V 3 (x := main_v0) (y := main_v1) rfl (by decide +kernel) (by decide +kernel) (e_v0 V)
  exact h
/-- `main_v2` at the end of the line. -/
theorem e_v2 : after opsR V (Proc.devRef .tc main_v2) = w_v2 (argsOf V) := by
  have h := unary_at wrR_eq V 4 (x := main_arg1) (y := main_v2) rfl (by decide +kernel) (by decide +kernel) (e_arg1 V)
  exact h
/-- `main_v3` at the end of the line. -/
theorem e_v3 : after opsR V (Proc.devRef .tc main_v3) = w_v3 (argsOf V) := by
  have h := reshape_at wrR_eq V 5 (x := main_v2) (y := main_v3) rfl (by decide +kernel) (by decide +kernel) (e_v2 V)
  exact h
/-- `main_v4` at the end of the line. -/
theorem e_v4 : after opsR V (Proc.devRef .tc main_v4) = w_v4 (argsOf V) := by
  have h := binary_at wrR_eq V 6 (a := main_v3) (b := main_v1) (y := main_v4) rfl (by decide +kernel) (by decide +kernel) (by decide +kernel) (e_v3 V) (e_v1 V)
  exact h
/-- `main_v5` at the end of the line. -/
theorem e_v5 : after opsR V (Proc.devRef .tc main_v5) = w_v5 (argsOf V) := by
  have h := unary_at wrR_eq V 7 (x := main_v4) (y := main_v5) rfl (by decide +kernel) (by decide +kernel) (e_v4 V)
  exact h
/-- `main_cst` at the end of the line. -/
theorem e_cst : after opsR V (Proc.devRef .tc main_cst) = w_cst (argsOf V) := by
  have h := nullary_at wrR_eq V 8 (y := main_cst) rfl (by decide +kernel)
  exact h
/-- `main_v6` at the end of the line. -/
theorem e_v6 : after opsR V (Proc.devRef .tc main_v6) = w_v6 (argsOf V) := by
  have h := unary_at wrR_eq V 9 (x := main_cst) (y := main_v6) rfl (by decide +kernel) (by decide +kernel) (e_cst V)
  exact h
/-- `main_v7` at the end of the line. -/
theorem e_v7 : after opsR V (Proc.devRef .tc main_v7) = w_v7 (argsOf V) := by
  have h := binary_at wrR_eq V 10 (a := main_v6) (b := main_v5) (y := main_v7) rfl (by decide +kernel) (by decide +kernel) (by decide +kernel) (e_v6 V) (e_v5 V)
  exact h
/-- `main_v8` at the end of the line. -/
theorem e_v8 : after opsR V (Proc.devRef .tc main_v8) = w_v8 (argsOf V) := by
  have h := unary_at wrR_eq V 11 (x := main_v0) (y := main_v8) rfl (by decide +kernel) (by decide +kernel) (e_v0 V)
  exact h
/-- `main_v9` at the end of the line. -/
theorem e_v9 : after opsR V (Proc.devRef .tc main_v9) = w_v9 (argsOf V) := by
  have h := unary_at wrR_eq V 12 (x := main_arg1) (y := main_v9) rfl (by decide +kernel) (by decide +kernel) (e_arg1 V)
  exact h
/-- `main_v10` at the end of the line. -/
theorem e_v10 : after opsR V (Proc.devRef .tc main_v10) = w_v10 (argsOf V) := by
  have h := reshape_at wrR_eq V 13 (x := main_v9) (y := main_v10) rfl (by decide +kernel) (by decide +kernel) (e_v9 V)
  exact h
/-- `main_v11` at the end of the line. -/
theorem e_v11 : after opsR V (Proc.devRef .tc main_v11) = w_v11 (argsOf V) := by
  have h := binary_at wrR_eq V 14 (a := main_v10) (b := main_v8) (y := main_v11) rfl (by decide +kernel) (by decide +kernel) (by decide +kernel) (e_v10 V) (e_v8 V)
  exact h
/-- `main_v12` at the end of the line. -/
theorem e_v12 : after opsR V (Proc.devRef .tc main_v12) = w_v12 (argsOf V) := by
  have h := unary_at wrR_eq V 15 (x := main_v11) (y := main_v12) rfl (by decide +kernel) (by decide +kernel) (e_v11 V)
  exact h
/-- `main_v13` at the end of the line. -/
theorem e_v13 : after opsR V (Proc.devRef .tc main_v13) = w_v13 (argsOf V) := by
  have h := binary_at wrR_eq V 16 (a := main_v7) (b := main_v12) (y := main_v13) rfl (by decide +kernel) (by decide +kernel) (by decide +kernel) (e_v7 V) (e_v12 V)
  exact h
/-- `main_v14` at the end of the line. -/
theorem e_v14 : after opsR V (Proc.devRef .tc main_v14) = w_v14 (argsOf V) := by
  have h := unary_at wrR_eq V 17 (x := main_v0) (y := main_v14) rfl (by decide +kernel) (by decide +kernel) (e_v0 V)
  exact h
/-- `main_v15` at the end of the line. -/
theorem e_v15 : after opsR V (Proc.devRef .tc main_v15) = w_v15 (argsOf V) := by
  have h := unary_at wrR_eq V 18 (x := main_arg1) (y := main_v15) rfl (by decide +kernel) (by decide +kernel) (e_arg1 V)
  exact h
/-- `main_v16` at the end of the line. -/
theorem e_v16 : after opsR V (Proc.devRef .tc main_v16) = w_v16 (argsOf V) := by
  have h := reshape_at wrR_eq V 19 (x := main_v15) (y := main_v16) rfl (by decide +kernel) (by decide +kernel) (e_v15 V)
  exact h
/-- `main_v17` at the end of the line. -/
theorem e_v17 : after opsR V (Proc.devRef .tc main_v17) = w_v17 (argsOf V) := by
  have h := binary_at wrR_eq V 20 (a := main_v16) (b := main_v14) (y := main_v17) rfl (by decide +kernel) (by decide +kernel) (by decide +kernel) (e_v16 V) (e_v14 V)
  exact h
/-- `main_v18` at the end of the line. -/
theorem e_v18 : after opsR V (Proc.devRef .tc main_v18) = w_v18 (argsOf V) := by
  have h := unary_at wrR_eq V 21 (x := main_v17) (y := main_v18) rfl (by decide +kernel) (by decide +kernel) (e_v17 V)
  exact h
/-- `main_v19` at the end of the line. -/
theorem e_v19 : after opsR V (Proc.devRef .tc main_v19) = w_v19 (argsOf V) := by
  have h := binary_at wrR_eq V 22 (a := main_v13) (b := main_v18) (y := main_v19) rfl (by decide +kernel) (by decide +kernel) (by decide +kernel) (e_v13 V) (e_v18 V)
  exact h
/-- `main_v20` at the end of the line. -/
theorem e_v20 : after opsR V (Proc.devRef .tc main_v20) = w_v20 (argsOf V) := by
  have h := unary_at wrR_eq V 23 (x := main_v0) (y := main_v20) rfl (by decide +kernel) (by decide +kernel) (e_v0 V)
  exact h
/-- `main_v21` at the end of the line. -/
theorem e_v21 : after opsR V (Proc.devRef .tc main_v21) = w_v21 (argsOf V) := by
  have h := unary_at wrR_eq V 24 (x := main_arg1) (y := main_v21) rfl (by decide +kernel) (by decide +kernel) (e_arg1 V)
  exact h
/-- `main_v22` at the end of the line. -/
theorem e_v22 : after opsR V (Proc.devRef .tc main_v22) = w_v22 (argsOf V) := by
  have h := reshape_at wrR_eq V 25 (x := main_v21) (y := main_v22) rfl (by decide +kernel) (by decide +kernel) (e_v21 V)
  exact h
/-- `main_v23` at the end of the line. -/
theorem e_v23 : after opsR V (Proc.devRef .tc main_v23) = w_v23 (argsOf V) := by
  have h := binary_at wrR_eq V 26 (a := main_v22) (b := main_v20) (y := main_v23) rfl (by decide +kernel) (by decide +kernel) (by decide +kernel) (e_v22 V) (e_v20 V)
  exact h
/-- `main_v24` at the end of the line. -/
theorem e_v24 : after opsR V (Proc.devRef .tc main_v24) = w_v24 (argsOf V) := by
  have h := unary_at wrR_eq V 27 (x := main_v23) (y := main_v24) rfl (by decide +kernel) (by decide +kernel) (e_v23 V)
  exact h
/-- `main_v25` at the end of the line. -/
theorem e_v25 : after opsR V (Proc.devRef .tc main_v25) = w_v25 (argsOf V) := by
  have h := binary_at wrR_eq V 28 (a := main_v19) (b := main_v24) (y := main_v25) rfl (by decide +kernel) (by decide +kernel) (by decide +kernel) (e_v19 V) (e_v24 V)
  exact h
/-- `main_v26` at the end of the line. -/
theorem e_v26 : after opsR V (Proc.devRef .tc main_v26) = w_v26 (argsOf V) := by
  have h := unary_at wrR_eq V 29 (x := main_arg2) (y := main_v26) rfl (by decide +kernel) (by decide +kernel) (e_arg2 V)
  exact h
/-- `main_v27` at the end of the line. -/
theorem e_v27 : after opsR V (Proc.devRef .tc main_v27) = w_v27 (argsOf V) := by
  have h := unary_at wrR_eq V 30 (x := main_v26) (y := main_v27) rfl (by decide +kernel) (by decide +kernel) (e_v26 V)
  exact h
/-- `main_v28` at the end of the line. -/
theorem e_v28 : after opsR V (Proc.devRef .tc main_v28) = w_v28 (argsOf V) := by
  have h := binary_at wrR_eq V 31 (a := main_v25) (b := main_v27) (y := main_v28) rfl (by decide +kernel) (by decide +kernel) (by decide +kernel) (e_v25 V) (e_v27 V)
  exact h
/-- `main_call1_cst` at the end of the line. -/
theorem e_call1_cst : after opsR V (Proc.devRef .tc main_call1_cst) = w_call1_cst (argsOf V) := by
  have h := nullary_at wrR_eq V 32 (y := main_call1_cst) rfl (by decide +kernel)
  exact h
/-- `main_call1_v0` at the end of the line. -/
theorem e_call1_v0 : after opsR V (Proc.devRef .tc main_call1_v0) = w_call1_v0 (argsOf V) := by
  have h := unary_at wrR_eq V 33 (x := main_call1_cst) (y := main_call1_v0) rfl (by decide +kernel) (by decide +kernel) (e_call1_cst V)
  exact h
/-- `main_v29` at the end of the line. -/
theorem e_v29 : after opsR V (Proc.devRef .tc main_v29) = w_v29 (argsOf V) := by
  have h := binary_at wrR_eq V 34 (a := main_v28) (b := main_call1_v0) (y := main_v29) rfl (by decide +kernel) (by decide +kernel) (by decide +kernel) (e_v28 V) (e_call1_v0 V)
  exact h
/-- `main_c_0` at the end of the line. -/
theorem e_c_0 : after opsR V (Proc.devRef .tc main_c_0) = w_c_0 (argsOf V) := by
  have h := nullary_at wrR_eq V 35 (y := main_c_0) rfl (by decide +kernel)
  exact h
/-- `main_call2_v0` at the end of the line. -/
theorem e_call2_v0 : after opsR V (Proc.devRef .tc main_call2_v0) = w_call2_v0 (argsOf V) := by
  have h := unary_at wrR_eq V 36 (x := main_c_0) (y := main_call2_v0) rfl (by decide +kernel) (by decide +kernel) (e_c_0 V)
  exact h
/-- `main_v30` at the end of the line. -/
theorem e_v30 : after opsR V (Proc.devRef .tc main_v30) = w_v30 (argsOf V) := by
  have h := binary_at wrR_eq V 37 (a := main_v29) (b := main_call2_v0) (y := main_v30) rfl (by decide +kernel) (by decide +kernel) (by decide +kernel) (e_v29 V) (e_call2_v0 V)
  exact h
/-- `main_v31` at the end of the line. -/
theorem e_v31 : after opsR V (Proc.devRef .tc main_v31) = w_v31 (argsOf V) := by
  have h := unary_at wrR_eq V 38 (x := main_v30) (y := main_v31) rfl (by decide +kernel) (by decide +kernel) (e_v30 V)
  exact h
/-- `main_v32` at the end of the line. -/
theorem e_v32 : after opsR V (Proc.devRef .tc main_v32) = w_v32 (argsOf V) := by
  have h := unary_at wrR_eq V 39 (x := main_arg3) (y := main_v32) rfl (by decide +kernel) (by decide +kernel) (e_arg3 V)
  exact h
/-- `main_v33` at the end of the line. -/
theorem e_v33 : after opsR V (Proc.devRef .tc main_v33) = w_v33 (argsOf V) := by
  have h := reshape_at wrR_eq V 40 (x := main_v32) (y := main_v33) rfl (by decide +kernel) (by decide +kernel) (e_v32 V)
  exact h
/-- `main_v34` at the end of the line. -/
theorem e_v34 : after opsR V (Proc.devRef .tc main_v34) = w_v34 (argsOf V) := by
  have h := binary_at wrR_eq V 41 (a := main_v33) (b := main_v31) (y := main_v34) rfl (by decide +kernel) (by decide +kernel) (by decide +kernel) (e_v33 V) (e_v31 V)
  exact h
/-- `main_v35` at the end of the line. -/
theorem e_v35 : after opsR V (Proc.devRef .tc main_v35) = w_v35 (argsOf V) := by
  have h := unary_at wrR_eq V 42 (x := main_v34) (y := main_v35) rfl (by decide +kernel) (by decide +kernel) (e_v34 V)
  exact h
/-- `main_cst_1` at the end of the line. -/
theorem e_cst_1 : after opsR V (Proc.devRef .tc main_cst_1) = w_cst_1 (argsOf V) := by
  have h := nullary_at wrR_eq V 43 (y := main_cst_1) rfl (by decide +kernel)
  exact h
/-- `main_v36` at the end of the line. -/
theorem e_v36 : after opsR V (Proc.devRef .tc main_v36) = w_v36 (argsOf V) := by
  have h := unary_at wrR_eq V 44 (x := main_cst_1) (y := main_v36) rfl (by decide +kernel) (by decide +kernel) (e_cst_1 V)
  exact h
/-- `main_v37` at the end of the line. -/
theorem e_v37 : after opsR V (Proc.devRef .tc main_v37) = w_v37 (argsOf V) := by
  have h := binary_at wrR_eq V 45 (a := main_v36) (b := main_v35) (y := main_v37) rfl (by decide +kernel) (by decide +kernel) (by decide +kernel) (e_v36 V) (e_v35 V)
  exact h
/-- `main_v38` at the end of the line. -/
theorem e_v38 : after opsR V (Proc.devRef .tc main_v38) = w_v38 (argsOf V) := by
  have h := unary_at wrR_eq V 46 (x := main_v30) (y := main_v38) rfl (by decide +kernel) (by decide +kernel) (e_v30 V)
  exact h
/-- `main_v39` at the end of the line. -/
theorem e_v39 : after opsR V (Proc.devRef .tc main_v39) = w_v39 (argsOf V) := by
  have h := unary_at wrR_eq V 47 (x := main_arg3) (y := main_v39) rfl (by decide +kernel) (by decide +kernel) (e_arg3 V)
  exact h
/-- `main_v40` at the end of the line. -/
theorem e_v40 : after opsR V (Proc.devRef .tc main_v40) = w_v40 (argsOf V) := by
  have h := reshape_at wrR_eq V 48 (x := main_v39) (y := main_v40) rfl (by decide +kernel) (by decide +kernel) (e_v39 V)
  exact h
/-- `main_v41` at the end of the line. -/
theorem e_v41 : after opsR V (Proc.devRef .tc main_v41) = w_v41 (argsOf V) := by
  have h := binary_at wrR_eq V 49 (a := main_v40) (b := main_v38) (y := main_v41) rfl (by decide +kernel) (by decide +kernel) (by decide +kernel) (e_v40 V) (e_v38 V)
  exact h
/-- `main_v42` at the end of the line. -/
theorem e_v42 : after opsR V (Proc.devRef .tc main_v42) = w_v42 (argsOf V) := by
  have h := unary_at wrR_eq V 50 (x := main_v41) (y := main_v42) rfl (by decide +kernel) (by decide +kernel) (e_v41 V)
  exact h
/-- `main_v43` at the end of the line. -/
theorem e_v43 : after opsR V (Proc.devRef .tc main_v43) = w_v43 (argsOf V) := by
  have h := binary_at wrR_eq V 51 (a := main_v37) (b := main_v42) (y := main_v43) rfl (by decide +kernel) (by decide +kernel) (by decide +kernel) (e_v37 V) (e_v42 V)
  exact h
/-- `main_v44` at the end of the line. -/
theorem e_v44 : after opsR V (Proc.devRef .tc main_v44) = w_v44 (argsOf V) := by
  have h := unary_at wrR_eq V 52 (x := main_v30) (y := main_v44) rfl (by decide +kernel) (by decide +kernel) (e_v30 V)
  exact h
/-- `main_v45` at the end of the line. -/
theorem e_v45 : after opsR V (Proc.devRef .tc main_v45) = w_v45 (argsOf V) := by
  have h := unary_at wrR_eq V 53 (x := main_arg3) (y := main_v45) rfl (by decide +kernel) (by decide +kernel) (e_arg3 V)
  exact h
/-- `main_v46` at the end of the line. -/
theorem e_v46 : after opsR V (Proc.devRef .tc main_v46) = w_v46 (argsOf V) := by
  have h := reshape_at wrR_eq V 54 (x := main_v45) (y := main_v46) rfl (by decide +kernel) (by decide +kernel) (e_v45 V)
  exact h
/-- `main_v47` at the end of the line. -/
theorem e_v47 : after opsR V (Proc.devRef .tc main_v47) = w_v47 (argsOf V) := by
  have h := binary_at wrR_eq V 55 (a := main_v46) (b := main_v44) (y := main_v47) rfl (by decide +kernel) (by decide +kernel) (by decide +kernel) (e_v46 V) (e_v44 V)
  exact h
/-- `main_v48` at the end of the line. -/
theorem e_v48 : after opsR V (Proc.devRef .tc main_v48) = w_v48 (argsOf V) := by
  have h := unary_at wrR_eq V 56 (x := main_v47) (y := main_v48) rfl (by decide +kernel) (by decide +kernel) (e_v47 V)
  exact h
/-- `main_v49` at the end of the line. -/
theorem e_v49 : after opsR V (Proc.devRef .tc main_v49) = w_v49 (argsOf V) := by
  have h := binary_at wrR_eq V 57 (a := main_v43) (b := main_v48) (y := main_v49) rfl (by decide +kernel) (by decide +kernel) (by decide +kernel) (e_v43 V) (e_v48 V)
  exact h
/-- `main_v50` at the end of the line. -/
theorem e_v50 : after opsR V (Proc.devRef .tc main_v50) = w_v50 (argsOf V) := by
  have h := unary_at wrR_eq V 58 (x := main_v30) (y := main_v50) rfl (by decide +kernel) (by decide +kernel) (e_v30 V)
  exact h
/-- `main_v51` at the end of the line. -/
theorem e_v51 : after opsR V (Proc.devRef .tc main_v51) = w_v51 (argsOf V) := by
  have h := unary_at wrR_eq V 59 (x := main_arg3) (y := main_v51) rfl (by decide +kernel) (by decide +kernel) (e_arg3 V)
  exact h
/-- `main_v52` at the end of the line. -/
theorem e_v52 : after opsR V (Proc.devRef .tc main_v52) = w_v52 (argsOf V) := by
  have h := reshape_at wrR_eq V 60 (x := main_v51) (y := main_v52) rfl (by decide +kernel) (by decide +kernel) (e_v51 V)
  exact h
/-- `main_v53` at the end of the line. -/
theorem e_v53 : after opsR V (Proc.devRef .tc main_v53) = w_v53 (argsOf V) := by
  have h := binary_at wrR_eq V 61 (a := main_v52) (b := main_v50) (y := main_v53) rfl (by decide +kernel) (by decide +kernel) (by decide +kernel) (e_v52 V) (e_v50 V)
  exact h
/-- `main_v54` at the end of the line. -/
theorem e_v54 : after opsR V (Proc.devRef .tc main_v54) = w_v54 (argsOf V) := by
  have h := unary_at wrR_eq V 62 (x := main_v53) (y := main_v54) rfl (by decide +kernel) (by decide +kernel) (e_v53 V)
  exact h
/-- `main_v55` at the end of the line. -/
theorem e_v55 : after opsR V (Proc.devRef .tc main_v55) = w_v55 (argsOf V) := by
  have h := binary_at wrR_eq V 63 (a := main_v49) (b := main_v54) (y := main_v55) rfl (by decide +kernel) (by decide +kernel) (by decide +kernel) (e_v49 V) (e_v54 V)
  exact h
/-- `main_v56` at the end of the line. -/
theorem e_v56 : after opsR V (Proc.devRef .tc main_v56) = w_v56 (argsOf V) := by
  have h := unary_at wrR_eq V 64 (x := main_arg4) (y := main_v56) rfl (by decide +kernel) (by decide +kernel) (e_arg4 V)
  exact h
/-- `main_v57` at the end of the line. -/
theorem e_v57 : after opsR V (Proc.devRef .tc main_v57) = w_v57 (argsOf V) := by
  have h := unary_at wrR_eq V 65 (x := main_v56) (y := main_v57) rfl (by decide +kernel) (by decide +kernel) (e_v56 V)
  exact h
/-- `main_v58` at the end of the line. -/
theorem e_v58 : after opsR V (Proc.devRef .tc main_v58) = w_v58 (argsOf V) := by
  have h := binary_at wrR_eq V 66 (a := main_v55) (b := main_v57) (y := main_v58) rfl (by decide +kernel) (by decide +kernel) (by decide +kernel) (e_v55 V) (e_v57 V)
  exact h
/-- `main_call3_cst` at the end of the line. -/
theorem e_call3_cst : after opsR V (Proc.devRef .tc main_call3_cst) = w_call3_cst (argsOf V) := by
  have h := nullary_at wrR_eq V 67 (y := main_call3_cst) rfl (by decide +kernel)
  exact h
/-- `main_call3_v0` at the end of the line. -/
theorem e_call3_v0 : after opsR V (Proc.devRef .tc main_call3_v0) = w_call3_v0 (argsOf V) := by
  have h := unary_at wrR_eq V 68 (x := main_call3_cst) (y := main_call3_v0) rfl (by decide +kernel) (by decide +kernel) (e_call3_cst V)
  exact h
/-- `main_v59` at the end of the line. -/
theorem e_v59 : after opsR V (Proc.devRef .tc main_v59) = w_v59 (argsOf V) := by
  have h := binary_at wrR_eq V 69 (a := main_v58) (b := main_call3_v0) (y := main_v59) rfl (by decide +kernel) (by decide +kernel) (by decide +kernel) (e_v58 V) (e_call3_v0 V)
  exact h
/-- `main_c_2` at the end of the line. -/
theorem e_c_2 : after opsR V (Proc.devRef .tc main_c_2) = w_c_2 (argsOf V) := by
  have h := nullary_at wrR_eq V 70 (y := main_c_2) rfl (by decide +kernel)
  exact h
/-- `main_call4_v0` at the end of the line. -/
theorem e_call4_v0 : after opsR V (Proc.devRef .tc main_call4_v0) = w_call4_v0 (argsOf V) := by
  have h := unary_at wrR_eq V 71 (x := main_c_2) (y := main_call4_v0) rfl (by decide +kernel) (by decide +kernel) (e_c_2 V)
  exact h
/-- `main_v60` at the end of the line. -/
theorem e_v60 : after opsR V (Proc.devRef .tc main_v60) = w_v60 (argsOf V) := by
  have h := binary_at wrR_eq V 72 (a := main_v59) (b := main_call4_v0) (y := main_v60) rfl (by decide +kernel) (by decide +kernel) (by decide +kernel) (e_v59 V) (e_call4_v0 V)
  exact h
/-- `main_v61` at the end of the line. -/
theorem e_v61 : after opsR V (Proc.devRef .tc main_v61) = w_v61 (argsOf V) := by
  have h := unary_at wrR_eq V 73 (x := main_v60) (y := main_v61) rfl (by decide +kernel) (by decide +kernel) (e_v60 V)
  exact h
/-- `main_v62` at the end of the line. -/
theorem e_v62 : after opsR V (Proc.devRef .tc main_v62) = w_v62 (argsOf V) := by
  have h := unary_at wrR_eq V 74 (x := main_arg5) (y := main_v62) rfl (by decide +kernel) (by decide +kernel) (e_arg5 V)
  exact h
/-- `main_v63` at the end of the line. -/
theorem e_v63 : after opsR V (Proc.devRef .tc main_v63) = w_v63 (argsOf V) := by
  have h := reshape_at wrR_eq V 75 (x := main_v62) (y := main_v63) rfl (by decide +kernel) (by decide +kernel) (e_v62 V)
  exact h
/-- `main_v64` at the end of the line. -/
theorem e_v64 : after opsR V (Proc.devRef .tc main_v64) = w_v64 (argsOf V) := by
  have h := binary_at wrR_eq V 76 (a := main_v63) (b := main_v61) (y := main_v64) rfl (by decide +kernel) (by decide +kernel) (by decide +kernel) (e_v63 V) (e_v61 V)
  exact h
/-- `main_v65` at the end of the line. -/
theorem e_v65 : after opsR V (Proc.devRef .tc main_v65) = w_v65 (argsOf V) := by
  have h := unary_at wrR_eq V 77 (x := main_v64) (y := main_v65) rfl (by decide +kernel) (by decide +kernel) (e_v64 V)
  exact h
/-- `main_cst_3` at the end of the line. -/
theorem e_cst_3 : after opsR V (Proc.devRef .tc main_cst_3) = w_cst_3 (argsOf V) := by
  have h := nullary_at wrR_eq V 78 (y := main_cst_3) rfl (by decide +kernel)
  exact h
/-- `main_v66` at the end of the line. -/
theorem e_v66 : after opsR V (Proc.devRef .tc main_v66) = w_v66 (argsOf V) := by
  have h := unary_at wrR_eq V 79 (x := main_cst_3) (y := main_v66) rfl (by decide +kernel) (by decide +kernel) (e_cst_3 V)
  exact h
/-- `main_v67` at the end of the line. -/
theorem e_v67 : after opsR V (Proc.devRef .tc main_v67) = w_v67 (argsOf V) := by
  have h := binary_at wrR_eq V 80 (a := main_v66) (b := main_v65) (y := main_v67) rfl (by decide +kernel) (by decide +kernel) (by decide +kernel) (e_v66 V) (e_v65 V)
  exact h
/-- `main_v68` at the end of the line. -/
theorem e_v68 : after opsR V (Proc.devRef .tc main_v68) = w_v68 (argsOf V) := by
  have h := unary_at wrR_eq V 81 (x := main_v60) (y := main_v68) rfl (by decide +kernel) (by decide +kernel) (e_v60 V)
  exact h
/-- `main_v69` at the end of the line. -/
theorem e_v69 : after opsR V (Proc.devRef .tc main_v69) = w_v69 (argsOf V) := by
  have h := unary_at wrR_eq V 82 (x := main_arg5) (y := main_v69) rfl (by decide +kernel) (by decide +kernel) (e_arg5 V)
  exact h
/-- `main_v70` at the end of the line. -/
theorem e_v70 : after opsR V (Proc.devRef .tc main_v70) = w_v70 (argsOf V) := by
  have h := reshape_at wrR_eq V 83 (x := main_v69) (y := main_v70) rfl (by decide +kernel) (by decide +kernel) (e_v69 V)
  exact h
/-- `main_v71` at the end of the line. -/
theorem e_v71 : after opsR V (Proc.devRef .tc main_v71) = w_v71 (argsOf V) := by
  have h := binary_at wrR_eq V 84 (a := main_v70) (b := main_v68) (y := main_v71) rfl (by decide +kernel) (by decide +kernel) (by decide +kernel) (e_v70 V) (e_v68 V)
  exact h
/-- `main_v72` at the end of the line. -/
theorem e_v72 : after opsR V (Proc.devRef .tc main_v72) = w_v72 (argsOf V) := by
  have h := unary_at wrR_eq V 85 (x := main_v71) (y := main_v72) rfl (by decide +kernel) (by decide +kernel) (e_v71 V)
  exact h
/-- `main_v73` at the end of the line. -/
theorem e_v73 : after opsR V (Proc.devRef .tc main_v73) = w_v73 (argsOf V) := by
  have h := binary_at wrR_eq V 86 (a := main_v67) (b := main_v72) (y := main_v73) rfl (by decide +kernel) (by decide +kernel) (by decide +kernel) (e_v67 V) (e_v72 V)
  exact h
/-- `main_v74` at the end of the line. -/
theorem e_v74 : after opsR V (Proc.devRef .tc main_v74) = w_v74 (argsOf V) := by
  have h := unary_at wrR_eq V 87 (x := main_v60) (y := main_v74) rfl (by decide +kernel) (by decide +kernel) (e_v60 V)
  exact h
/-- `main_v75` at the end of the line. -/
theorem e_v75 : after opsR V (Proc.devRef .tc main_v75) = w_v75 (argsOf V) := by
  have h := unary_at wrR_eq V 88 (x := main_arg5) (y := main_v75) rfl (by decide +kernel) (by decide +kernel) (e_arg5 V)
  exact h
/-- `main_v76` at the end of the line. -/
theorem e_v76 : after opsR V (Proc.devRef .tc main_v76) = w_v76 (argsOf V) := by
  have h := reshape_at wrR_eq V 89 (x := main_v75) (y := main_v76) rfl (by decide +kernel) (by decide +kernel) (e_v75 V)
  exact h
/-- `main_v77` at the end of the line. -/
theorem e_v77 : after opsR V (Proc.devRef .tc main_v77) = w_v77 (argsOf V) := by
  have h := binary_at wrR_eq V 90 (a := main_v76) (b := main_v74) (y := main_v77) rfl (by decide +kernel) (by decide +kernel) (by decide +kernel) (e_v76 V) (e_v74 V)
  exact h
/-- `main_v78` at the end of the line. -/
theorem e_v78 : after opsR V (Proc.devRef .tc main_v78) = w_v78 (argsOf V) := by
  have h := unary_at wrR_eq V 91 (x := main_v77) (y := main_v78) rfl (by decide +kernel) (by decide +kernel) (e_v77 V)
  exact h
/-- `main_v79` at the end of the line. -/
theorem e_v79 : after opsR V (Proc.devRef .tc main_v79) = w_v79 (argsOf V) := by
  have h := binary_at wrR_eq V 92 (a := main_v73) (b := main_v78) (y := main_v79) rfl (by decide +kernel) (by decide +kernel) (by decide +kernel) (e_v73 V) (e_v78 V)
  exact h
/-- `main_v80` at the end of the line. -/
theorem e_v80 : after opsR V (Proc.devRef .tc main_v80) = w_v80 (argsOf V) := by
  have h := unary_at wrR_eq V 93 (x := main_arg6) (y := main_v80) rfl (by decide +kernel) (by decide +kernel) (e_arg6 V)
  exact h
/-- `main_v81` at the end of the line. -/
theorem e_v81 : after opsR V (Proc.devRef .tc main_v81) = w_v81 (argsOf V) := by
  have h := unary_at wrR_eq V 94 (x := main_v80) (y := main_v81) rfl (by decide +kernel) (by decide +kernel) (e_v80 V)
  exact h
/-- `main_v82` at the end of the line. -/
theorem e_v82 : after opsR V (Proc.devRef .tc main_v82) = w_v82 (argsOf V) := by
  have h := binary_at wrR_eq V 95 (a := main_v79) (b := main_v81) (y := main_v82) rfl (by decide +kernel) (by decide +kernel) (by decide +kernel) (e_v79 V) (e_v81 V)
  exact h
/-- `main_call5_cst` at the end of the line. -/
theorem e_call5_cst : after opsR V (Proc.devRef .tc main_call5_cst) = w_call5_cst (argsOf V) := by
  have h := nullary_at wrR_eq V 96 (y := main_call5_cst) rfl (by decide +kernel)
  exact h
/-- `main_call5_v0` at the end of the line. -/
theorem e_call5_v0 : after opsR V (Proc.devRef .tc main_call5_v0) = w_call5_v0 (argsOf V) := by
  have h := unary_at wrR_eq V 97 (x := main_call5_cst) (y := main_call5_v0) rfl (by decide +kernel) (by decide +kernel) (e_call5_cst V)
  exact h
/-- `main_v83` at the end of the line. -/
theorem e_v83 : after opsR V (Proc.devRef .tc main_v83) = w_v83 (argsOf V) := by
  have h := binary_at wrR_eq V 98 (a := main_v82) (b := main_call5_v0) (y := main_v83) rfl (by decide +kernel) (by decide +kernel) (by decide +kernel) (e_v82 V) (e_call5_v0 V)
  exact h
/-- `main_c_4` at the end of the line. -/
theorem e_c_4 : after opsR V (Proc.devRef .tc main_c_4) = w_c_4 (argsOf V) := by
  have h := nullary_at wrR_eq V 99 (y := main_c_4) rfl (by decide +kernel)
  exact h
/-- `main_call6_v0` at the end of the line. -/
theorem e_call6_v0 : after opsR V (Proc.devRef .tc main_call6_v0) = w_call6_v0 (argsOf V) := by
  have h := unary_at wrR_eq V 100 (x := main_c_4) (y := main_call6_v0) rfl (by decide +kernel) (by decide +kernel) (e_c_4 V)
  exact h
/-- `main_v84` at the end of the line. -/
theorem e_v84 : after opsR V (Proc.devRef .tc main_v84) = w_v84 (argsOf V) := by
  have h := binary_at wrR_eq V 101 (a := main_v83) (b := main_call6_v0) (y := main_v84) rfl (by decide +kernel) (by decide +kernel) (by decide +kernel) (e_v83 V) (e_call6_v0 V)
  exact h
/-- `main_v85` at the end of the line. -/
theorem e_v85 : after opsR V (Proc.devRef .tc main_v85) = w_v85 (argsOf V) := by
  have h := unary_at wrR_eq V 102 (x := main_v84) (y := main_v85) rfl (by decide +kernel) (by decide +kernel) (e_v84 V)
  exact h
/-- `main_v86` at the end of the line. -/
theorem e_v86 : after opsR V (Proc.devRef .tc main_v86) = w_v86 (argsOf V) := by
  have h := unary_at wrR_eq V 103 (x := main_arg7) (y := main_v86) rfl (by decide +kernel) (by decide +kernel) (e_arg7 V)
  exact h
/-- `main_v87` at the end of the line. -/
theorem e_v87 : after opsR V (Proc.devRef .tc main_v87) = w_v87 (argsOf V) := by
  have h := reshape_at wrR_eq V 104 (x := main_v86) (y := main_v87) rfl (by decide +kernel) (by decide +kernel) (e_v86 V)
  exact h
/-- `main_v88` at the end of the line. -/
theorem e_v88 : after opsR V (Proc.devRef .tc main_v88) = w_v88 (argsOf V) := by
  have h := binary_at wrR_eq V 105 (a := main_v87) (b := main_v85) (y := main_v88) rfl (by decide +kernel) (by decide +kernel) (by decide +kernel) (e_v87 V) (e_v85 V)
  exact h
/-- `main_v89` at the end of the line. -/
theorem e_v89 : after opsR V (Proc.devRef .tc main_v89) = w_v89 (argsOf V) := by
  have h := unary_at wrR_eq V 106 (x := main_v88) (y := main_v89) rfl (by decide +kernel) (by decide +kernel) (e_v88 V)
  exact h
/-- `main_cst_5` at the end of the line. -/
theorem e_cst_5 : after opsR V (Proc.devRef .tc main_cst_5) = w_cst_5 (argsOf V) := by
  have h := nullary_at wrR_eq V 107 (y := main_cst_5) rfl (by decide +kernel)
  exact h
/-- `main_v90` at the end of the line. -/
theorem e_v90 : after opsR V (Proc.devRef .tc main_v90) = w_v90 (argsOf V) := by
  have h := unary_at wrR_eq V 108 (x := main_cst_5) (y := main_v90) rfl (by decide +kernel) (by decide +kernel) (e_cst_5 V)
  exact h
/-- `main_v91` at the end of the line. -/
theorem e_v91 : after opsR V (Proc.devRef .tc main_v91) = w_v91 (argsOf V) := by
  have h := binary_at wrR_eq V 109 (a := main_v90) (b := main_v89) (y := main_v91) rfl (by decide +kernel) (by decide +kernel) (by decide +kernel) (e_v90 V) (e_v89 V)
  exact h
/-- `main_v92` at the end of the line. -/
theorem e_v92 : after opsR V (Proc.devRef .tc main_v92) = w_v92 (argsOf V) := by
  have h := unary_at wrR_eq V 110 (x := main_v84) (y := main_v92) rfl (by decide +kernel) (by decide +kernel) (e_v84 V)
  exact h
/-- `main_v93` at the end of the line. -/
theorem e_v93 : after opsR V (Proc.devRef .tc main_v93) = w_v93 (argsOf V) := by
  have h := unary_at wrR_eq V 111 (x := main_arg7) (y := main_v93) rfl (by decide +kernel) (by decide +kernel) (e_arg7 V)
  exact h
/-- `main_v94` at the end of the line. -/
theorem e_v94 : after opsR V (Proc.devRef .tc main_v94) = w_v94 (argsOf V) := by
  have h := reshape_at wrR_eq V 112 (x := main_v93) (y := main_v94) rfl (by decide +kernel) (by decide +kernel) (e_v93 V)
  exact h
/-- `main_v95` at the end of the line. -/
theorem e_v95 : after opsR V (Proc.devRef .tc main_v95) = w_v95 (argsOf V) := by
  have h := binary_at wrR_eq V 113 (a := main_v94) (b := main_v92) (y := main_v95) rfl (by decide +kernel) (by decide +kernel) (by decide +kernel) (e_v94 V) (e_v92 V)
  exact h
/-- `main_v96` at the end of the line. -/
theorem e_v96 : after opsR V (Proc.devRef .tc main_v96) = w_v96 (argsOf V) := by
  have h := unary_at wrR_eq V 114 (x := main_v95) (y := main_v96) rfl (by decide +kernel) (by decide +kernel) (e_v95 V)
  exact h
/-- `main_v97` at the end of the line. -/
theorem e_v97 : after opsR V (Proc.devRef .tc main_v97) = w_v97 (argsOf V) := by
  have h := binary_at wrR_eq V 115 (a := main_v91) (b := main_v96) (y := main_v97) rfl (by decide +kernel) (by decide +kernel) (by decide +kernel) (e_v91 V) (e_v96 V)
  exact h
/-- `main_v98` at the end of the line. -/
theorem e_v98 : after opsR V (Proc.devRef .tc main_v98) = w_v98 (argsOf V) := by
  have h := unary_at wrR_eq V 116 (x := main_v84) (y := main_v98) rfl (by decide +kernel) (by decide +kernel) (e_v84 V)
  exact h
/-- `main_v99` at the end of the line. -/
theorem e_v99 : after opsR V (Proc.devRef .tc main_v99) = w_v99 (argsOf V) := by
  have h := unary_at wrR_eq V 117 (x := main_arg7) (y := main_v99) rfl (by decide +kernel) (by decide +kernel) (e_arg7 V)
  exact h
/-- `main_v100` at the end of the line. -/
theorem e_v100 : after opsR V (Proc.devRef .tc main_v100) = w_v100 (argsOf V) := by
  have h := reshape_at wrR_eq V 118 (x := main_v99) (y := main_v100) rfl (by decide +kernel) (by decide +kernel) (e_v99 V)
  exact h
/-- `main_v101` at the end of the line. -/
theorem e_v101 : after opsR V (Proc.devRef .tc main_v101) = w_v101 (argsOf V) := by
  have h := binary_at wrR_eq V 119 (a := main_v100) (b := main_v98) (y := main_v101) rfl (by decide +kernel) (by decide +kernel) (by decide +kernel) (e_v100 V) (e_v98 V)
  exact h
/-- `main_v102` at the end of the line. -/
theorem e_v102 : after opsR V (Proc.devRef .tc main_v102) = w_v102 (argsOf V) := by
  have h := unary_at wrR_eq V 120 (x := main_v101) (y := main_v102) rfl (by decide +kernel) (by decide +kernel) (e_v101 V)
  exact h
/-- `main_v103` at the end of the line. -/
theorem e_v103 : after opsR V (Proc.devRef .tc main_v103) = w_v103 (argsOf V) := by
  have h := binary_at wrR_eq V 121 (a := main_v97) (b := main_v102) (y := main_v103) rfl (by decide +kernel) (by decide +kernel) (by decide +kernel) (e_v97 V) (e_v102 V)
  exact h
/-- `main_v104` at the end of the line. -/
theorem e_v104 : after opsR V (Proc.devRef .tc main_v104) = w_v104 (argsOf V) := by
  have h := unary_at wrR_eq V 122 (x := main_arg8) (y := main_v104) rfl (by decide +kernel) (by decide +kernel) (e_arg8 V)
  exact h
/-- `main_v105` at the end of the line. -/
theorem e_v105 : after opsR V (Proc.devRef .tc main_v105) = w_v105 (argsOf V) := by
  have h := unary_at wrR_eq V 123 (x := main_v104) (y := main_v105) rfl (by decide +kernel) (by decide +kernel) (e_v104 V)
  exact h
/-- `main_v106` at the end of the line. -/
theorem e_v106 : after opsR V (Proc.devRef .tc main_v106) = w_v106 (argsOf V) := by
  have h := binary_at wrR_eq V 124 (a := main_v103) (b := main_v105) (y := main_v106) rfl (by decide +kernel) (by decide +kernel) (by decide +kernel) (e_v103 V) (e_v105 V)
  exact h
/-- `main_call7_cst` at the end of the line. -/
theorem e_call7_cst : after opsR V (Proc.devRef .tc main_call7_cst) = w_call7_cst (argsOf V) := by
  have h := nullary_at wrR_eq V 125 (y := main_call7_cst) rfl (by decide +kernel)
  exact h
/-- `main_call7_v0` at the end of the line. -/
theorem e_call7_v0 : after opsR V (Proc.devRef .tc main_call7_v0) = w_call7_v0 (argsOf V) := by
  have h := unary_at wrR_eq V 126 (x := main_call7_cst) (y := main_call7_v0) rfl (by decide +kernel) (by decide +kernel) (e_call7_cst V)
  exact h
/-- `main_v107` at the end of the line. -/
theorem e_v107 : after opsR V (Proc.devRef .tc main_v107) = w_v107 (argsOf V) := by
  have h := binary_at wrR_eq V 127 (a := main_v106) (b := main_call7_v0) (y := main_v107) rfl (by decide +kernel) (by decide +kernel) (by decide +kernel) (e_v106 V) (e_call7_v0 V)
  exact h
/-- `main_c_6` at the end of the line. -/
theorem e_c_6 : after opsR V (Proc.devRef .tc main_c_6) = w_c_6 (argsOf V) := by
  have h := nullary_at wrR_eq V 128 (y := main_c_6) rfl (by decide +kernel)
  exact h
/-- `main_call8_v0` at the end of the line. -/
theorem e_call8_v0 : after opsR V (Proc.devRef .tc main_call8_v0) = w_call8_v0 (argsOf V) := by
  have h := unary_at wrR_eq V 129 (x := main_c_6) (y := main_call8_v0) rfl (by decide +kernel) (by decide +kernel) (e_c_6 V)
  exact h
/-- `main_v108` at the end of the line. -/
theorem e_v108 : after opsR V (Proc.devRef .tc main_v108) = w_v108 (argsOf V) := by
  have h := binary_at wrR_eq V 130 (a := main_v107) (b := main_call8_v0) (y := main_v108) rfl (by decide +kernel) (by decide +kernel) (by decide +kernel) (e_v107 V) (e_call8_v0 V)
  exact h
/-- `main_v109` at the end of the line. -/
theorem e_v109 : after opsR V (Proc.devRef .tc main_v109) = w_v109 (argsOf V) := by
  have h := reshape_at wrR_eq V 131 (x := main_arg9) (y := main_v109) rfl (by decide +kernel) (by decide +kernel) (e_arg9 V)
  exact h
/-- `main_v110` at the end of the line. -/
theorem e_v110 : after opsR V (Proc.devRef .tc main_v110) = w_v110 (argsOf V) := by
  have h := binary_at wrR_eq V 132 (a := main_v109) (b := main_v108) (y := main_v110) rfl (by decide +kernel) (by decide +kernel) (by decide +kernel) (e_v109 V) (e_v108 V)
  exact h
/-- `main_v111` at the end of the line. -/
theorem e_v111 : after opsR V (Proc.devRef .tc main_v111) = w_v111 (argsOf V) := by
  have h := unary_at wrR_eq V 133 (x := main_v110) (y := main_v111) rfl (by decide +kernel) (by decide +kernel) (e_v110 V)
  exact h
/-- `main_cst_7` at the end of the line. -/
theorem e_cst_7 : after opsR V (Proc.devRef .tc main_cst_7) = w_cst_7 (argsOf V) := by
  have h := nullary_at wrR_eq V 134 (y := main_cst_7) rfl (by decide +kernel)
  exact h
/-- `main_v112` at the end of the line. -/
theorem e_v112 : after opsR V (Proc.devRef .tc main_v112) = w_v112 (argsOf V) := by
  have h := unary_at wrR_eq V 135 (x := main_cst_7) (y := main_v112) rfl (by decide +kernel) (by decide +kernel) (e_cst_7 V)
  exact h
/-- `main_v113` at the end of the line. -/
theorem e_v113 : after opsR V (Proc.devRef .tc main_v113) = w_v113 (argsOf V) := by
  have h := binary_at wrR_eq V 136 (a := main_v112) (b := main_v111) (y := main_v113) rfl (by decide +kernel) (by decide +kernel) (by decide +kernel) (e_v112 V) (e_v111 V)
  exact h
/-- `main_v114` at the end of the line. -/
theorem e_v114 : after opsR V (Proc.devRef .tc main_v114) = w_v114 (argsOf V) := by
  have h := unary_at wrR_eq V 137 (x := main_arg10) (y := main_v114) rfl (by decide +kernel) (by decide +kernel) (e_arg10 V)
  exact h
/-- `main_v115` at the end of the line. -/
theorem e_v115 : after opsR V (Proc.devRef .tc main_v115) = w_v115 (argsOf V) := by
  have h := unary_at wrR_eq V 138 (x := main_v114) (y := main_v115) rfl (by decide +kernel) (by decide +kernel) (e_v114 V)
  exact h
/-- `main_v116` at the end of the line. -/
theorem e_v116 : after opsR V (Proc.devRef .tc main_v116) = w_v116 (argsOf V) := by
  have h := binary_at wrR_eq V 139 (a := main_v113) (b := main_v115) (y := main_v116) rfl (by decide +kernel) (by decide +kernel) (by decide +kernel) (e_v113 V) (e_v115 V)
  exact h
/-- `main_v117` at the end of the line. -/
theorem e_v117 : after opsR V (Proc.devRef .tc main_v117) = w_v117 (argsOf V) := by
  have h := binary_at wrR_eq V 140 (a := main_v82) (b := main_v116) (y := main_v117) rfl (by decide +kernel) (by decide +kernel) (by decide +kernel) (e_v82 V) (e_v116 V)
  exact h
/-- `main_call9_cst` at the end of the line. -/
theorem e_call9_cst : after opsR V (Proc.devRef .tc main_call9_cst) = w_call9_cst (argsOf V) := by
  have h := nullary_at wrR_eq V 141 (y := main_call9_cst) rfl (by decide +kernel)
  exact h
/-- `main_call9_v0` at the end of the line. -/
theorem e_call9_v0 : after opsR V (Proc.devRef .tc main_call9_v0) = w_call9_v0 (argsOf V) := by
  have h := unary_at wrR_eq V 142 (x := main_call9_cst) (y := main_call9_v0) rfl (by decide +kernel) (by decide +kernel) (e_call9_cst V)
  exact h
/-- `main_v118` at the end of the line. -/
theorem e_v118 : after opsR V (Proc.devRef .tc main_v118) = w_v118 (argsOf V) := by
  have h := binary_at wrR_eq V 143 (a := main_v117) (b := main_call9_v0) (y := main_v118) rfl (by decide +kernel) (by decide +kernel) (by decide +kernel) (e_v117 V) (e_call9_v0 V)
  exact h
/-- `main_c_8` at the end of the line. -/
theorem e_c_8 : after opsR V (Proc.devRef .tc main_c_8) = w_c_8 (argsOf V) := by
  have h := nullary_at wrR_eq V 144 (y := main_c_8) rfl (by decide +kernel)
  exact h
/-- `main_call10_v0` at the end of the line. -/
theorem e_call10_v0 : after opsR V (Proc.devRef .tc main_call10_v0) = w_call10_v0 (argsOf V) := by
  have h := unary_at wrR_eq V 145 (x := main_c_8) (y := main_call10_v0) rfl (by decide +kernel) (by decide +kernel) (e_c_8 V)
  exact h
/-- `main_v119` at the end of the line. -/
theorem e_v119 : after opsR V (Proc.devRef .tc main_v119) = w_v119 (argsOf V) := by
  have h := binary_at wrR_eq V 146 (a := main_v118) (b := main_call10_v0) (y := main_v119) rfl (by decide +kernel) (by decide +kernel) (by decide +kernel) (e_v118 V) (e_call10_v0 V)
  exact h
/-- `main_v120` at the end of the line. -/
theorem e_v120 : after opsR V (Proc.devRef .tc main_v120) = w_v120 (argsOf V) := by
  have h := unary_at wrR_eq V 147 (x := main_v119) (y := main_v120) rfl (by decide +kernel) (by decide +kernel) (e_v119 V)
  exact h
/-- `main_v121` at the end of the line. -/
theorem e_v121 : after opsR V (Proc.devRef .tc main_v121) = w_v121 (argsOf V) := by
  have h := unary_at wrR_eq V 148 (x := main_arg11) (y := main_v121) rfl (by decide +kernel) (by decide +kernel) (e_arg11 V)
  exact h
/-- `main_v122` at the end of the line. -/
theorem e_v122 : after opsR V (Proc.devRef .tc main_v122) = w_v122 (argsOf V) := by
  have h := reshape_at wrR_eq V 149 (x := main_v121) (y := main_v122) rfl (by decide +kernel) (by decide +kernel) (e_v121 V)
  exact h
/-- `main_v123` at the end of the line. -/
theorem e_v123 : after opsR V (Proc.devRef .tc main_v123) = w_v123 (argsOf V) := by
  have h := binary_at wrR_eq V 150 (a := main_v122) (b := main_v120) (y := main_v123) rfl (by decide +kernel) (by decide +kernel) (by decide +kernel) (e_v122 V) (e_v120 V)
  exact h
/-- `main_v124` at the end of the line. -/
theorem e_v124 : after opsR V (Proc.devRef .tc main_v124) = w_v124 (argsOf V) := by
  have h := unary_at wrR_eq V 151 (x := main_v123) (y := main_v124) rfl (by decide +kernel) (by decide +kernel) (e_v123 V)
  exact h
/-- `main_cst_9` at the end of the line. -/
theorem e_cst_9 : after opsR V (Proc.devRef .tc main_cst_9) = w_cst_9 (argsOf V) := by
  have h := nullary_at wrR_eq V 152 (y := main_cst_9) rfl (by decide +kernel)
  exact h
/-- `main_v125` at the end of the line. -/
theorem e_v125 : after opsR V (Proc.devRef .tc main_v125) = w_v125 (argsOf V) := by
  have h := unary_at wrR_eq V 153 (x := main_cst_9) (y := main_v125) rfl (by decide +kernel) (by decide +kernel) (e_cst_9 V)
  exact h
/-- `main_v126` at the end of the line. -/
theorem e_v126 : after opsR V (Proc.devRef .tc main_v126) = w_v126 (argsOf V) := by
  have h := binary_at wrR_eq V 154 (a := main_v125) (b := main_v124) (y := main_v126) rfl (by decide +kernel) (by decide +kernel) (by decide +kernel) (e_v125 V) (e_v124 V)
  exact h
/-- `main_v127` at the end of the line. -/
theorem e_v127 : after opsR V (Proc.devRef .tc main_v127) = w_v127 (argsOf V) := by
  have h := unary_at wrR_eq V 155 (x := main_v119) (y := main_v127) rfl (by decide +kernel) (by decide +kernel) (e_v119 V)
  exact h
/-- `main_v128` at the end of the line. -/
theorem e_v128 : after opsR V (Proc.devRef .tc main_v128) = w_v128 (argsOf V) := by
  have h := unary_at wrR_eq V 156 (x := main_arg11) (y := main_v128) rfl (by decide +kernel) (by decide +kernel) (e_arg11 V)
  exact h
/-- `main_v129` at the end of the line. -/
theorem e_v129 : after opsR V (Proc.devRef .tc main_v129) = w_v129 (argsOf V) := by
  have h := reshape_at wrR_eq V 157 (x := main_v128) (y := main_v129) rfl (by decide +kernel) (by decide +kernel) (e_v128 V)
  exact h
/-- `main_v130` at the end of the line. -/
theorem e_v130 : after opsR V (Proc.devRef .tc main_v130) = w_v130 (argsOf V) := by
  have h := binary_at wrR_eq V 158 (a := main_v129) (b := main_v127) (y := main_v130) rfl (by decide +kernel) (by decide +kernel) (by decide +kernel) (e_v129 V) (e_v127 V)
  exact h
/-- `main_v131` at the end of the line. -/
theorem e_v131 : after opsR V (Proc.devRef .tc main_v131) = w_v131 (argsOf V) := by
  have h := unary_at wrR_eq V 159 (x := main_v130) (y := main_v131) rfl (by decide +kernel) (by decide +kernel) (e_v130 V)
  exact h
/-- `main_v132` at the end of the line. -/
theorem e_v132 : after opsR V (Proc.devRef .tc main_v132) = w_v132 (argsOf V) := by
  have h := binary_at wrR_eq V 160 (a := main_v126) (b := main_v131) (y := main_v132) rfl (by decide +kernel) (by decide +kernel) (by decide +kernel) (e_v126 V) (e_v131 V)
  exact h
/-- `main_v133` at the end of the line. -/
theorem e_v133 : after opsR V (Proc.devRef .tc main_v133) = w_v133 (argsOf V) := by
  have h := unary_at wrR_eq V 161 (x := main_v119) (y := main_v133) rfl (by decide +kernel) (by decide +kernel) (e_v119 V)
  exact h
/-- `main_v134` at the end of the line. -/
theorem e_v134 : after opsR V (Proc.devRef .tc main_v134) = w_v134 (argsOf V) := by
  have h := unary_at wrR_eq V 162 (x := main_arg11) (y := main_v134) rfl (by decide +kernel) (by decide +kernel) (e_arg11 V)
  exact h
/-- `main_v135` at the end of the line. -/
theorem e_v135 : after opsR V (Proc.devRef .tc main_v135) = w_v135 (argsOf V) := by
  have h := reshape_at wrR_eq V 163 (x := main_v134) (y := main_v135) rfl (by decide +kernel) (by decide +kernel) (e_v134 V)
  exact h
/-- `main_v136` at the end of the line. -/
theorem e_v136 : after opsR V (Proc.devRef .tc main_v136) = w_v136 (argsOf V) := by
  have h := binary_at wrR_eq V 164 (a := main_v135) (b := main_v133) (y := main_v136) rfl (by decide +kernel) (by decide +kernel) (by decide +kernel) (e_v135 V) (e_v133 V)
  exact h
/-- `main_v137` at the end of the line. -/
theorem e_v137 : after opsR V (Proc.devRef .tc main_v137) = w_v137 (argsOf V) := by
  have h := unary_at wrR_eq V 165 (x := main_v136) (y := main_v137) rfl (by decide +kernel) (by decide +kernel) (e_v136 V)
  exact h
/-- `main_v138` at the end of the line. -/
theorem e_v138 : after opsR V (Proc.devRef .tc main_v138) = w_v138 (argsOf V) := by
  have h := binary_at wrR_eq V 166 (a := main_v132) (b := main_v137) (y := main_v138) rfl (by decide +kernel) (by decide +kernel) (by decide +kernel) (e_v132 V) (e_v137 V)
  exact h
/-- `main_v139` at the end of the line. -/
theorem e_v139 : after opsR V (Proc.devRef .tc main_v139) = w_v139 (argsOf V) := by
  have h := unary_at wrR_eq V 167 (x := main_arg12) (y := main_v139) rfl (by decide +kernel) (by decide +kernel) (e_arg12 V)
  exact h
/-- `main_v140` at the end of the line. -/
theorem e_v140 : after opsR V (Proc.devRef .tc main_v140) = w_v140 (argsOf V) := by
  have h := unary_at wrR_eq V 168 (x := main_v139) (y := main_v140) rfl (by decide +kernel) (by decide +kernel) (e_v139 V)
  exact h
/-- `main_v141` at the end of the line. -/
theorem e_v141 : after opsR V (Proc.devRef .tc main_v141) = w_v141 (argsOf V) := by
  have h := binary_at wrR_eq V 169 (a := main_v138) (b := main_v140) (y := main_v141) rfl (by decide +kernel) (by decide +kernel) (by decide +kernel) (e_v138 V) (e_v140 V)
  exact h
/-- `main_call11_cst` at the end of the line. -/
theorem e_call11_cst : after opsR V (Proc.devRef .tc main_call11_cst) = w_call11_cst (argsOf V) := by
  have h := nullary_at wrR_eq V 170 (y := main_call11_cst) rfl (by decide +kernel)
  exact h
/-- `main_call11_v0` at the end of the line. -/
theorem e_call11_v0 : after opsR V (Proc.devRef .tc main_call11_v0) = w_call11_v0 (argsOf V) := by
  have h := unary_at wrR_eq V 171 (x := main_call11_cst) (y := main_call11_v0) rfl (by decide +kernel) (by decide +kernel) (e_call11_cst V)
  exact h
/-- `main_v142` at the end of the line. -/
theorem e_v142 : after opsR V (Proc.devRef .tc main_v142) = w_v142 (argsOf V) := by
  have h := binary_at wrR_eq V 172 (a := main_v141) (b := main_call11_v0) (y := main_v142) rfl (by decide +kernel) (by decide +kernel) (by decide +kernel) (e_v141 V) (e_call11_v0 V)
  exact h
/-- `main_c_10` at the end of the line. -/
theorem e_c_10 : after opsR V (Proc.devRef .tc main_c_10) = w_c_10 (argsOf V) := by
  have h := nullary_at wrR_eq V 173 (y := main_c_10) rfl (by decide +kernel)
  exact h
/-- `main_call12_v0` at the end of the line. -/
theorem e_call12_v0 : after opsR V (Proc.devRef .tc main_call12_v0) = w_call12_v0 (argsOf V) := by
  have h := unary_at wrR_eq V 174 (x := main_c_10) (y := main_call12_v0) rfl (by decide +kernel) (by decide +kernel) (e_c_10 V)
  exact h
/-- `main_v143` at the end of the line. -/
theorem e_v143 : after opsR V (Proc.devRef .tc main_v143) = w_v143 (argsOf V) := by
  have h := binary_at wrR_eq V 175 (a := main_v142) (b := main_call12_v0) (y := main_v143) rfl (by decide +kernel) (by decide +kernel) (by decide +kernel) (e_v142 V) (e_call12_v0 V)
  exact h
/-- `main_v144` at the end of the line. -/
theorem e_v144 : after opsR V (Proc.devRef .tc main_v144) = w_v144 (argsOf V) := by
  have h := reshape_at wrR_eq V 176 (x := main_arg13) (y := main_v144) rfl (by decide +kernel) (by decide +kernel) (e_arg13 V)
  exact h
/-- `main_v145` at the end of the line. -/
theorem e_v145 : after opsR V (Proc.devRef .tc main_v145) = w_v145 (argsOf V) := by
  have h := binary_at wrR_eq V 177 (a := main_v144) (b := main_v143) (y := main_v145) rfl (by decide +kernel) (by decide +kernel) (by decide +kernel) (e_v144 V) (e_v143 V)
  exact h
/-- `main_v146` at the end of the line. -/
theorem e_v146 : after opsR V (Proc.devRef .tc main_v146) = w_v146 (argsOf V) := by
  have h := unary_at wrR_eq V 178 (x := main_v145) (y := main_v146) rfl (by decide +kernel) (by decide +kernel) (e_v145 V)
  exact h
/-- `main_cst_11` at the end of the line. -/
theorem e_cst_11 : after opsR V (Proc.devRef .tc main_cst_11) = w_cst_11 (argsOf V) := by
  have h := nullary_at wrR_eq V 179 (y := main_cst_11) rfl (by decide +kernel)
  exact h
/-- `main_v147` at the end of the line. -/
theorem e_v147 : after opsR V (Proc.devRef .tc main_v147) = w_v147 (argsOf V) := by
  have h := unary_at wrR_eq V 180 (x := main_cst_11) (y := main_v147) rfl (by decide +kernel) (by decide +kernel) (e_cst_11 V)
  exact h
/-- `main_v148` at the end of the line. -/
theorem e_v148 : after opsR V (Proc.devRef .tc main_v148) = w_v148 (argsOf V) := by
  have h := binary_at wrR_eq V 181 (a := main_v147) (b := main_v146) (y := main_v148) rfl (by decide +kernel) (by decide +kernel) (by decide +kernel) (e_v147 V) (e_v146 V)
  exact h
/-- `main_v149` at the end of the line. -/
theorem e_v149 : after opsR V (Proc.devRef .tc main_v149) = w_v149 (argsOf V) := by
  have h := unary_at wrR_eq V 182 (x := main_arg14) (y := main_v149) rfl (by decide +kernel) (by decide +kernel) (e_arg14 V)
  exact h
/-- `main_v150` at the end of the line. -/
theorem e_v150 : after opsR V (Proc.devRef .tc main_v150) = w_v150 (argsOf V) := by
  have h := unary_at wrR_eq V 183 (x := main_v149) (y := main_v150) rfl (by decide +kernel) (by decide +kernel) (e_v149 V)
  exact h
/-- `main_v151` at the end of the line. -/
theorem e_v151 : after opsR V (Proc.devRef .tc main_v151) = w_v151 (argsOf V) := by
  have h := binary_at wrR_eq V 184 (a := main_v148) (b := main_v150) (y := main_v151) rfl (by decide +kernel) (by decide +kernel) (by decide +kernel) (e_v148 V) (e_v150 V)
  exact h
/-- `main_v152` at the end of the line. -/
theorem e_v152 : after opsR V (Proc.devRef .tc main_v152) = w_v152 (argsOf V) := by
  have h := binary_at wrR_eq V 185 (a := main_v117) (b := main_v151) (y := main_v152) rfl (by decide +kernel) (by decide +kernel) (by decide +kernel) (e_v117 V) (e_v151 V)
  exact h
/-- `main_call13_cst` at the end of the line. -/
theorem e_call13_cst : after opsR V (Proc.devRef .tc main_call13_cst) = w_call13_cst (argsOf V) := by
  have h := nullary_at wrR_eq V 186 (y := main_call13_cst) rfl (by decide +kernel)
  exact h
/-- `main_call13_v0` at the end of the line. -/
theorem e_call13_v0 : after opsR V (Proc.devRef .tc main_call13_v0) = w_call13_v0 (argsOf V) := by
  have h := unary_at wrR_eq V 187 (x := main_call13_cst) (y := main_call13_v0) rfl (by decide +kernel) (by decide +kernel) (e_call13_cst V)
  exact h
/-- `main_v153` at the end of the line. -/
theorem e_v153 : after opsR V (Proc.devRef .tc main_v153) = w_v153 (argsOf V) := by
  have h := binary_at wrR_eq V 188 (a := main_v152) (b := main_call13_v0) (y := main_v153) rfl (by decide +kernel) (by decide +kernel) (by decide +kernel) (e_v152 V) (e_call13_v0 V)
  exact h
/-- `main_c_12` at the end of the line. -/
theorem e_c_12 : after opsR V (Proc.devRef .tc main_c_12) = w_c_12 (argsOf V) := by
  have h := nullary_at wrR_eq V 189 (y := main_c_12) rfl (by decide +kernel)
  exact h
/-- `main_call14_v0` at the end of the line. -/
theorem e_call14_v0 : after opsR V (Proc.devRef .tc main_call14_v0) = w_call14_v0 (argsOf V) := by
  have h := unary_at wrR_eq V 190 (x := main_c_12) (y := main_call14_v0) rfl (by decide +kernel) (by decide +kernel) (e_c_12 V)
  exact h
/-- `main_v154` at the end of the line. -/
theorem e_v154 : after opsR V (Proc.devRef .tc main_v154) = w_v154 (argsOf V) := by
  have h := binary_at wrR_eq V 191 (a := main_v153) (b := main_call14_v0) (y := main_v154) rfl (by decide +kernel) (by decide +kernel) (by decide +kernel) (e_v153 V) (e_call14_v0 V)
  exact h
/-- `main_v155` at the end of the line. -/
theorem e_v155 : after opsR V (Proc.devRef .tc main_v155) = w_v155 (argsOf V) := by
  have h := reshape_at wrR_eq V 192 (x := main_arg15) (y := main_v155) rfl (by decide +kernel) (by decide +kernel) (e_arg15 V)
  exact h
/-- `main_v156` at the end of the line. -/
theorem e_v156 : after opsR V (Proc.devRef .tc main_v156) = w_v156 (argsOf V) := by
  have h := binary_at wrR_eq V 193 (a := main_v155) (b := main_v154) (y := main_v156) rfl (by decide +kernel) (by decide +kernel) (by decide +kernel) (e_v155 V) (e_v154 V)
  exact h
/-- `main_v157` at the end of the line. -/
theorem e_v157 : after opsR V (Proc.devRef .tc main_v157) = w_v157 (argsOf V) := by
  have h := unary_at wrR_eq V 194 (x := main_v156) (y := main_v157) rfl (by decide +kernel) (by decide +kernel) (e_v156 V)
  exact h
/-- `main_cst_13` at the end of the line. -/
theorem e_cst_13 : after opsR V (Proc.devRef .tc main_cst_13) = w_cst_13 (argsOf V) := by
  have h := nullary_at wrR_eq V 195 (y := main_cst_13) rfl (by decide +kernel)
  exact h
/-- `main_v158` at the end of the line. -/
theorem e_v158 : after opsR V (Proc.devRef .tc main_v158) = w_v158 (argsOf V) := by
  have h := unary_at wrR_eq V 196 (x := main_cst_13) (y := main_v158) rfl (by decide +kernel) (by decide +kernel) (e_cst_13 V)
  exact h
/-- `main_v159` at the end of the line. -/
theorem e_v159 : after opsR V (Proc.devRef .tc main_v159) = w_v159 (argsOf V) := by
  have h := binary_at wrR_eq V 197 (a := main_v158) (b := main_v157) (y := main_v159) rfl (by decide +kernel) (by decide +kernel) (by decide +kernel) (e_v158 V) (e_v157 V)
  exact h
/-- `main_v160` at the end of the line. -/
theorem e_v160 : after opsR V (Proc.devRef .tc main_v160) = w_v160 (argsOf V) := by
  have h := unary_at wrR_eq V 198 (x := main_arg16) (y := main_v160) rfl (by decide +kernel) (by decide +kernel) (e_arg16 V)
  exact h
/-- `main_v161` at the end of the line. -/
theorem e_v161 : after opsR V (Proc.devRef .tc main_v161) = w_v161 (argsOf V) := by
  have h := unary_at wrR_eq V 199 (x := main_v160) (y := main_v161) rfl (by decide +kernel) (by decide +kernel) (e_v160 V)
  exact h
/-- `main_v162` at the end of the line. -/
theorem e_v162 : after opsR V (Proc.devRef .tc main_v162) = w_v162 (argsOf V) := by
  have h := binary_at wrR_eq V 200 (a := main_v159) (b := main_v161) (y := main_v162) rfl (by decide +kernel) (by decide +kernel) (by decide +kernel) (e_v159 V) (e_v161 V)
  exact h
/-- `main_v163` at the end of the line. -/
theorem e_v163 : after opsR V (Proc.devRef .tc main_v163) = w_v163 (argsOf V) := by
  have h := unary_at wrR_eq V 201 (x := main_v162) (y := main_v163) rfl (by decide +kernel) (by decide +kernel) (e_v162 V)
  exact h
/-- `main_v164` at the end of the line. -/
theorem e_v164 : after opsR V (Proc.devRef .tc main_v164) = w_v164 (argsOf V) := by
  have h := reshape_at wrR_eq V 202 (x := main_v163) (y := main_v164) rfl (by decide +kernel) (by decide +kernel) (e_v163 V)
  exact h
/-- `main_v165` at the end of the line. -/
theorem e_v165 : after opsR V (Proc.devRef .tc main_v165) = w_v165 (argsOf V) := by
  have h := binary_at wrR_eq V 203 (a := main_v164) (b := main_v164) (y := main_v165) rfl (by decide +kernel) (by decide +kernel) (by decide +kernel) (e_v164 V) (e_v164 V)
  exact h
/-- `main_cst_14` at the end of the line. -/
theorem e_cst_14 : after opsR V (Proc.devRef .tc main_cst_14) = w_cst_14 (argsOf V) := by
  have h := nullary_at wrR_eq V 204 (y := main_cst_14) rfl (by decide +kernel)
  exact h
/-- `main_v166` at the end of the line. -/
theorem e_v166 : after opsR V (Proc.devRef .tc main_v166) = w_v166 (argsOf V) := by
  have h := binary_at wrR_eq V 205 (a := main_v165) (b := main_cst_14) (y := main_v166) rfl (by decide +kernel) (by decide +kernel) (by decide +kernel) (e_v165 V) (e_cst_14 V)
  exact h
/-- `main_v167` at the end of the line. -/
theorem e_v167 : after opsR V (Proc.devRef .tc main_v167) = w_v167 (argsOf V) := by
  have h := unary_at wrR_eq V 206 (x := main_v166) (y := main_v167) rfl (by decide +kernel) (by decide +kernel) (e_v166 V)
  exact h
/-- `main_v168` at the end of the line. -/
theorem e_v168 : after opsR V (Proc.devRef .tc main_v168) = w_v168 (argsOf V) := by
  have h := binary_at wrR_eq V 207 (a := main_arg17) (b := main_arg17) (y := main_v168) rfl (by decide +kernel) (by decide +kernel) (by decide +kernel) (e_arg17 V) (e_arg17 V)
  exact h
/-- `main_cst_15` at the end of the line. -/
theorem e_cst_15 : after opsR V (Proc.devRef .tc main_cst_15) = w_cst_15 (argsOf V) := by
  have h := nullary_at wrR_eq V 208 (y := main_cst_15) rfl (by decide +kernel)
  exact h
/-- `main_v169` at the end of the line. -/
theorem e_v169 : after opsR V (Proc.devRef .tc main_v169) = w_v169 (argsOf V) := by
  have h := binary_at wrR_eq V 209 (a := main_v168) (b := main_cst_15) (y := main_v169) rfl (by decide +kernel) (by decide +kernel) (by decide +kernel) (e_v168 V) (e_cst_15 V)
  exact h
/-- `main_v170` at the end of the line. -/
theorem e_v170 : after opsR V (Proc.devRef .tc main_v170) = w_v170 (argsOf V) := by
  have h := unary_at wrR_eq V 210 (x := main_v169) (y := main_v170) rfl (by decide +kernel) (by decide +kernel) (e_v169 V)
  exact h
/-- `main_v171` at the end of the line. -/
theorem e_v171 : after opsR V (Proc.devRef .tc main_v171) = w_v171 (argsOf V) := by
  have h := unary_at wrR_eq V 211 (x := main_v167) (y := main_v171) rfl (by decide +kernel) (by decide +kernel) (e_v167 V)
  exact h
/-- `main_v172` at the end of the line. -/
theorem e_v172 : after opsR V (Proc.devRef .tc main_v172) = w_v172 (argsOf V) := by
  have h := unary_at wrR_eq V 212 (x := main_v170) (y := main_v172) rfl (by decide +kernel) (by decide +kernel) (e_v170 V)
  exact h
/-- `main_v173` at the end of the line. -/
theorem e_v173 : after opsR V (Proc.devRef .tc main_v173) = w_v173 (argsOf V) := by
  have h := binary_at wrR_eq V 213 (a := main_v171) (b := main_v172) (y := main_v173) rfl (by decide +kernel) (by decide +kernel) (by decide +kernel) (e_v171 V) (e_v172 V)
  exact h
/-- `main_v174` at the end of the line. -/
theorem e_v174 : after opsR V (Proc.devRef .tc main_v174) = w_v174 (argsOf V) := by
  have h := unary_at wrR_eq V 214 (x := main_arg17) (y := main_v174) rfl (by decide +kernel) (by decide +kernel) (e_arg17 V)
  exact h
/-- `main_v175` at the end of the line. -/
theorem e_v175 : after opsR V (Proc.devRef .tc main_v175) = w_v175 (argsOf V) := by
  have h := binary_at wrR_eq V 215 (a := main_v164) (b := main_v174) (y := main_v175) rfl (by decide +kernel) (by decide +kernel) (by decide +kernel) (e_v164 V) (e_v174 V)
  exact h
/-- `main_cst_16` at the end of the line. -/
theorem e_cst_16 : after opsR V (Proc.devRef .tc main_cst_16) = w_cst_16 (argsOf V) := by
  have h := nullary_at wrR_eq V 216 (y := main_cst_16) rfl (by decide +kernel)
  exact h
/-- `main_v176` at the end of the line. -/
theorem e_v176 : after opsR V (Proc.devRef .tc main_v176) = w_v176 (argsOf V) := by
  have h := unary_at wrR_eq V 217 (x := main_cst_16) (y := main_v176) rfl (by decide +kernel) (by decide +kernel) (e_cst_16 V)
  exact h
/-- `main_v177` at the end of the line. -/
theorem e_v177 : after opsR V (Proc.devRef .tc main_v177) = w_v177 (argsOf V) := by
  have h := binary_at wrR_eq V 218 (a := main_v176) (b := main_v175) (y := main_v177) rfl (by decide +kernel) (by decide +kernel) (by decide +kernel) (e_v176 V) (e_v175 V)
  exact h
/-- `main_v178` at the end of the line. -/
theorem e_v178 : after opsR V (Proc.devRef .tc main_v178) = w_v178 (argsOf V) := by
  have h := binary_at wrR_eq V 219 (a := main_v173) (b := main_v177) (y := main_v178) rfl (by decide +kernel) (by decide +kernel) (by decide +kernel) (e_v173 V) (e_v177 V)
  exact h
/-- `main_call15_v0` at the end of the line. -/
theorem e_call15_v0 : after opsR V (Proc.devRef .tc main_call15_v0) = w_call15_v0 (argsOf V) := by
  have h := nullary_at wrR_eq V 220 (y := main_call15_v0) rfl (by decide +kernel)
  exact h
/-- `main_call15_cst` at the end of the line. -/
theorem e_call15_cst : after opsR V (Proc.devRef .tc main_call15_cst) = w_call15_cst (argsOf V) := by
  have h := nullary_at wrR_eq V 221 (y := main_call15_cst) rfl (by decide +kernel)
  exact h
/-- `main_call15_c` at the end of the line. -/
theorem e_call15_c : after opsR V (Proc.devRef .tc main_call15_c) = w_call15_c (argsOf V) := by
  have h := nullary_at wrR_eq V 222 (y := main_call15_c) rfl (by decide +kernel)
  exact h
/-- `main_call15_v1_0` at the end of the line. -/
theorem e_call15_v1_0 : after opsR V (Proc.devRef .tc main_call15_v1_0) = w_call15_v1_0 (argsOf V) := by
  have h := quaternary_at wrR_eq V 223 (a := main_v178) (b := main_call15_v0) (c := main_call15_cst) (e := main_call15_c) (y := main_call15_v1_0) rfl (by decide +kernel) (by decide +kernel) (by decide +kernel) (by decide +kernel) (by decide +kernel) (e_v178 V) (e_call15_v0 V) (e_call15_cst V) (e_call15_c V)
  exact h
/-- `main_v179` at the end of the line. -/
theorem e_v179 : after opsR V (Proc.devRef .tc main_v179) = w_v179 (argsOf V) := by
  have h := quaternary_at wrR_eq V 224 (a := main_v178) (b := main_call15_v0) (c := main_call15_cst) (e := main_call15_c) (y := main_v179) rfl (by decide +kernel) (by decide +kernel) (by decide +kernel) (by decide +kernel) (by decide +kernel) (e_v178 V) (e_call15_v0 V) (e_call15_cst V) (e_call15_c V)
  exact h
/-- `main_call16_v0` at the end of the line. -/
theorem e_call16_v0 : after opsR V (Proc.devRef .tc main_call16_v0) = w_call16_v0 (argsOf V) := by
  have h := unary_at wrR_eq V 225 (x := main_v179) (y := main_call16_v0) rfl (by decide +kernel) (by decide +kernel) (e_v179 V)
  exact h
/-- `main_call16_v1` at the end of the line. -/
theorem e_call16_v1 : after opsR V (Proc.devRef .tc main_call16_v1) = w_call16_v1 (argsOf V) := by
  have h := nullary_at wrR_eq V 226 (y := main_call16_v1) rfl (by decide +kernel)
  exact h
/-- `main_call16_v2` at the end of the line. -/
theorem e_call16_v2 : after opsR V (Proc.devRef .tc main_call16_v2) = w_call16_v2 (argsOf V) := by
  have h := unary_at wrR_eq V 227 (x := main_call16_v0) (y := main_call16_v2) rfl (by decide +kernel) (by decide +kernel) (e_call16_v0 V)
  exact h
/-- `main_call16_v3` at the end of the line. -/
theorem e_call16_v3 : after opsR V (Proc.devRef .tc main_call16_v3) = w_call16_v3 (argsOf V) := by
  have h := unary_at wrR_eq V 228 (x := main_call16_v1) (y := main_call16_v3) rfl (by decide +kernel) (by decide +kernel) (e_call16_v1 V)
  exact h
/-- `main_call16_v4` at the end of the line. -/
theorem e_call16_v4 : after opsR V (Proc.devRef .tc main_call16_v4) = w_call16_v4 (argsOf V) := by
  have h := binary_at wrR_eq V 229 (a := main_call16_v2) (b := main_call16_v3) (y := main_call16_v4) rfl (by decide +kernel) (by decide +kernel) (by decide +kernel) (e_call16_v2 V) (e_call16_v3 V)
  exact h
/-- `main_v180` at the end of the line. -/
theorem e_v180 : after opsR V (Proc.devRef .tc main_v180) = w_v180 (argsOf V) := by
  have h := unary_at wrR_eq V 230 (x := main_call16_v4) (y := main_v180) rfl (by decide +kernel) (by decide +kernel) (e_call16_v4 V)
  exact h
/-- `main_v181` at the end of the line. -/
theorem e_v181 : after opsR V (Proc.devRef .tc main_v181) = w_v181 (argsOf V) := by
  have h := binary_at wrR_eq V 231 (a := main_v180) (b := main_arg17) (y := main_v181) rfl (by decide +kernel) (by decide +kernel) (by decide +kernel) (e_v180 V) (e_arg17 V)
  exact h
/-- `main_v182` at the end of the line. -/
theorem e_v182 : after opsR V (Proc.devRef .tc main_v182) = w_v182 (argsOf V) := by
  have h := reshape_at wrR_eq V 232 (x := main_v181) (y := main_v182) rfl (by decide +kernel) (by decide +kernel) (e_v181 V)
  exact h
/-- `main_v183` at the end of the line. -/
theorem e_v183 : after opsR V (Proc.devRef .tc main_v183) = w_v183 (argsOf V) := by
  have h := binary_at wrR_eq V 233 (a := main_v182) (b := main_v163) (y := main_v183) rfl (by decide +kernel) (by decide +kernel) (by decide +kernel) (e_v182 V) (e_v163 V)
  exact h
/-- `main_v184` at the end of the line. -/
theorem e_v184 : after opsR V (Proc.devRef .tc main_v184) = w_v184 (argsOf V) := by
  have h := binary_at wrR_eq V 234 (a := main_v183) (b := main_v183) (y := main_v184) rfl (by decide +kernel) (by decide +kernel) (by decide +kernel) (e_v183 V) (e_v183 V)
  exact h
/-- `main_cst_17` at the end of the line. -/
theorem e_cst_17 : after opsR V (Proc.devRef .tc main_cst_17) = w_cst_17 (argsOf V) := by
  have h := nullary_at wrR_eq V 235 (y := main_cst_17) rfl (by decide +kernel)
  exact h
/-- `main_v185` at the end of the line. -/
theorem e_v185 : after opsR V (Proc.devRef .tc main_v185) = w_v185 (argsOf V) := by
  have h := binary_at wrR_eq V 236 (a := main_v184) (b := main_cst_17) (y := main_v185) rfl (by decide +kernel) (by decide +kernel) (by decide +kernel) (e_v184 V) (e_cst_17 V)
  exact h
/-- `main_cst_18` at the end of the line. -/
theorem e_cst_18 : after opsR V (Proc.devRef .tc main_cst_18) = w_cst_18 (argsOf V) := by
  have h := nullary_at wrR_eq V 237 (y := main_cst_18) rfl (by decide +kernel)
  exact h
/-- `main_v186` at the end of the line. -/
theorem e_v186 : after opsR V (Proc.devRef .tc main_v186) = w_v186 (argsOf V) := by
  have h := binary_at wrR_eq V 238 (a := main_v185) (b := main_cst_18) (y := main_v186) rfl (by decide +kernel) (by decide +kernel) (by decide +kernel) (e_v185 V) (e_cst_18 V)
  exact h
/-- `main_v187` at the end of the line. -/
theorem e_v187 : after opsR V (Proc.devRef .tc main_v187) = w_v187 (argsOf V) := by
  have h := binary_at wrR_eq V 239 (a := main_v182) (b := main_v163) (y := main_v187) rfl (by decide +kernel) (by decide +kernel) (by decide +kernel) (e_v182 V) (e_v163 V)
  exact h
/-- `main_v188` at the end of the line. -/
theorem e_v188 : after opsR V (Proc.devRef .tc main_v188) = w_v188 (argsOf V) := by
  have h := binary_at wrR_eq V 240 (a := main_v187) (b := main_v187) (y := main_v188) rfl (by decide +kernel) (by decide +kernel) (by decide +kernel) (e_v187 V) (e_v187 V)
  exact h
/-- `main_cst_19` at the end of the line. -/
theorem e_cst_19 : after opsR V (Proc.devRef .tc main_cst_19) = w_cst_19 (argsOf V) := by
  have h := nullary_at wrR_eq V 241 (y := main_cst_19) rfl (by decide +kernel)
  exact h
/-- `main_v189` at the end of the line. -/
theorem e_v189 : after opsR V (Proc.devRef .tc main_v189) = w_v189 (argsOf V) := by
  have h := binary_at wrR_eq V 242 (a := main_v188) (b := main_cst_19) (y := main_v189) rfl (by decide +kernel) (by decide +kernel) (by decide +kernel) (e_v188 V) (e_cst_19 V)
  exact h
/-- `main_cst_20` at the end of the line. -/
theorem e_cst_20 : after opsR V (Proc.devRef .tc main_cst_20) = w_cst_20 (argsOf V) := by
  have h := nullary_at wrR_eq V 243 (y := main_cst_20) rfl (by decide +kernel)
  exact h
/-- `main_v190` at the end of the line. -/
theorem e_v190 : after opsR V (Proc.devRef .tc main_v190) = w_v190 (argsOf V) := by
  have h := binary_at wrR_eq V 244 (a := main_v189) (b := main_cst_20) (y := main_v190) rfl (by decide +kernel) (by decide +kernel) (by decide +kernel) (e_v189 V) (e_cst_20 V)
  exact h
/-- `main_cst_21` at the end of the line. -/
theorem e_cst_21 : after opsR V (Proc.devRef .tc main_cst_21) = w_cst_21 (argsOf V) := by
  have h := nullary_at wrR_eq V 245 (y := main_cst_21) rfl (by decide +kernel)
  exact h
/-- `main_v191` at the end of the line. -/
theorem e_v191 : after opsR V (Proc.devRef .tc main_v191) = w_v191 (argsOf V) := by
  have h := binary_at wrR_eq V 246 (a := main_cst_21) (b := main_v190) (y := main_v191) rfl (by decide +kernel) (by decide +kernel) (by decide +kernel) (e_cst_21 V) (e_v190 V)
  exact h
/-- `main_v192` at the end of the line. -/
theorem e_v192 : after opsR V (Proc.devRef .tc main_v192) = w_v192 (argsOf V) := by
  have h := binary_at wrR_eq V 247 (a := main_v186) (b := main_v191) (y := main_v192) rfl (by decide +kernel) (by decide +kernel) (by decide +kernel) (e_v186 V) (e_v191 V)
  exact h
/-- `main_v193` at the end of the line. -/
theorem e_v193 : after opsR V (Proc.devRef .tc main_v193) = w_v193 (argsOf V) := by
  have h := binary_at wrR_eq V 248 (a := main_v182) (b := main_v163) (y := main_v193) rfl (by decide +kernel) (by decide +kernel) (by decide +kernel) (e_v182 V) (e_v163 V)
  exact h
/-- `main_v194` at the end of the line. -/
theorem e_v194 : after opsR V (Proc.devRef .tc main_v194) = w_v194 (argsOf V) := by
  have h := binary_at wrR_eq V 249 (a := main_v163) (b := main_v193) (y := main_v194) rfl (by decide +kernel) (by decide +kernel) (by decide +kernel) (e_v163 V) (e_v193 V)
  exact h
/-- `main_cst_22` at the end of the line. -/
theorem e_cst_22 : after opsR V (Proc.devRef .tc main_cst_22) = w_cst_22 (argsOf V) := by
  have h := nullary_at wrR_eq V 250 (y := main_cst_22) rfl (by decide +kernel)
  exact h
/-- `main_v195` at the end of the line. -/
theorem e_v195 : after opsR V (Proc.devRef .tc main_v195) = w_v195 (argsOf V) := by
  have h := binary_at wrR_eq V 251 (a := main_v180) (b := main_cst_22) (y := main_v195) rfl (by decide +kernel) (by decide +kernel) (by decide +kernel) (e_v180 V) (e_cst_22 V)
  exact h
/-- `main_cst_23` at the end of the line. -/
theorem e_cst_23 : after opsR V (Proc.devRef .tc main_cst_23) = w_cst_23 (argsOf V) := by
  have h := nullary_at wrR_eq V 252 (y := main_cst_23) rfl (by decide +kernel)
  exact h
/-- `main_v196` at the end of the line. -/
theorem e_v196 : after opsR V (Proc.devRef .tc main_v196) = w_v196 (argsOf V) := by
  have h := unary_at wrR_eq V 253 (x := main_cst_23) (y := main_v196) rfl (by decide +kernel) (by decide +kernel) (e_cst_23 V)
  exact h
/-- `main_v197` at the end of the line. -/
theorem e_v197 : after opsR V (Proc.devRef .tc main_v197) = w_v197 (argsOf V) := by
  have h := binary_at wrR_eq V 254 (a := main_v195) (b := main_v196) (y := main_v197) rfl (by decide +kernel) (by decide +kernel) (by decide +kernel) (e_v195 V) (e_v196 V)
  exact h
/-- `main_cst_24` at the end of the line. -/
theorem e_cst_24 : after opsR V (Proc.devRef .tc main_cst_24) = w_cst_24 (argsOf V) := by
  have h := nullary_at wrR_eq V 255 (y := main_cst_24) rfl (by decide +kernel)
  exact h
/-- `main_v198` at the end of the line. -/
theorem e_v198 : after opsR V (Proc.devRef .tc main_v198) = w_v198 (argsOf V) := by
  have h := unary_at wrR_eq V 256 (x := main_cst_24) (y := main_v198) rfl (by decide +kernel) (by decide +kernel) (e_cst_24 V)
  exact h
/-- `main_v199` at the end of the line. -/
theorem e_v199 : after opsR V (Proc.devRef .tc main_v199) = w_v199 (argsOf V) := by
  have h := binary_at wrR_eq V 257 (a := main_v197) (b := main_v198) (y := main_v199) rfl (by decide +kernel) (by decide +kernel) (by decide +kernel) (e_v197 V) (e_v198 V)
  exact h
/-- `main_v200` at the end of the line. -/
theorem e_v200 : after opsR V (Proc.devRef .tc main_v200) = w_v200 (argsOf V) := by
  have h := unary_at wrR_eq V 258 (x := main_v199) (y := main_v200) rfl (by decide +kernel) (by decide +kernel) (e_v199 V)
  exact h
/-- `main_v201` at the end of the line. -/
theorem e_v201 : after opsR V (Proc.devRef .tc main_v201) = w_v201 (argsOf V) := by
  have h := binary_at wrR_eq V 259 (a := main_v197) (b := main_v200) (y := main_v201) rfl (by decide +kernel) (by decide +kernel) (by decide +kernel) (e_v197 V) (e_v200 V)
  exact h
/-- `main_cst_25` at the end of the line. -/
theorem e_cst_25 : after opsR V (Proc.devRef .tc main_cst_25) = w_cst_25 (argsOf V) := by
  have h := nullary_at wrR_eq V 260 (y := main_cst_25) rfl (by decide +kernel)
  exact h
/-- `main_v202` at the end of the line. -/
theorem e_v202 : after opsR V (Proc.devRef .tc main_v202) = w_v202 (argsOf V) := by
  have h := binary_at wrR_eq V 261 (a := main_v201) (b := main_cst_25) (y := main_v202) rfl (by decide +kernel) (by decide +kernel) (by decide +kernel) (e_v201 V) (e_cst_25 V)
  exact h
/-- `main_v203` at the end of the line. -/
theorem e_v203 : after opsR V (Proc.devRef .tc main_v203) = w_v203 (argsOf V) := by
  have h := unary_at wrR_eq V 262 (x := main_v202) (y := main_v203) rfl (by decide +kernel) (by decide +kernel) (e_v202 V)
  exact h
/-- `main_v204` at the end of the line. -/
theorem e_v204 : after opsR V (Proc.devRef .tc main_v204) = w_v204 (argsOf V) := by
  have h := unary_at wrR_eq V 263 (x := main_v203) (y := main_v204) rfl (by decide +kernel) (by decide +kernel) (e_v203 V)
  exact h

end Cert.ReferenceIdeal.Body

end
-- ==== Proof.Alg.lean ====
module

public import proofs.«01_k».proof.Defs
public import proofs.«01_k».proof.Proof.PreNum
public import proofs.«01_k».proof.Proof.KVal
public import proofs.«01_k».proof.Proof.RAt
public import proofs.«01_k».proof.Proof.Gen.KernelIdeal
public import proofs.«01_k».proof.Proof.Gen.ReferenceIdeal

@[expose] public section

set_option maxRecDepth 16384

noncomputable section

namespace Cert.ReferenceIdeal.Body

open Cert.ReferenceIdeal Idealize.ShloMosaic Idealize.ShloMosaic.TcCoe Idealize.SL Idealize.SL.Sem Idealize.ShloMosaic.StableHlo

/-- The reference's run ends with its six results at the values of the arguments and its arguments unchanged. -/
theorem results (m : (ℓ : Loc nD τ sig) → Buf (Elt Ideal) ℓ) (ρ : Dev nD → PrngReg) (A : Dev nD → Args) (hA : ∀ d, argsOf (launchContents m d) = A d) :
    θ_run (defs (F := Ideal)) (onTc (τ := τ) (main (F := Ideal))) ⟨m, fun _ => 0, ρ⟩ (fun r => ∀ c : Dev nD,
      r.2.mem ((c.tc : Thread nD τ).loc main_v192) = w_v192 (A c)
      ∧ r.2.mem ((c.tc : Thread nD τ).loc main_v194) = w_v194 (A c)
      ∧ r.2.mem ((c.tc : Thread nD τ).loc main_v204) = w_v204 (A c)
      ∧ r.2.mem ((c.tc : Thread nD τ).loc main_v163) = w_v163 (A c)
      ∧ r.2.mem ((c.tc : Thread nD τ).loc main_v180) = w_v180 (A c)
      ∧ r.2.mem ((c.tc : Thread nD τ).loc main_v179) = w_v179 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine θ_run_mono (run m ρ) fun r h c => ?_
  rw [← hA c]
  exact ⟨(h c main_v192).trans (e_v192 (launchContents m c)), (h c main_v194).trans (e_v194 (launchContents m c)), (h c main_v204).trans (e_v204 (launchContents m c)), (h c main_v163).trans (e_v163 (launchContents m c)), (h c main_v180).trans (e_v180 (launchContents m c)), (h c main_v179).trans (e_v179 (launchContents m c)), (h c main_arg0).trans (after_arg _ (by decide +kernel)), (h c main_arg1).trans (after_arg _ (by decide +kernel)), (h c main_arg2).trans (after_arg _ (by decide +kernel)), (h c main_arg3).trans (after_arg _ (by decide +kernel)), (h c main_arg4).trans (after_arg _ (by decide +kernel)), (h c main_arg5).trans (after_arg _ (by decide +kernel)), (h c main_arg6).trans (after_arg _ (by decide +kernel)), (h c main_arg7).trans (after_arg _ (by decide +kernel)), (h c main_arg8).trans (after_arg _ (by decide +kernel)), (h c main_arg9).trans (after_arg _ (by decide +kernel)), (h c main_arg10).trans (after_arg _ (by decide +kernel)), (h c main_arg11).trans (after_arg _ (by decide +kernel)), (h c main_arg12).trans (after_arg _ (by decide +kernel)), (h c main_arg13).trans (after_arg _ (by decide +kernel)), (h c main_arg14).trans (after_arg _ (by decide +kernel)), (h c main_arg15).trans (after_arg _ (by decide +kernel)), (h c main_arg16).trans (after_arg _ (by decide +kernel)), (h c main_arg17).trans (after_arg _ (by decide +kernel))⟩

end Cert.ReferenceIdeal.Body

namespace Cert.Values

open Idealize.ShloMosaic Idealize.ShloMosaic.TcCoe Idealize.SL Idealize.SL.Sem
open Cert.KernelIdeal.Body (kArgs)
open Cert.ReferenceIdeal.Body (Args w_v163 w_v179 w_v180 w_v192 w_v194 w_v204)

/-- Argument arrays that agree give the same arguments. -/
theorem args_eq {A B : Args} (h0 : A.a0 = B.a0) (h1 : A.a1 = B.a1) (h2 : A.a2 = B.a2) (h3 : A.a3 = B.a3) (h4 : A.a4 = B.a4) (h5 : A.a5 = B.a5) (h6 : A.a6 = B.a6) (h7 : A.a7 = B.a7) (h8 : A.a8 = B.a8) (h9 : A.a9 = B.a9) (h10 : A.a10 = B.a10) (h11 : A.a11 = B.a11) (h12 : A.a12 = B.a12) (h13 : A.a13 = B.a13) (h14 : A.a14 = B.a14) (h15 : A.a15 = B.a15) (h16 : A.a16 = B.a16) (h17 : A.a17 = B.a17) : A = B := by
  cases A; cases B
  simp only at h0 h1 h2 h3 h4 h5 h6 h7 h8 h9 h10 h11 h12 h13 h14 h15 h16 h17
  subst h0 h1 h2 h3 h4 h5 h6 h7 h8 h9 h10 h11 h12 h13 h14 h15 h16 h17
  rfl

/-- The kernel and the reference end with equal results where the arguments are real numbers. -/
theorem algebraic : @Cert.algebraic_KernelIdeal_ReferenceIdeal_pre_finite Cert.KernelIdeal.Gen.facts Cert.ReferenceIdeal.Gen.facts Cert.Pre_finite.facts := by
  intro m g m' g' hpre hag
  have hA : ∀ d, Cert.ReferenceIdeal.Body.argsOf (StableHlo.launchContents m' d) = kArgs m d := fun d => by
    obtain ⟨e0, e1, e2, e3, e4, e5, e6, e7, e8, e9, e10, e11, e12, e13, e14, e15, e16, e17⟩ := hag d
    exact args_eq e0 e1 e2 e3 e4 e5 e6 e7 e8 e9 e10 e11 e12 e13 e14 e15 e16 e17
  refine ⟨fun c => w_v192 (kArgs m c), fun c => w_v194 (kArgs m c), fun c => w_v204 (kArgs m c), fun c => w_v163 (kArgs m c), fun c => w_v180 (kArgs m c), fun c => w_v179 (kArgs m c), ?_, ?_⟩
  · refine θ_run_mono (θ_run_and (Cert.KernelIdeal.Body.results m g (Cert.KernelIdeal.Body.numArgs m hpre)) (Cert.KernelIdeal.Body.unchanged m g)) fun r h c => ?_
    obtain ⟨h1, h2, h3, h4, h5, h6⟩ := h.1 c
    exact ⟨h1, h2, h3, h4, h5, h6, h.2 c⟩
  · exact Cert.ReferenceIdeal.Body.results m' g' (kArgs m) hA

end Cert.Values
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KRun
public import proofs.«01_k».proof.Proof.PRun
public import proofs.«01_k».proof.Proof.RFrame
public import proofs.«01_k».proof.Proof.Alg
public import Idealize.ShloMosaic.Adequacy
public import Idealize.ShloMosaic.Init

@[expose] public section

noncomputable section

namespace Cert.Proof

open Idealize.ShloMosaic Idealize.SL.Sem

/-- The frames of the three programs, the preservation claim, and that the kernel's six results equal the reference's
    where the arguments are real numbers. -/
theorem claim : Cert.Claim :=
  ⟨Cert.Kernel.Gen.facts, Cert.KernelIdeal.Gen.facts, Cert.ReferenceIdeal.Gen.facts, Cert.Pre_finite.facts,
    fun m ρ _ => Cert.Kernel.Body.frame m ρ, fun m ρ _ => Cert.KernelIdeal.Body.frame m ρ,
    fun m ρ _ => Cert.KernelIdeal.Body.frame m ρ, fun m ρ _ => Cert.ReferenceIdeal.Body.frame m ρ,
    fun m ρ _ => Cert.ReferenceIdeal.Body.frame m ρ, trivial, Cert.Values.algebraic⟩

end Cert.Proof

end
